-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_inputs_ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S8x1024x128 : Shape := ⟨3, ![8, 1024, 128]⟩
abbrev S3x3x192x1024 : Shape := ⟨4, ![3, 3, 192, 1024]⟩
abbrev S2x8 : Shape := ⟨2, ![2, 8]⟩
abbrev S18 : Shape := ⟨1, ![18]⟩
abbrev S1x1 : Shape := ⟨2, ![1, 1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S256x1024 : Shape := ⟨2, ![256, 1024]⟩
abbrev S192x1024 : Shape := ⟨2, ![192, 1024]⟩
abbrev S1x1x192x1024 : Shape := ⟨4, ![1, 1, 192, 1024]⟩
abbrev S1 : Shape := ⟨1, ![1]⟩
abbrev S128x1024 : Shape := ⟨2, ![128, 1024]⟩
abbrev S1x1x128x1024 : Shape := ⟨4, ![1, 1, 128, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S8x1024x128, .f32⟩
  | .local _ .vmem, ⟨6, _⟩ => ⟨S8x1024x128, .f32⟩
  | .local _ .vmem, ⟨7, _⟩ => ⟨S3x3x192x1024, .bf16⟩
  | .local _ .vmem, ⟨8, _⟩ => ⟨S3x3x192x1024, .bf16⟩
  | .local _ .vmem, ⟨9, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_1 : BitVec 32 := 0#32
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v4 : BitVec 32 := Scalar.addi v3 c0_i32
  let c0_i32_8 : BitVec 32 := 0#32
  ![0, 0, v4.toNat, 0]
def k0_dev1 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_137 : BitVec 32 := 1#32
  let v116 : BitVec 32 := Scalar.xori v2 c1_i32_137
  let c1_i32_139 : BitVec 32 := 1#32
  let v117 : BitVec 32 := Scalar.muli v116 c1_i32_139
  let v118 : BitVec 32 := Scalar.addi c0_i32_140 v117
  v118.toNat
def k0_dev2 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_141 : BitVec 32 := 3#32
  let v119 : BitVec 32 := Scalar.xori v2 c3_i32_141
  let c1_i32_143 : BitVec 32 := 1#32
  let v120 : BitVec 32 := Scalar.muli v119 c1_i32_143
  let v121 : BitVec 32 := Scalar.addi c0_i32_144 v120
  v121.toNat
def k0_dev3 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_145 : BitVec 32 := 4#32
  let v122 : BitVec 32 := Scalar.xori v2 c4_i32_145
  let c1_i32_147 : BitVec 32 := 1#32
  let v123 : BitVec 32 := Scalar.muli v122 c1_i32_147
  let v124 : BitVec 32 := Scalar.addi c0_i32_148 v123
  v124.toNat
def k0_off2 (d0 : Dev nD) (c0_i32_377 : BitVec 32) (c4_i32_364 : BitVec 32) : Fin 2 → Nat :=
  let c0_i32_378 : BitVec 32 := 0#32
  let v555 : BitVec 32 := Scalar.addi c0_i32_377 c0_i32_378
  let c1_i32_379 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_365 : BitVec 32 := 0#32
  let v529 : BitVec 1 := Scalar.cmpi .sgt v2 c0_i32_365
  let v530 : BitVec 32 := Scalar.extui v529
  let c0_i32_366 : BitVec 32 := 0#32
  let v531 : BitVec 1 := Scalar.cmpi .slt v2 c0_i32_366
  let v532 : BitVec 32 := Scalar.extui v531
  let v533 : BitVec 32 := Scalar.subi v530 v532
  let c0_i32_367 : BitVec 32 := 0#32
  let v534 : BitVec 1 := Scalar.cmpi .sgt c4_i32_364 c0_i32_367
  let v535 : BitVec 32 := Scalar.extui v534
  let c0_i32_368 : BitVec 32 := 0#32
  let v536 : BitVec 1 := Scalar.cmpi .slt c4_i32_364 c0_i32_368
  let v537 : BitVec 32 := Scalar.extui v536
  let v538 : BitVec 32 := Scalar.subi v535 v537
  let v539 : BitVec 1 := Scalar.cmpi .ne v533 v538
  let v540 : BitVec 32 := Scalar.remsi v2 c4_i32_364
  let c0_i32_369 : BitVec 32 := 0#32
  let v541 : BitVec 1 := Scalar.cmpi .ne v540 c0_i32_369
  let v542 : BitVec 1 := Scalar.andi v539 v541
  let v528 : BitVec 32 := Scalar.divsi v2 c4_i32_364
  let c1_i32_370 : BitVec 32 := 1#32
  let v543 : BitVec 32 := Scalar.subi v528 c1_i32_370
  let v544 : BitVec 32 := Scalar.select v542 v543 v528
  let c2_i32_371 : BitVec 32 := 2#32
  let c0_i32_372 : BitVec 32 := 0#32
  let v545 : BitVec 1 := Scalar.cmpi .eq c2_i32_371 c0_i32_372
  let c1_i32_373 : BitVec 32 := 1#32
  let v546 : BitVec 32 := Scalar.select v545 c1_i32_373 c2_i32_371
  let v547 : BitVec 32 := Scalar.remsi v544 v546
  let c0_i32_375 : BitVec 32 := 0#32
  let v549 : BitVec 1 := Scalar.cmpi .slt v547 c0_i32_375
  let c0_i32_376 : BitVec 32 := 0#32
  let v550 : BitVec 1 := Scalar.cmpi .slt v546 c0_i32_376
  let v551 : BitVec 1 := Scalar.xori v549 v550
  let c0_i32_374 : BitVec 32 := 0#32
  let v548 : BitVec 1 := Scalar.cmpi .ne v547 c0_i32_374
  let v552 : BitVec 1 := Scalar.andi v551 v548
  let v553 : BitVec 32 := Scalar.addi v547 v546
  let v554 : BitVec 32 := Scalar.select v552 v553 v547
  let v556 : BitVec 32 := Scalar.subi c1_i32_379 v554
  let c192_i32 : BitVec 32 := 192#32
  let v557 : BitVec 32 := Scalar.muli v556 c192_i32
  let v558 : BitVec 32 := Scalar.addi v555 v557
  let v562 : Index := Scalar.indexCast v558
  let c0_383 : Index := 0#32
  ![v562.toNat, 0]
def k0_off2_at (r : Fin 2) : BitVec 32 × BitVec 32 :=
  if r.val < 1 then
    (0#32, 4#32)
  else
    (384#32, 2#32)
def k0_dev4 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_388 : BitVec 32 := 4#32
  let v568 : BitVec 32 := Scalar.xori v2 c4_i32_388
  let c1_i32_395 : BitVec 32 := 1#32
  let v569 : BitVec 32 := Scalar.muli v568 c1_i32_395
  let v570 : BitVec 32 := Scalar.addi c0_i32_396 v569
  v570.toNat
def k0_dev5 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_460 : BitVec 32 := 3#32
  let v754 : BitVec 32 := Scalar.xori v2 c3_i32_460
  let c1_i32_467 : BitVec 32 := 1#32
  let v755 : BitVec 32 := Scalar.muli v754 c1_i32_467
  let v756 : BitVec 32 := Scalar.addi c0_i32_468 v755
  v756.toNat
def k0_off3 (d0 : Dev nD) : Fin 2 → Nat :=
  let c768_i32 : BitVec 32 := 768#32
  let c0_i32_522 : BitVec 32 := 0#32
  let v928 : BitVec 32 := Scalar.addi c768_i32 c0_i32_522
  let c1_i32_523 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_510 : BitVec 32 := 0#32
  let v901 : BitVec 1 := Scalar.cmpi .sgt v2 c0_i32_510
  let v902 : BitVec 32 := Scalar.extui v901
  let c0_i32_511 : BitVec 32 := 0#32
  let v903 : BitVec 1 := Scalar.cmpi .slt v2 c0_i32_511
  let v904 : BitVec 32 := Scalar.extui v903
  let v905 : BitVec 32 := Scalar.subi v902 v904
  let c2_i32_509 : BitVec 32 := 2#32
  let c0_i32_512 : BitVec 32 := 0#32
  let v906 : BitVec 1 := Scalar.cmpi .sgt c2_i32_509 c0_i32_512
  let v907 : BitVec 32 := Scalar.extui v906
  let c0_i32_513 : BitVec 32 := 0#32
  let v908 : BitVec 1 := Scalar.cmpi .slt c2_i32_509 c0_i32_513
  let v909 : BitVec 32 := Scalar.extui v908
  let v910 : BitVec 32 := Scalar.subi v907 v909
  let v911 : BitVec 1 := Scalar.cmpi .ne v905 v910
  let v912 : BitVec 32 := Scalar.remsi v2 c2_i32_509
  let c0_i32_514 : BitVec 32 := 0#32
  let v913 : BitVec 1 := Scalar.cmpi .ne v912 c0_i32_514
  let v914 : BitVec 1 := Scalar.andi v911 v913
  let v900 : BitVec 32 := Scalar.divsi v2 c2_i32_509
  let c1_i32_515 : BitVec 32 := 1#32
  let v915 : BitVec 32 := Scalar.subi v900 c1_i32_515
  let v916 : BitVec 32 := Scalar.select v914 v915 v900
  let v917 : BitVec 32 := Scalar.addi v2 v916
  let c2_i32_516 : BitVec 32 := 2#32
  let c0_i32_517 : BitVec 32 := 0#32
  let v918 : BitVec 1 := Scalar.cmpi .eq c2_i32_516 c0_i32_517
  let c1_i32_518 : BitVec 32 := 1#32
  let v919 : BitVec 32 := Scalar.select v918 c1_i32_518 c2_i32_516
  let v920 : BitVec 32 := Scalar.remsi v917 v919
  let c0_i32_520 : BitVec 32 := 0#32
  let v922 : BitVec 1 := Scalar.cmpi .slt v920 c0_i32_520
  let c0_i32_521 : BitVec 32 := 0#32
  let v923 : BitVec 1 := Scalar.cmpi .slt v919 c0_i32_521
  let v924 : BitVec 1 := Scalar.xori v922 v923
  let c0_i32_519 : BitVec 32 := 0#32
  let v921 : BitVec 1 := Scalar.cmpi .ne v920 c0_i32_519
  let v925 : BitVec 1 := Scalar.andi v924 v921
  let v926 : BitVec 32 := Scalar.addi v920 v919
  let v927 : BitVec 32 := Scalar.select v925 v926 v920
  let v929 : BitVec 32 := Scalar.subi c1_i32_523 v927
  let c128_i32_524 : BitVec 32 := 128#32
  let v930 : BitVec 32 := Scalar.muli v929 c128_i32_524
  let v931 : BitVec 32 := Scalar.addi v928 v930
  let v935 : Index := Scalar.indexCast v931
  let c0_528 : Index := 0#32
  ![v935.toNat, 0]
def k0_dev6 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_532 : BitVec 32 := 1#32
  let v941 : BitVec 32 := Scalar.xori v2 c1_i32_532
  let c1_i32_538 : BitVec 32 := 1#32
  let v942 : BitVec 32 := Scalar.muli v941 c1_i32_538
  let v943 : BitVec 32 := Scalar.addi c0_i32_539 v942
  v943.toNat
def k0_off4 (d0 : Dev nD) (c0_i32_380 : BitVec 32) (c4_i32_364 : BitVec 32) : Fin 2 → Nat :=
  let c0_i32_381 : BitVec 32 := 0#32
  let v559 : BitVec 32 := Scalar.addi c0_i32_380 c0_i32_381
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_365 : BitVec 32 := 0#32
  let v529 : BitVec 1 := Scalar.cmpi .sgt v2 c0_i32_365
  let v530 : BitVec 32 := Scalar.extui v529
  let c0_i32_366 : BitVec 32 := 0#32
  let v531 : BitVec 1 := Scalar.cmpi .slt v2 c0_i32_366
  let v532 : BitVec 32 := Scalar.extui v531
  let v533 : BitVec 32 := Scalar.subi v530 v532
  let c0_i32_367 : BitVec 32 := 0#32
  let v534 : BitVec 1 := Scalar.cmpi .sgt c4_i32_364 c0_i32_367
  let v535 : BitVec 32 := Scalar.extui v534
  let c0_i32_368 : BitVec 32 := 0#32
  let v536 : BitVec 1 := Scalar.cmpi .slt c4_i32_364 c0_i32_368
  let v537 : BitVec 32 := Scalar.extui v536
  let v538 : BitVec 32 := Scalar.subi v535 v537
  let v539 : BitVec 1 := Scalar.cmpi .ne v533 v538
  let v540 : BitVec 32 := Scalar.remsi v2 c4_i32_364
  let c0_i32_369 : BitVec 32 := 0#32
  let v541 : BitVec 1 := Scalar.cmpi .ne v540 c0_i32_369
  let v542 : BitVec 1 := Scalar.andi v539 v541
  let v528 : BitVec 32 := Scalar.divsi v2 c4_i32_364
  let c1_i32_370 : BitVec 32 := 1#32
  let v543 : BitVec 32 := Scalar.subi v528 c1_i32_370
  let v544 : BitVec 32 := Scalar.select v542 v543 v528
  let c2_i32_371 : BitVec 32 := 2#32
  let c0_i32_372 : BitVec 32 := 0#32
  let v545 : BitVec 1 := Scalar.cmpi .eq c2_i32_371 c0_i32_372
  let c1_i32_373 : BitVec 32 := 1#32
  let v546 : BitVec 32 := Scalar.select v545 c1_i32_373 c2_i32_371
  let v547 : BitVec 32 := Scalar.remsi v544 v546
  let c0_i32_375 : BitVec 32 := 0#32
  let v549 : BitVec 1 := Scalar.cmpi .slt v547 c0_i32_375
  let c0_i32_376 : BitVec 32 := 0#32
  let v550 : BitVec 1 := Scalar.cmpi .slt v546 c0_i32_376
  let v551 : BitVec 1 := Scalar.xori v549 v550
  let c0_i32_374 : BitVec 32 := 0#32
  let v548 : BitVec 1 := Scalar.cmpi .ne v547 c0_i32_374
  let v552 : BitVec 1 := Scalar.andi v551 v548
  let v553 : BitVec 32 := Scalar.addi v547 v546
  let v554 : BitVec 32 := Scalar.select v552 v553 v547
  let c192_i32_382 : BitVec 32 := 192#32
  let v560 : BitVec 32 := Scalar.muli v554 c192_i32_382
  let v561 : BitVec 32 := Scalar.addi v559 v560
  let v962 : Index := Scalar.indexCast v561
  let c0_558 : Index := 0#32
  ![v962.toNat, 0]
def k0_off4_at (r : Fin 2) : BitVec 32 × BitVec 32 :=
  if r.val < 1 then
    (0#32, 4#32)
  else
    (384#32, 2#32)
def k0_off5 (d0 : Dev nD) : Fin 2 → Nat :=
  let c768_i32_525 : BitVec 32 := 768#32
  let c0_i32_526 : BitVec 32 := 0#32
  let v932 : BitVec 32 := Scalar.addi c768_i32_525 c0_i32_526
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_510 : BitVec 32 := 0#32
  let v901 : BitVec 1 := Scalar.cmpi .sgt v2 c0_i32_510
  let v902 : BitVec 32 := Scalar.extui v901
  let c0_i32_511 : BitVec 32 := 0#32
  let v903 : BitVec 1 := Scalar.cmpi .slt v2 c0_i32_511
  let v904 : BitVec 32 := Scalar.extui v903
  let v905 : BitVec 32 := Scalar.subi v902 v904
  let c2_i32_509 : BitVec 32 := 2#32
  let c0_i32_512 : BitVec 32 := 0#32
  let v906 : BitVec 1 := Scalar.cmpi .sgt c2_i32_509 c0_i32_512
  let v907 : BitVec 32 := Scalar.extui v906
  let c0_i32_513 : BitVec 32 := 0#32
  let v908 : BitVec 1 := Scalar.cmpi .slt c2_i32_509 c0_i32_513
  let v909 : BitVec 32 := Scalar.extui v908
  let v910 : BitVec 32 := Scalar.subi v907 v909
  let v911 : BitVec 1 := Scalar.cmpi .ne v905 v910
  let v912 : BitVec 32 := Scalar.remsi v2 c2_i32_509
  let c0_i32_514 : BitVec 32 := 0#32
  let v913 : BitVec 1 := Scalar.cmpi .ne v912 c0_i32_514
  let v914 : BitVec 1 := Scalar.andi v911 v913
  let v900 : BitVec 32 := Scalar.divsi v2 c2_i32_509
  let c1_i32_515 : BitVec 32 := 1#32
  let v915 : BitVec 32 := Scalar.subi v900 c1_i32_515
  let v916 : BitVec 32 := Scalar.select v914 v915 v900
  let v917 : BitVec 32 := Scalar.addi v2 v916
  let c2_i32_516 : BitVec 32 := 2#32
  let c0_i32_517 : BitVec 32 := 0#32
  let v918 : BitVec 1 := Scalar.cmpi .eq c2_i32_516 c0_i32_517
  let c1_i32_518 : BitVec 32 := 1#32
  let v919 : BitVec 32 := Scalar.select v918 c1_i32_518 c2_i32_516
  let v920 : BitVec 32 := Scalar.remsi v917 v919
  let c0_i32_520 : BitVec 32 := 0#32
  let v922 : BitVec 1 := Scalar.cmpi .slt v920 c0_i32_520
  let c0_i32_521 : BitVec 32 := 0#32
  let v923 : BitVec 1 := Scalar.cmpi .slt v919 c0_i32_521
  let v924 : BitVec 1 := Scalar.xori v922 v923
  let c0_i32_519 : BitVec 32 := 0#32
  let v921 : BitVec 1 := Scalar.cmpi .ne v920 c0_i32_519
  let v925 : BitVec 1 := Scalar.andi v924 v921
  let v926 : BitVec 32 := Scalar.addi v920 v919
  let v927 : BitVec 32 := Scalar.select v925 v926 v920
  let c128_i32_527 : BitVec 32 := 128#32
  let v933 : BitVec 32 := Scalar.muli v927 c128_i32_527
  let v934 : BitVec 32 := Scalar.addi v932 v933
  let v998 : Index := Scalar.indexCast v934
  let c0_594 : Index := 0#32
  ![v998.toNat, 0]
def k0_off6 (d0 : Dev nD) (c0_i32_600 : BitVec 32) (c4_i32_364 : BitVec 32) : Fin 2 → Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_365 : BitVec 32 := 0#32
  let v529 : BitVec 1 := Scalar.cmpi .sgt v2 c0_i32_365
  let v530 : BitVec 32 := Scalar.extui v529
  let c0_i32_366 : BitVec 32 := 0#32
  let v531 : BitVec 1 := Scalar.cmpi .slt v2 c0_i32_366
  let v532 : BitVec 32 := Scalar.extui v531
  let v533 : BitVec 32 := Scalar.subi v530 v532
  let c0_i32_367 : BitVec 32 := 0#32
  let v534 : BitVec 1 := Scalar.cmpi .sgt c4_i32_364 c0_i32_367
  let v535 : BitVec 32 := Scalar.extui v534
  let c0_i32_368 : BitVec 32 := 0#32
  let v536 : BitVec 1 := Scalar.cmpi .slt c4_i32_364 c0_i32_368
  let v537 : BitVec 32 := Scalar.extui v536
  let v538 : BitVec 32 := Scalar.subi v535 v537
  let v539 : BitVec 1 := Scalar.cmpi .ne v533 v538
  let v540 : BitVec 32 := Scalar.remsi v2 c4_i32_364
  let c0_i32_369 : BitVec 32 := 0#32
  let v541 : BitVec 1 := Scalar.cmpi .ne v540 c0_i32_369
  let v542 : BitVec 1 := Scalar.andi v539 v541
  let v528 : BitVec 32 := Scalar.divsi v2 c4_i32_364
  let c1_i32_370 : BitVec 32 := 1#32
  let v543 : BitVec 32 := Scalar.subi v528 c1_i32_370
  let v544 : BitVec 32 := Scalar.select v542 v543 v528
  let c2_i32_371 : BitVec 32 := 2#32
  let c0_i32_372 : BitVec 32 := 0#32
  let v545 : BitVec 1 := Scalar.cmpi .eq c2_i32_371 c0_i32_372
  let c1_i32_373 : BitVec 32 := 1#32
  let v546 : BitVec 32 := Scalar.select v545 c1_i32_373 c2_i32_371
  let v547 : BitVec 32 := Scalar.remsi v544 v546
  let c0_i32_375 : BitVec 32 := 0#32
  let v549 : BitVec 1 := Scalar.cmpi .slt v547 c0_i32_375
  let c0_i32_376 : BitVec 32 := 0#32
  let v550 : BitVec 1 := Scalar.cmpi .slt v546 c0_i32_376
  let v551 : BitVec 1 := Scalar.xori v549 v550
  let c0_i32_374 : BitVec 32 := 0#32
  let v548 : BitVec 1 := Scalar.cmpi .ne v547 c0_i32_374
  let v552 : BitVec 1 := Scalar.andi v551 v548
  let v553 : BitVec 32 := Scalar.addi v547 v546
  let v554 : BitVec 32 := Scalar.select v552 v553 v547
  let c192_i32_401 : BitVec 32 := 192#32
  let v579 : BitVec 32 := Scalar.muli v554 c192_i32_401
  let v580 : BitVec 32 := Scalar.addi c0_i32_402 v579
  let v1008 : BitVec 32 := Scalar.addi c0_i32_600 v580
  let v1009 : Index := Scalar.indexCast v1008
  let c0_601 : Index := 0#32
  ![v1009.toNat, 0]
def k0_off6_at (r : Fin 2) : BitVec 32 × BitVec 32 :=
  if r.val < 1 then
    (0#32, 4#32)
  else
    (384#32, 2#32)
def k0_dev7 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_606 : BitVec 32 := 3#32
  let v1015 : BitVec 32 := Scalar.xori v2 c3_i32_606
  let c1_i32_613 : BitVec 32 := 1#32
  let v1016 : BitVec 32 := Scalar.muli v1015 c1_i32_613
  let v1017 : BitVec 32 := Scalar.addi c0_i32_614 v1016
  v1017.toNat
def k0_dev8 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_625 : BitVec 32 := 1#32
  let v1033 : BitVec 32 := Scalar.xori v2 c1_i32_625
  let c1_i32_632 : BitVec 32 := 1#32
  let v1034 : BitVec 32 := Scalar.muli v1033 c1_i32_632
  let v1035 : BitVec 32 := Scalar.addi c0_i32_633 v1034
  v1035.toNat
def k0_off7 (d0 : Dev nD) : Fin 2 → Nat :=
  let c768_i32_638 : BitVec 32 := 768#32
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_510 : BitVec 32 := 0#32
  let v901 : BitVec 1 := Scalar.cmpi .sgt v2 c0_i32_510
  let v902 : BitVec 32 := Scalar.extui v901
  let c0_i32_511 : BitVec 32 := 0#32
  let v903 : BitVec 1 := Scalar.cmpi .slt v2 c0_i32_511
  let v904 : BitVec 32 := Scalar.extui v903
  let v905 : BitVec 32 := Scalar.subi v902 v904
  let c2_i32_509 : BitVec 32 := 2#32
  let c0_i32_512 : BitVec 32 := 0#32
  let v906 : BitVec 1 := Scalar.cmpi .sgt c2_i32_509 c0_i32_512
  let v907 : BitVec 32 := Scalar.extui v906
  let c0_i32_513 : BitVec 32 := 0#32
  let v908 : BitVec 1 := Scalar.cmpi .slt c2_i32_509 c0_i32_513
  let v909 : BitVec 32 := Scalar.extui v908
  let v910 : BitVec 32 := Scalar.subi v907 v909
  let v911 : BitVec 1 := Scalar.cmpi .ne v905 v910
  let v912 : BitVec 32 := Scalar.remsi v2 c2_i32_509
  let c0_i32_514 : BitVec 32 := 0#32
  let v913 : BitVec 1 := Scalar.cmpi .ne v912 c0_i32_514
  let v914 : BitVec 1 := Scalar.andi v911 v913
  let v900 : BitVec 32 := Scalar.divsi v2 c2_i32_509
  let c1_i32_515 : BitVec 32 := 1#32
  let v915 : BitVec 32 := Scalar.subi v900 c1_i32_515
  let v916 : BitVec 32 := Scalar.select v914 v915 v900
  let v917 : BitVec 32 := Scalar.addi v2 v916
  let c2_i32_516 : BitVec 32 := 2#32
  let c0_i32_517 : BitVec 32 := 0#32
  let v918 : BitVec 1 := Scalar.cmpi .eq c2_i32_516 c0_i32_517
  let c1_i32_518 : BitVec 32 := 1#32
  let v919 : BitVec 32 := Scalar.select v918 c1_i32_518 c2_i32_516
  let v920 : BitVec 32 := Scalar.remsi v917 v919
  let c0_i32_520 : BitVec 32 := 0#32
  let v922 : BitVec 1 := Scalar.cmpi .slt v920 c0_i32_520
  let c0_i32_521 : BitVec 32 := 0#32
  let v923 : BitVec 1 := Scalar.cmpi .slt v919 c0_i32_521
  let v924 : BitVec 1 := Scalar.xori v922 v923
  let c0_i32_519 : BitVec 32 := 0#32
  let v921 : BitVec 1 := Scalar.cmpi .ne v920 c0_i32_519
  let v925 : BitVec 1 := Scalar.andi v924 v921
  let v926 : BitVec 32 := Scalar.addi v920 v919
  let v927 : BitVec 32 := Scalar.select v925 v926 v920
  let c128_i32_544 : BitVec 32 := 128#32
  let v952 : BitVec 32 := Scalar.muli v927 c128_i32_544
  let v953 : BitVec 32 := Scalar.addi c0_i32_545 v952
  let v1044 : BitVec 32 := Scalar.addi c768_i32_638 v953
  let v1045 : Index := Scalar.indexCast v1044
  let c0_639 : Index := 0#32
  ![v1045.toNat, 0]
def k0_dev9 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_644 : BitVec 32 := 4#32
  let v1051 : BitVec 32 := Scalar.xori v2 c4_i32_644
  let c1_i32_650 : BitVec 32 := 1#32
  let v1052 : BitVec 32 := Scalar.muli v1051 c1_i32_650
  let v1053 : BitVec 32 := Scalar.addi c0_i32_651 v1052
  v1053.toNat
def k0_dev10 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_716 : BitVec 32 := 1#32
  let v1123 : BitVec 32 := Scalar.xori v2 c1_i32_716
  let c1_i32_723 : BitVec 32 := 1#32
  let v1124 : BitVec 32 := Scalar.muli v1123 c1_i32_723
  let v1125 : BitVec 32 := Scalar.addi c0_i32_724 v1124
  v1125.toNat
def k0_dev11 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_735 : BitVec 32 := 4#32
  let v1141 : BitVec 32 := Scalar.xori v2 c4_i32_735
  let c1_i32_742 : BitVec 32 := 1#32
  let v1142 : BitVec 32 := Scalar.muli v1141 c1_i32_742
  let v1143 : BitVec 32 := Scalar.addi c0_i32_743 v1142
  v1143.toNat
def k0_dev12 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_754 : BitVec 32 := 3#32
  let v1159 : BitVec 32 := Scalar.xori v2 c3_i32_754
  let c1_i32_760 : BitVec 32 := 1#32
  let v1160 : BitVec 32 := Scalar.muli v1159 c1_i32_760
  let v1161 : BitVec 32 := Scalar.addi c0_i32_761 v1160
  v1161.toNat
def k0_off8 (d0 : Dev nD) (c0_i32_820 : BitVec 32) (c4_i32_364 : BitVec 32) : Fin 2 → Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_365 : BitVec 32 := 0#32
  let v529 : BitVec 1 := Scalar.cmpi .sgt v2 c0_i32_365
  let v530 : BitVec 32 := Scalar.extui v529
  let c0_i32_366 : BitVec 32 := 0#32
  let v531 : BitVec 1 := Scalar.cmpi .slt v2 c0_i32_366
  let v532 : BitVec 32 := Scalar.extui v531
  let v533 : BitVec 32 := Scalar.subi v530 v532
  let c0_i32_367 : BitVec 32 := 0#32
  let v534 : BitVec 1 := Scalar.cmpi .sgt c4_i32_364 c0_i32_367
  let v535 : BitVec 32 := Scalar.extui v534
  let c0_i32_368 : BitVec 32 := 0#32
  let v536 : BitVec 1 := Scalar.cmpi .slt c4_i32_364 c0_i32_368
  let v537 : BitVec 32 := Scalar.extui v536
  let v538 : BitVec 32 := Scalar.subi v535 v537
  let v539 : BitVec 1 := Scalar.cmpi .ne v533 v538
  let v540 : BitVec 32 := Scalar.remsi v2 c4_i32_364
  let c0_i32_369 : BitVec 32 := 0#32
  let v541 : BitVec 1 := Scalar.cmpi .ne v540 c0_i32_369
  let v542 : BitVec 1 := Scalar.andi v539 v541
  let v528 : BitVec 32 := Scalar.divsi v2 c4_i32_364
  let c1_i32_370 : BitVec 32 := 1#32
  let v543 : BitVec 32 := Scalar.subi v528 c1_i32_370
  let v544 : BitVec 32 := Scalar.select v542 v543 v528
  let c2_i32_371 : BitVec 32 := 2#32
  let c0_i32_372 : BitVec 32 := 0#32
  let v545 : BitVec 1 := Scalar.cmpi .eq c2_i32_371 c0_i32_372
  let c1_i32_373 : BitVec 32 := 1#32
  let v546 : BitVec 32 := Scalar.select v545 c1_i32_373 c2_i32_371
  let v547 : BitVec 32 := Scalar.remsi v544 v546
  let c0_i32_375 : BitVec 32 := 0#32
  let v549 : BitVec 1 := Scalar.cmpi .slt v547 c0_i32_375
  let c0_i32_376 : BitVec 32 := 0#32
  let v550 : BitVec 1 := Scalar.cmpi .slt v546 c0_i32_376
  let v551 : BitVec 1 := Scalar.xori v549 v550
  let c0_i32_374 : BitVec 32 := 0#32
  let v548 : BitVec 1 := Scalar.cmpi .ne v547 c0_i32_374
  let v552 : BitVec 1 := Scalar.andi v551 v548
  let v553 : BitVec 32 := Scalar.addi v547 v546
  let v554 : BitVec 32 := Scalar.select v552 v553 v547
  let c192_i32_401 : BitVec 32 := 192#32
  let v579 : BitVec 32 := Scalar.muli v554 c192_i32_401
  let v580 : BitVec 32 := Scalar.addi c0_i32_402 v579
  let v1224 : BitVec 32 := Scalar.addi c0_i32_820 v580
  let c0_i32_828 : BitVec 32 := 0#32
  ![v1224.toNat, 0]
def k0_off8_at (r : Fin 2) : BitVec 32 × BitVec 32 :=
  if r.val < 1 then
    (0#32, 4#32)
  else
    (384#32, 2#32)
def k0_dev13 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_823 : BitVec 32 := 4#32
  let v1232 : BitVec 32 := Scalar.xori v2 c4_i32_823
  let c1_i32_826 : BitVec 32 := 1#32
  let v1233 : BitVec 32 := Scalar.muli v1232 c1_i32_826
  let v1234 : BitVec 32 := Scalar.addi c0_i32_827 v1233
  v1234.toNat
def k0_dev14 (d0 : Dev nD) : Nat :=
  let c0_i32_836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_833 : BitVec 32 := 3#32
  let v1249 : BitVec 32 := Scalar.xori v2 c3_i32_833
  let c1_i32_835 : BitVec 32 := 1#32
  let v1250 : BitVec 32 := Scalar.muli v1249 c1_i32_835
  let v1251 : BitVec 32 := Scalar.addi c0_i32_836 v1250
  v1251.toNat
def k0_off9 (d0 : Dev nD) : Fin 2 → Nat :=
  let c768_i32_839 : BitVec 32 := 768#32
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_510 : BitVec 32 := 0#32
  let v901 : BitVec 1 := Scalar.cmpi .sgt v2 c0_i32_510
  let v902 : BitVec 32 := Scalar.extui v901
  let c0_i32_511 : BitVec 32 := 0#32
  let v903 : BitVec 1 := Scalar.cmpi .slt v2 c0_i32_511
  let v904 : BitVec 32 := Scalar.extui v903
  let v905 : BitVec 32 := Scalar.subi v902 v904
  let c2_i32_509 : BitVec 32 := 2#32
  let c0_i32_512 : BitVec 32 := 0#32
  let v906 : BitVec 1 := Scalar.cmpi .sgt c2_i32_509 c0_i32_512
  let v907 : BitVec 32 := Scalar.extui v906
  let c0_i32_513 : BitVec 32 := 0#32
  let v908 : BitVec 1 := Scalar.cmpi .slt c2_i32_509 c0_i32_513
  let v909 : BitVec 32 := Scalar.extui v908
  let v910 : BitVec 32 := Scalar.subi v907 v909
  let v911 : BitVec 1 := Scalar.cmpi .ne v905 v910
  let v912 : BitVec 32 := Scalar.remsi v2 c2_i32_509
  let c0_i32_514 : BitVec 32 := 0#32
  let v913 : BitVec 1 := Scalar.cmpi .ne v912 c0_i32_514
  let v914 : BitVec 1 := Scalar.andi v911 v913
  let v900 : BitVec 32 := Scalar.divsi v2 c2_i32_509
  let c1_i32_515 : BitVec 32 := 1#32
  let v915 : BitVec 32 := Scalar.subi v900 c1_i32_515
  let v916 : BitVec 32 := Scalar.select v914 v915 v900
  let v917 : BitVec 32 := Scalar.addi v2 v916
  let c2_i32_516 : BitVec 32 := 2#32
  let c0_i32_517 : BitVec 32 := 0#32
  let v918 : BitVec 1 := Scalar.cmpi .eq c2_i32_516 c0_i32_517
  let c1_i32_518 : BitVec 32 := 1#32
  let v919 : BitVec 32 := Scalar.select v918 c1_i32_518 c2_i32_516
  let v920 : BitVec 32 := Scalar.remsi v917 v919
  let c0_i32_520 : BitVec 32 := 0#32
  let v922 : BitVec 1 := Scalar.cmpi .slt v920 c0_i32_520
  let c0_i32_521 : BitVec 32 := 0#32
  let v923 : BitVec 1 := Scalar.cmpi .slt v919 c0_i32_521
  let v924 : BitVec 1 := Scalar.xori v922 v923
  let c0_i32_519 : BitVec 32 := 0#32
  let v921 : BitVec 1 := Scalar.cmpi .ne v920 c0_i32_519
  let v925 : BitVec 1 := Scalar.andi v924 v921
  let v926 : BitVec 32 := Scalar.addi v920 v919
  let v927 : BitVec 32 := Scalar.select v925 v926 v920
  let c128_i32_544 : BitVec 32 := 128#32
  let v952 : BitVec 32 := Scalar.muli v927 c128_i32_544
  let v953 : BitVec 32 := Scalar.addi c0_i32_545 v952
  let v1258 : BitVec 32 := Scalar.addi c768_i32_839 v953
  let c0_i32_846 : BitVec 32 := 0#32
  ![v1258.toNat, 0]
def k0_dev15 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_842 : BitVec 32 := 1#32
  let v1266 : BitVec 32 := Scalar.xori v2 c1_i32_842
  let c1_i32_844 : BitVec 32 := 1#32
  let v1267 : BitVec 32 := Scalar.muli v1266 c1_i32_844
  let v1268 : BitVec 32 := Scalar.addi c0_i32_845 v1267
  v1268.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S1x64x1024x1024, .f32⟩
  | .hbm, ⟨19, _⟩ => ⟨S_, .f32⟩
  | .hbm, ⟨20, _⟩ => ⟨S1x64x1024x1024, .f32⟩
  | .hbm, ⟨21, _⟩ => ⟨S1x64x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S1x64x1024x1024, .i1⟩
  | .hbm, ⟨26, _⟩ => ⟨S1x64x1024x1024, .f32⟩
  | .hbm, ⟨27, _⟩ => ⟨S1x64x1024x1024, .f32⟩
  | .hbm, ⟨28, _⟩ => ⟨S_, .f32⟩
  | .hbm, ⟨29, _⟩ => ⟨S1x64x1024, .f32⟩
  | .hbm, ⟨30, _⟩ => ⟨S1x64x1024x1, .f32⟩
  | .hbm, ⟨31, _⟩ => ⟨S1x64x1024x1024, .f32⟩
  | .hbm, ⟨32, _⟩ => ⟨S1x64x1024x1024, .f32⟩
  | .hbm, ⟨33, _⟩ => ⟨S1x64x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x64x1024, .f32⟩
  | .hbm, ⟨39, _⟩ => ⟨S1x64x1024x1, .f32⟩
  | .hbm, ⟨40, _⟩ => ⟨S_, .f32⟩
  | .hbm, ⟨41, _⟩ => ⟨S_, .f32⟩
  | .hbm, ⟨42, _⟩ => ⟨S1x64x1024x1, .i1⟩
  | .hbm, ⟨43, _⟩ => ⟨S1x64x1024x1, .f32⟩
  | .hbm, ⟨44, _⟩ => ⟨S1x64x1024x1, .f32⟩
  | .hbm, ⟨45, _⟩ => ⟨S1x64x1024x1024, .f32⟩
  | .hbm, ⟨46, _⟩ => ⟨S1x64x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x64x1024x1024, .i1⟩
  | .hbm, ⟨51, _⟩ => ⟨S1x64x1024x1024, .f32⟩
  | .hbm, ⟨52, _⟩ => ⟨S1x64x1024x1024, .f32⟩
  | .hbm, ⟨53, _⟩ => ⟨S1x64x128x1024, .f32⟩
  | .hbm, ⟨54, _⟩ => ⟨S1x1024x64x128, .f32⟩
  | .hbm, ⟨55, _⟩ => ⟨S1x1024x8192, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Geometry.lean ====
/- # The mesh and the offsets

The eight devices, each one's three partners, which half of each row part a device keeps and which it sends, and the
closed forms of the program's device and offset chains. -/
module

public import proofs.«01_k».proof.Proof.Gen.KernelIdeal
import all proofs.«01_k».proof.KernelIdeal

@[expose] public section

namespace Cert.KernelProof

open Cert.KernelIdeal Cert.KernelIdeal.Gen
open Idealize.ShloMosaic Idealize.ShloMosaic.TcCoe

/-- The three partner masks, in the order the entry handshake signals them. -/
def mk : Fin 3 → ℕ := fun | 0 => 1 | 1 => 3 | 2 => 4

/-- The partner of a device under mask `k`: its number with the mask's bits flipped. -/
def px (k : Fin 3) (c : Dev nD) : Dev nD := ⟨(c.val ^^^ mk k) % 8, Nat.mod_lt _ (by decide)⟩

/-- Which mask part `p` uses in round `r`. -/
def dm : Fin 3 → Fin 3 → Fin 3
  | 0, 0 => 2 | 0, 1 => 1 | 0, 2 => 0
  | 1, 0 => 1 | 1, 1 => 0 | 1, 2 => 2
  | 2, 0 => 0 | 2, 1 => 2 | 2, 2 => 1

/-- The partner of `c` in round `r` of part `p`. -/
abbrev pr (p r : Fin 3) (c : Dev nD) : Dev nD := px (dm p r) c

/-- The round in which part `p` uses mask `k`. -/
def rd : Fin 3 → Fin 3 → Fin 3
  | 0, 0 => 2 | 0, 1 => 1 | 0, 2 => 0
  | 1, 0 => 1 | 1, 1 => 0 | 1, 2 => 2
  | 2, 0 => 0 | 2, 1 => 2 | 2, 2 => 1

/-- The part whose first round uses mask `k`. -/
def pa : Fin 3 → Fin 3 := fun | 0 => 2 | 1 => 1 | 2 => 0

/-- Rows in half a part. -/
def hp : Fin 3 → ℕ := fun | 0 => 192 | 1 => 192 | 2 => 128

/-- First row of a part. -/
def po : Fin 3 → ℕ := fun | 0 => 0 | 1 => 384 | 2 => 768

/-- Which half of part `p` device `c` keeps: 0 the lower, 1 the upper. -/
def sd : Fin 3 → Dev nD → ℕ
  | 0, c => c.val / 4 % 2
  | 1, c => c.val / 2 % 2
  | 2, c => (c.val + c.val / 2) % 2

/-- First row of the half device `c` keeps of part `p`. -/
def ko (p : Fin 3) (c : Dev nD) : ℕ := po p + sd p c * hp p
/-- First row of the half device `c` sends of part `p`. -/
def so (p : Fin 3) (c : Dev nD) : ℕ := po p + (1 - sd p c) * hp p

/-- A partner's partner under the same mask is the device itself. -/
theorem px_px (k : Fin 3) (c : Dev nD) : px k (px k c) = c := by revert k c; decide
/-- No device is its own partner. -/
theorem px_ne (k : Fin 3) (c : Dev nD) : px k c ≠ c := by revert k c; decide
/-- Different devices have different partners. -/
theorem px_inj (k : Fin 3) : Function.Injective (px k) := fun a b h => by rw [← px_px k a, h, px_px]
/-- Two masks may be applied in either order. -/
theorem px_comm (k l : Fin 3) (c : Dev nD) : px k (px l c) = px l (px k c) := by revert k l c; decide
/-- The round in which a part uses a mask uses that mask. -/
theorem dm_rd (p k : Fin 3) : dm p (rd p k) = k := by revert p k; decide
/-- The mask that a part uses in a round is used in that round. -/
theorem rd_dm (p r : Fin 3) : rd p (dm p r) = r := by revert p r; decide
/-- The part that belongs to a mask uses it in its first round. -/
theorem dm_pa (k : Fin 3) : dm (pa k) 0 = k := by revert k; decide
/-- The first mask of a part belongs to that part. -/
theorem pa_dm (p : Fin 3) : pa (dm p 0) = p := by revert p; decide
/-- A device keeps the lower half or the upper. -/
theorem sd_le (p : Fin 3) (c : Dev nD) : sd p c ≤ 1 := by revert p c; decide
/-- The half that the first partner sends is the half that the device keeps. -/
theorem so_pr (p : Fin 3) (c : Dev nD) : so p (pr p 0 c) = ko p c := by revert p c; decide
/-- The half that the first partner keeps is the half that the device sends. -/
theorem ko_pr0 (p : Fin 3) (c : Dev nD) : ko p (pr p 0 c) = so p c := by revert p c; decide
/-- The partners of the later rounds keep the same half as the device. -/
theorem ko_pr (p r : Fin 3) (hr : r ≠ 0) (c : Dev nD) : ko p (pr p r c) = ko p c := by revert p r c; decide
/-- The half kept lies inside the 1024 rows. -/
theorem ko_le (p : Fin 3) (c : Dev nD) : ko p c + hp p ≤ 1024 := by revert p c; decide
/-- The half sent lies inside the 1024 rows. -/
theorem so_le (p : Fin 3) (c : Dev nD) : so p c + hp p ≤ 1024 := by revert p c; decide

/-! ## The program's chains in closed form -/

/-- The first signal of the entry handshake goes to the partner at mask 1. -/
theorem dev1_eq (c : Dev nD) : k0_dev1 c = (px 0 c).val := by revert c; decide
/-- The second signal goes to the partner at mask 3. -/
theorem dev2_eq (c : Dev nD) : k0_dev2 c = (px 1 c).val := by revert c; decide
/-- The third signal goes to the partner at mask 4. -/
theorem dev3_eq (c : Dev nD) : k0_dev3 c = (px 2 c).val := by revert c; decide
/-- Part 0's first transfer goes to its partner of round 0. -/
theorem dev4_eq (c : Dev nD) : k0_dev4 c = (pr 0 0 c).val := by revert c; decide
/-- Part 1's first transfer goes to its partner of round 0. -/
theorem dev5_eq (c : Dev nD) : k0_dev5 c = (pr 1 0 c).val := by revert c; decide
/-- Part 2's first transfer goes to its partner of round 0. -/
theorem dev6_eq (c : Dev nD) : k0_dev6 c = (pr 2 0 c).val := by revert c; decide
/-- Part 0's second transfer goes to its partner of round 1. -/
theorem dev7_eq (c : Dev nD) : k0_dev7 c = (pr 0 1 c).val := by revert c; decide
/-- Part 1's second transfer goes to its partner of round 1. -/
theorem dev8_eq (c : Dev nD) : k0_dev8 c = (pr 1 1 c).val := by revert c; decide
/-- Part 2's second transfer goes to its partner of round 1. -/
theorem dev9_eq (c : Dev nD) : k0_dev9 c = (pr 2 1 c).val := by revert c; decide
/-- Part 0's third transfer goes to its partner of round 2. -/
theorem dev10_eq (c : Dev nD) : k0_dev10 c = (pr 0 2 c).val := by revert c; decide
/-- Part 1's third transfer goes to its partner of round 2. -/
theorem dev11_eq (c : Dev nD) : k0_dev11 c = (pr 1 2 c).val := by revert c; decide
/-- Part 2's third transfer goes to its partner of round 2. -/
theorem dev12_eq (c : Dev nD) : k0_dev12 c = (pr 2 2 c).val := by revert c; decide
/-- Part 0's finished half goes to its partner of round 0. -/
theorem dev13_eq (c : Dev nD) : k0_dev13 c = (pr 0 0 c).val := by revert c; decide
/-- Part 1's finished half goes to its partner of round 0. -/
theorem dev14_eq (c : Dev nD) : k0_dev14 c = (pr 1 0 c).val := by revert c; decide
/-- Part 2's finished half goes to its partner of round 0. -/
theorem dev15_eq (c : Dev nD) : k0_dev15 c = (pr 2 0 c).val := by revert c; decide

/-- The rows of part 0 that are sent first begin at the half that the device sends. -/
theorem off2_0 (c : Dev nD) : k0_off2 c 0#32 4#32 = ![so 0 c, 0] := by revert c; decide
/-- The rows of part 1 that are sent first begin at the half that the device sends. -/
theorem off2_1 (c : Dev nD) : k0_off2 c 384#32 2#32 = ![so 1 c, 0] := by revert c; decide
/-- The rows of part 2 that are sent first begin at the half that the device sends. -/
theorem off3_ (c : Dev nD) : k0_off3 c = ![so 2 c, 0] := by revert c; decide
/-- Part 0's update of the first round begins at the half that the device keeps. -/
theorem off4_0 (c : Dev nD) : k0_off4 c 0#32 4#32 = ![ko 0 c, 0] := by revert c; decide
/-- Part 1's update of the first round begins at the half that the device keeps. -/
theorem off4_1 (c : Dev nD) : k0_off4 c 384#32 2#32 = ![ko 1 c, 0] := by revert c; decide
/-- Part 2's update of the first round begins at the half that the device keeps. -/
theorem off5_ (c : Dev nD) : k0_off5 c = ![ko 2 c, 0] := by revert c; decide
/-- Part 0's rows of the later rounds begin at the half that the device keeps. -/
theorem off6_0 (c : Dev nD) : k0_off6 c 0#32 4#32 = ![ko 0 c, 0] := by revert c; decide
/-- Part 1's rows of the later rounds begin at the half that the device keeps. -/
theorem off6_1 (c : Dev nD) : k0_off6 c 384#32 2#32 = ![ko 1 c, 0] := by revert c; decide
/-- Part 2's rows of the later rounds begin at the half that the device keeps. -/
theorem off7_ (c : Dev nD) : k0_off7 c = ![ko 2 c, 0] := by revert c; decide
/-- Part 0's rows of the gathering begin at the half that the device keeps. -/
theorem off8_0 (c : Dev nD) : k0_off8 c 0#32 4#32 = ![ko 0 c, 0] := by revert c; decide
/-- Part 1's rows of the gathering begin at the half that the device keeps. -/
theorem off8_1 (c : Dev nD) : k0_off8 c 384#32 2#32 = ![ko 1 c, 0] := by revert c; decide
/-- Part 2's rows of the gathering begin at the half that the device keeps. -/
theorem off9_ (c : Dev nD) : k0_off9 c = ![ko 2 c, 0] := by revert c; decide

end Cert.KernelProof

end
-- ==== Proof.Contents.lean ====
/- # What every buffer of the kernel holds

Pure functions of the devices' operands: each device's partial product, the three rounds of exchange that add the
partners' halves, and the buffers the exchange goes through. -/
module

public import proofs.«01_k».proof.Proof.Geometry
public import proofs.«01_k».proof.Proof.Gen.KernelIdeal.Skeleton
public import Idealize.ShloMosaic.Lib.ValueLayout

@[expose] public section

noncomputable section

namespace Cert.KernelProof

open Cert.KernelIdeal Cert.KernelIdeal.Gen
open Idealize.ShloMosaic Idealize.ShloMosaic.TcCoe Idealize.ShloMosaic.ValueIdx

variable {F : FTy → Type} [FloatOps F] [Named F]

/-- What one device is given: its hidden states, its block of the query weights, the keys and the values, and its block
    of the output weights. -/
structure Ops (F : FTy → Type) where
  x : FVec F S1x1024x1024 .f32
  wq : FVec F S1024x1024 .f32
  k : FVec F S1x1024x64x128 .f32
  v : FVec F S1x1024x64x128 .f32
  wo : FVec F S1024x1024 .f32

/-- The index of a square array at two row-major coordinates. -/
def sq (i j : ℕ) : S1024x1024.Idx := ix2 (Fin.ofNat 1024 i) (Fin.ofNat 1024 j)

/-- The heads device `c` reads, out of the keys or the values of all of them. -/
def hd (c : Dev nD) (f : FVec F S1x1024x64x128 .f32) : FVec F S8x1024x128 .f32 := fun i =>
  f (ix4 (0 : Fin 1) (i 1 : Fin 1024) (Fin.ofNat 64 (8 * c.val + (i 0).val)) (i 2 : Fin 128))

section
variable (O : Ops F) (c : Dev nD)

def qv : FVec F S1024x1024 .bf16 := k0_pay1 O.x O.wq
def wv : FVec F S1024x1024 .bf16 := k0_pay2 O.wo
def kv : FVec F S8x1024x128 .bf16 := k0_pay3 (hd c O.k)
def vv : FVec F S8x1024x128 .bf16 := k0_pay4 (hd c O.v)
def ma : IVec S256x512 1 := k0_pay5
def mb : IVec S256x512 1 := k0_pay6
def mc : IVec S256x512 1 := k0_pay7 (iota .tc S256x512 32 [0] iota_S256x512_d0_w32) 256#32

end

/-- The four bands of 256 rows of a device's partial product, each from the queries, the output weights, the keys and the
    values. -/
def band0 (q w : FVec F S1024x1024 .bf16) (k v : FVec F S8x1024x128 .bf16) : FVec F S256x1024 .f32 :=
  k0_pay19 q w k v ma (k0_pay8 q k v ma) (k0_pay9 q k v ma) (k0_pay13 (k0_pay10 q k ma) (k0_pay11 q k ma) (k0_pay12 v))
    (k0_pay14 q k v ma) (k0_pay15 q k v ma) (k0_pay16 q k ma) (k0_pay17 q k ma) (k0_pay18 v)
def band1 (q w : FVec F S1024x1024 .bf16) (k v : FVec F S8x1024x128 .bf16) : FVec F S256x1024 .f32 :=
  k0_pay32 q w k v mb (k0_pay22 v mb (k0_pay20 q) (k0_pay21 k)) (k0_pay23 q k v mb) (k0_pay24 q k v mb)
    (k0_pay27 v mb (k0_pay25 q) (k0_pay26 k)) (k0_pay28 q k v mb) (k0_pay29 q k v mb) (k0_pay30 q) (k0_pay31 k)
def band2 (q w : FVec F S1024x1024 .bf16) (k v : FVec F S8x1024x128 .bf16) : FVec F S256x1024 .f32 :=
  k0_pay44 w (k0_pay34 q k v mb) (k0_pay36 (k0_pay35 q k v mb)) (k0_pay37 q k v mb) (k0_pay38 q k v mb)
    (k0_pay40 (k0_pay39 q k v mb)) (k0_pay41 q k v mb) (k0_pay42 q k v mb) (k0_pay43 q k v mb)
def band3 (q w : FVec F S1024x1024 .bf16) (k v : FVec F S8x1024x128 .bf16) : FVec F S256x1024 .f32 :=
  k0_pay58 q w k v mc (k0_pay48 (k0_pay46 q k mc) (k0_pay47 q k v mc)) (k0_pay49 q k v mc) (k0_pay50 q k v mc)
    (k0_pay53 (k0_pay51 q k mc) (k0_pay52 q k v mc)) (k0_pay54 q k v mc) (k0_pay55 q k v mc) (k0_pay56 q k mc)
    (k0_pay57 q k v mc)

/-- Band `b` of a device's partial product. -/
def band (O : Ops F) (c : Dev nD) (b : ℕ) : FVec F S256x1024 .f32 :=
  match b with
  | 0 => band0 (qv O) (wv O) (kv O c) (vv O c)
  | 1 => band1 (qv O) (wv O) (kv O c) (vv O c)
  | 2 => band2 (qv O) (wv O) (kv O c) (vv O c)
  | _ => band3 (qv O) (wv O) (kv O c) (vv O c)

/-- A device's partial product: the bands one under another. -/
def acc (O : Ops F) (c : Dev nD) : FVec F S1024x1024 .f32 := fun i =>
  band O c ((i 0).val / 256) (ix2 (Fin.ofNat 256 ((i 0).val % 256)) (i 1 : Fin 1024))

/-- Bands `0 … n-1` written over what the buffer held before. -/
def accB (O : Ops F) (c : Dev nD) (n : ℕ) (f : FVec F S1024x1024 .f32) : FVec F S1024x1024 .f32 := fun i =>
  if (i 0).val < 256 * n then acc O c i else f i

/-- Which part a row is of. -/
def part (i : ℕ) : Fin 3 := if i < 384 then 0 else if i < 768 then 1 else 2

section
variable (O : Dev nD → Ops F)

def nar (x : F .f32) : F .bf16 := FloatOps.truncf .bf16 bitsLt_bf16_f32 x
def wid (x : F .bf16) : F .f32 := FloatOps.extf .f32 bitsLt_bf16_f32 x

/-- What device `c` has accumulated of its half of part `p` before the first exchange and after one, two and three; and
    what it sends in the three exchanges, row by row of the half. -/
def s0 (p : Fin 3) (c : Dev nD) (i j : ℕ) : F .f32 := acc (O c) c (sq (ko p c + i) j)
def t0 (p : Fin 3) (c : Dev nD) (i j : ℕ) : F .bf16 := nar (acc (O c) c (sq (so p c + i) j))
def s1 (p : Fin 3) (c : Dev nD) (i j : ℕ) : F .f32 := FloatOps.addf (s0 O p c i j) (wid (t0 O p (pr p 0 c) i j))
def t1 (p : Fin 3) (c : Dev nD) (i j : ℕ) : F .bf16 := nar (s1 O p c i j)
def s2 (p : Fin 3) (c : Dev nD) (i j : ℕ) : F .f32 := FloatOps.addf (s1 O p c i j) (wid (t1 O p (pr p 1 c) i j))
def t2 (p : Fin 3) (c : Dev nD) (i j : ℕ) : F .bf16 := nar (s2 O p c i j)
def s3 (p : Fin 3) (c : Dev nD) (i j : ℕ) : F .f32 := FloatOps.addf (s2 O p c i j) (wid (t2 O p (pr p 2 c) i j))

def sv : ℕ → Fin 3 → Dev nD → ℕ → ℕ → F .f32 | 0 => s0 O | 1 => s1 O | 2 => s2 O | _ => s3 O
def tv : Fin 3 → Fin 3 → Dev nD → ℕ → ℕ → F .bf16 | 0 => t0 O | 1 => t1 O | 2 => t2 O

/-- What device `c` puts in its transmit slots, and what lands in its receive slots. -/
def TX (c : Dev nD) : FVec F S3x3x192x1024 .bf16 := fun i => tv O (i 1) (i 0) c (i 2).val (i 3).val
def RS (c : Dev nD) : FVec F S3x3x192x1024 .bf16 := fun i => tv O (i 1) (i 0) (pr (i 0) (i 1) c) (i 2).val (i 3).val

/-- The accumulator when part `p` has had `n p` exchanges. -/
def AS (c : Dev nD) (n : Fin 3 → ℕ) : FVec F S1024x1024 .f32 := fun i =>
  if ko (part (i 0).val) c ≤ (i 0).val ∧ (i 0).val < ko (part (i 0).val) c + hp (part (i 0).val) then
    sv O (n (part (i 0).val)) (part (i 0).val) c ((i 0).val - ko (part (i 0).val) c) (i 1).val
  else acc (O c) c i

/-- The gathered rows: a device's own half of each part, and its first partner's. -/
def AG (c : Dev nD) : FVec F S1024x1024 .bf16 := fun i =>
  if ko (part (i 0).val) c ≤ (i 0).val ∧ (i 0).val < ko (part (i 0).val) c + hp (part (i 0).val) then
    nar (s3 O (part (i 0).val) c ((i 0).val - ko (part (i 0).val) c) (i 1).val)
  else nar (s3 O (part (i 0).val) (pr (part (i 0).val) 0 c) ((i 0).val - so (part (i 0).val) c) (i 1).val)

/-- The result on device `c`. -/
def OUT (c : Dev nD) : FVec F S1x1024x1024 .f32 := k0_pay81 (k0_pay80 (AG O c))

end

end Cert.KernelProof

end
-- ==== Proof.Schedule.lean ====
/- # The protocol

Which semaphores the kernel signals and waits on, how much each is credited, and what each credit hands over.

A device's barrier cell is signalled once by each of its three partners (the devices at logical ids that differ from its own
by xor with 1, 3 and 4). The signal of the partner at one mask hands over the partner's receive slots that this device is to
write in the exchanges with it, and the half of the partner's gather buffer that it is to write. A key or value head's copy
has a cell of its own. Each exchange has a send cell, which gives the transmit slot back, and a receive cell, which gives the
receive slot with what landed in it; so has the final gathering of each part. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

abbrev UB := URounds (GSem nD τ sig) (Fin 3)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

abbrev barS : Sem sig := (SemArray.scalar (sig.barrier 0 rfl) : Sems sig S_).sem

/-- The semaphores of the copies of the keys (0) and the values (1), by head; of the exchanges, by part and exchange; of the
    gathering, by part. -/
def kvS (k : Fin 2) (h : Fin 8) : DmaSem sig := ⟨4 + 8 * k.val + h.val, by have := k.isLt; have := h.isLt; show _ < 56; omega⟩
def sS (p r : Fin 3) : DmaSem sig := ⟨20 + 6 * p.val + r.val, by have := p.isLt; have := r.isLt; show _ < 56; omega⟩
def rS (p r : Fin 3) : DmaSem sig := ⟨38 + 6 * p.val + r.val, by have := p.isLt; have := r.isLt; show _ < 56; omega⟩
def gsS (p : Fin 3) : DmaSem sig := ⟨23 + 6 * p.val, by have := p.isLt; show _ < 56; omega⟩
def grS (p : Fin 3) : DmaSem sig := ⟨41 + 6 * p.val, by have := p.isLt; show _ < 56; omega⟩

/-- What a semaphore of the kernel is for. -/
inductive Use where
  | none | kv (k : Fin 2) (h : Fin 8) | snd (p r : Fin 3) | rcv (p r : Fin 3) | gsnd (p : Fin 3) | grcv (p : Fin 3)
  deriving DecidableEq

def use (q : ℕ) : Use :=
  if q < 4 then .none
  else if q < 20 then .kv (Fin.ofNat 2 ((q - 4) / 8)) (Fin.ofNat 8 ((q - 4) % 8))
  else if q < 38 then
    if (q - 20) % 6 < 3 then .snd (Fin.ofNat 3 ((q - 20) / 6)) (Fin.ofNat 3 ((q - 20) % 6))
    else if (q - 20) % 6 = 3 then .gsnd (Fin.ofNat 3 ((q - 20) / 6)) else .none
  else
    if (q - 38) % 6 < 3 then .rcv (Fin.ofNat 3 ((q - 38) / 6)) (Fin.ofNat 3 ((q - 38) % 6))
    else if (q - 38) % 6 = 3 then .grcv (Fin.ofNat 3 ((q - 38) / 6)) else .none

/-- The semaphore of a head's copy of keys or values is for that copy. -/
theorem use_kv (k h) : use (kvS k h).val = .kv k h := by revert k h; decide
/-- The send semaphore of an exchange is for that exchange. -/
theorem use_s (p r) : use (sS p r).val = .snd p r := by revert p r; decide
/-- The receive semaphore of an exchange is for that exchange. -/
theorem use_r (p r) : use (rS p r).val = .rcv p r := by revert p r; decide
/-- The send semaphore of a part's gathering is for it. -/
theorem use_gs (p) : use (gsS p).val = .gsnd p := by revert p; decide
/-- The receive semaphore of a part's gathering is for it. -/
theorem use_gr (p) : use (grS p).val = .grcv p := by revert p; decide

abbrev barC (c : Dev nD) : GSem nD τ sig := ((c : Thread nD τ), .reg barS)
abbrev dmaC (c : Dev nD) (q : DmaSem sig) : GSem nD τ sig := ((c : Thread nD τ), .dma q)

/-- What a head's copy credits, and what an exchange's transfer of part `p` does. -/
def nk : ℕ := cc0_scratch1.dmaCredit S1024x128 .f32
def ne (p : Fin 3) : ℕ := if p = 2 then cc0_scratch3.dmaCredit S128x1024 .bf16 else cc0_scratch3.dmaCredit S192x1024 .bf16

/-- A head's copy credits a positive amount. -/
theorem nk_pos : 0 < nk := View.dmaCredit_pos (v := ((Memref.whole cc0_scratch1 : Memref sig .tc .vmem S8x1024x128 .f32).slice (Rect.unit (s := S8x1024x128) ![0, 0, 0] S1x1024x128.size inb_S8x1024x128_S1x1024x128_0_0_0) (fun _ => rfl) |>.squeeze S1024x128 squeezes_S1x1024x128_S1024x128).view) (by decide)
/-- A transfer of a part credits a positive amount. -/
theorem ne_pos (p : Fin 3) : 0 < ne p := by
  unfold ne; split
  · exact View.dmaCredit_pos (v := ((Memref.whole cc0_scratch3 : Memref sig .tc .vmem S3x3x192x1024 .bf16).slice (Rect.unit (s := S3x3x192x1024) ![2, 0, 0, 0] S1x1x128x1024.size inb_S3x3x192x1024_S1x1x128x1024_2_0_0_0) (fun _ => rfl) |>.squeeze S128x1024 squeezes_S1x1x128x1024_S128x1024).view) (by decide)
  · exact View.dmaCredit_pos (v := ((Memref.whole cc0_scratch3 : Memref sig .tc .vmem S3x3x192x1024 .bf16).slice (Rect.unit (s := S3x3x192x1024) ![0, 0, 0, 0] S1x1x192x1024.size inb_S3x3x192x1024_S1x1x192x1024_0_0_0_0) (fun _ => rfl) |>.squeeze S192x1024 squeezes_S1x1x192x1024_S192x1024).view) (by decide)

/-! ## Pieces of the buffers -/

/-- Head `h` of the buffer of keys or of values; the slot of part `p` and exchange `r`; `n` rows from row `a`. -/
def kSet (h : Fin 8) : Finset S8x1024x128.Idx := Finset.univ.filter fun i => (i 0).val = h.val
def eSet (p r : Fin 3) : Finset S3x3x192x1024.Idx := Finset.univ.filter fun i => (i 0).val = p.val ∧ (i 1).val = r.val ∧ (i 2).val < hp p
def gSet (a n : ℕ) : Finset S1024x1024.Idx := Finset.univ.filter fun i => a ≤ (i 0).val ∧ (i 0).val < a + n

section
variable (c : Dev nD)

def kPts (h : Fin 8) (f : FVec F S8x1024x128 .f32) : sProp 𝕄 := ((c : Thread nD τ).loc cc0_scratch1) ↦[kSet h]{fullShare} f
def vPts (h : Fin 8) (f : FVec F S8x1024x128 .f32) : sProp 𝕄 := ((c : Thread nD τ).loc cc0_scratch2) ↦[kSet h]{fullShare} f
def rPts (p r : Fin 3) (f : FVec F S3x3x192x1024 .bf16) : sProp 𝕄 := ((c : Thread nD τ).loc cc0_scratch3) ↦[eSet p r]{fullShare} f
def tPts (p r : Fin 3) (f : FVec F S3x3x192x1024 .bf16) : sProp 𝕄 := ((c : Thread nD τ).loc cc0_scratch4) ↦[eSet p r]{fullShare} f
def gPts (a n : ℕ) (q : PosShare TreeShare) (f : FVec F S1024x1024 .bf16) : sProp 𝕄 := ((c : Thread nD τ).loc cc0_scratch5) ↦[gSet a n]{q} f

end

/-- What the signal of the partner at mask `d` hands device `c`: the partner's slots for the exchange of each part that goes
    over that mask, and the partner's half of the gather buffer that `c` is to fill. -/
def barPay (c : Dev nD) (d : Fin 3) : sProp 𝕄 :=
  iprop((∃ f, rPts (F := F) (px d c) 0 (rd 0 d) f) ∗ (∃ f, rPts (F := F) (px d c) 1 (rd 1 d) f) ∗ (∃ f, rPts (F := F) (px d c) 2 (rd 2 d) f)
    ∗ (∃ f, gPts (F := F) (px d c) (so (pa d) (px d c)) (hp (pa d)) fullShare f))

variable (O : Dev nD → Ops F)

/-- What a copy or a transfer that lands on a semaphore of device `c` hands it. -/
def dmaPay (c : Dev nD) (q : DmaSem sig) : sProp 𝕄 :=
  match use q.val with
  | .none => iprop(emp)
  | .kv k h => if k = 0 then kPts c h (hd c (O c).k) else vPts c h (hd c (O c).v)
  | .snd p r => tPts c p r (TX O c)
  | .rcv p r => rPts c p r (RS O c)
  | .gsnd p => gPts c (ko p c) (hp p) fullShare.left (AG O c)
  | .grcv p => gPts c (so p c) (hp p) fullShare (AG O c)

def dmaAmt (q : DmaSem sig) : ℕ :=
  match use q.val with
  | .none => 1
  | .kv _ _ => nk
  | .snd p _ | .rcv p _ | .gsnd p | .grcv p => ne p

/-- One round: a barrier cell has a duty of one unit for each partner; a semaphore the kernel copies on has one duty of the
    copy's credit. -/
def Rd : Rounds.Schedule (GSem nD τ sig) (Fin 3) 𝕄 where
  duties g r := if r = 0 ∧ g.1.2 = .tc then
      (match g.2 with | .reg s => if s = barS then Finset.univ else ∅ | .dma q => if use q.val = .none then ∅ else {0})
    else ∅
  unitless _ := False
  amount g _ _ := match g.2 with | .reg _ => 1 | .dma q => dmaAmt q
  payload g _ d := match g.2 with | .reg _ => barPay g.1.1 d | .dma q => dmaPay O g.1.1 q
  amount_pos g _ _ _ := by
    rcases g with ⟨_, _ | q⟩
    · exact Nat.one_pos
    · show 0 < dmaAmt q
      unfold dmaAmt
      split <;> first | exact Nat.one_pos | exact nk_pos | exact ne_pos _

/-- What a credit hands over may be kept in a semaphore's invariant. -/
instance rd_storable (g : GSem nD τ sig) (r : ℕ) (d : Fin 3) : BI.Storable (upEmb : UEmb _ 𝕄) ((Rd (F := F) O).payload g r d) := by
  rcases g with ⟨t, _ | q⟩
  · show BI.Storable upEmb (barPay t.1 d)
    unfold barPay rPts gPts; infer_instance
  · show BI.Storable upEmb (dmaPay O t.1 q)
    unfold dmaPay kPts vPts rPts tPts gPts
    (repeat' split) <;> infer_instance

section Sched
variable (c : Dev nD)

/-- The barrier of a device expects a signal from each of the three partners. -/
theorem duties_bar : (Rd O).duties (barC c) 0 = Finset.univ := by
  dsimp only [Rd]; rw [if_pos ⟨rfl, rfl⟩, if_pos rfl]
/-- A semaphore that the kernel copies on expects one copy. -/
theorem duties_dma (q : DmaSem sig) (h : use q.val ≠ .none) : (Rd O).duties (dmaC c q) 0 = {0} := by
  dsimp only [Rd]; rw [if_pos ⟨rfl, rfl⟩, if_neg h]
/-- A semaphore that the kernel leaves alone expects nothing. -/
theorem duties_none (q : DmaSem sig) (h : use q.val = .none) (r : ℕ) : (Rd O).duties (dmaC c q) r = ∅ := by
  dsimp only [Rd]; rw [if_pos h, ite_self]
/-- No semaphore expects anything after its one round. -/
theorem duties_later (g : GSem nD τ sig) : ∀ r, 1 ≤ r → (Rd O).duties g r = ∅ :=
  fun r hr => by dsimp only [Rd]; rw [if_neg fun h => by omega]

/-- A signal at the barrier is one unit. -/
theorem amount_bar (d : Fin 3) : (Rd O).amount (barC c) 0 d = 1 := rfl
/-- A copy credits its semaphore's amount. -/
theorem amount_dma (q : DmaSem sig) (d : Fin 3) : (Rd O).amount (dmaC c q) 0 d = dmaAmt q := rfl
/-- The barrier's round is three units. -/
theorem expect_bar : (Rd O).expect (barC c) 0 = 3 := by
  unfold Schedule.expect Schedule.amountOf
  rw [duties_bar, Finset.sum_congr rfl fun d _ => amount_bar O c d]; rfl
/-- A copy's round is the copy's amount. -/
theorem expect_dma (q : DmaSem sig) (h : use q.val ≠ .none) : (Rd O).expect (dmaC c q) 0 = dmaAmt q := by
  unfold Schedule.expect Schedule.amountOf
  rw [duties_dma O c q h, Finset.sum_singleton]; rfl
/-- A signal at the barrier hands over the partner's slots. -/
theorem payload_bar (d : Fin 3) : (Rd O).payload (barC c) 0 d = barPay c d := rfl
/-- A copy hands over what it landed. -/
theorem payload_dma (q : DmaSem sig) (d : Fin 3) : (Rd O).payload (dmaC c q) 0 d = dmaPay O c q := rfl

/-- The whole round of the barrier: the slots of all three partners. -/
theorem rest_bar : bigSep ((Rd O).duties (barC c) 0 \ ∅) (fun d => (Rd O).payload (barC c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl
/-- The whole round of a copy: what it landed. -/
theorem rest_dma (q : DmaSem sig) (h : use q.val ≠ .none) :
    bigSep ((Rd O).duties (dmaC c q) 0 \ ∅) (fun d => (Rd O).payload (dmaC c q) 0 d) = dmaPay O c q := by
  rw [Finset.sdiff_empty, duties_dma O c q h, bigSep_singleton]; rfl

/-- A head's copy of the keys hands over the head, filled with the device's keys. -/
theorem pay_k (h) : dmaPay O c (kvS 0 h) = kPts c h (hd c (O c).k) := by unfold dmaPay; rw [use_kv]; rfl
/-- A head's copy of the values hands over the head, filled with the device's values. -/
theorem pay_v (h) : dmaPay O c (kvS 1 h) = vPts c h (hd c (O c).v) := by unfold dmaPay; rw [use_kv]; rfl
/-- The end of a send gives the transmit slot back. -/
theorem pay_s (p r) : dmaPay O c (sS p r) = tPts c p r (TX O c) := by unfold dmaPay; rw [use_s]
/-- What is received is the receive slot, filled with what the partner sent. -/
theorem pay_r (p r) : dmaPay O c (rS p r) = rPts c p r (RS O c) := by unfold dmaPay; rw [use_r]
/-- The end of a gathering's send gives the share of the device's own half back. -/
theorem pay_gs (p) : dmaPay O c (gsS p) = gPts c (ko p c) (hp p) fullShare.left (AG O c) := by unfold dmaPay; rw [use_gs]
/-- What a gathering receives is the other half, filled with the partner's finished rows. -/
theorem pay_gr (p) : dmaPay O c (grS p) = gPts c (so p c) (hp p) fullShare (AG O c) := by unfold dmaPay; rw [use_gr]
/-- A head's copy credits a head's amount. -/
theorem amt_kv (k h) : dmaAmt (kvS k h) = nk := by unfold dmaAmt; rw [use_kv]
/-- The send side of an exchange credits the part's amount. -/
theorem amt_s (p r) : dmaAmt (sS p r) = ne p := by unfold dmaAmt; rw [use_s]
/-- The receive side of an exchange credits the part's amount. -/
theorem amt_r (p r) : dmaAmt (rS p r) = ne p := by unfold dmaAmt; rw [use_r]
/-- The send side of a gathering credits the part's amount. -/
theorem amt_gs (p) : dmaAmt (gsS p) = ne p := by unfold dmaAmt; rw [use_gs]
/-- The receive side of a gathering credits the part's amount. -/
theorem amt_gr (p) : dmaAmt (grS p) = ne p := by unfold dmaAmt; rw [use_gr]
/-- The kernel uses the semaphores of the heads' copies. -/
theorem used_kv (k h) : use (kvS k h).val ≠ .none := by rw [use_kv]; exact nofun
/-- The kernel uses the send semaphores of the exchanges. -/
theorem used_s (p r) : use (sS p r).val ≠ .none := by rw [use_s]; exact nofun
/-- The kernel uses the receive semaphores of the exchanges. -/
theorem used_r (p r) : use (rS p r).val ≠ .none := by rw [use_r]; exact nofun
/-- The kernel uses the send semaphores of the gathering. -/
theorem used_gs (p) : use (gsS p).val ≠ .none := by rw [use_gs]; exact nofun
/-- The kernel uses the receive semaphores of the gathering. -/
theorem used_gr (p) : use (grS p).val ≠ .none := by rw [use_gr]; exact nofun

end Sched

/-! ## What a device owes, and the levels -/

/-- The credits a device is to pay onto its partners' cells, in the order it pays them: the partner's mask, the semaphore,
    how much. -/
def plan : List (Fin 3 × SemLoc sig × ℕ) :=
  [(0, .reg barS, 1), (1, .reg barS, 1), (2, .reg barS, 1),
   (dm 0 0, .dma (rS 0 0), ne 0), (dm 1 0, .dma (rS 1 0), ne 1), (dm 2 0, .dma (rS 2 0), ne 2),
   (dm 0 1, .dma (rS 0 1), ne 0), (dm 1 1, .dma (rS 1 1), ne 1), (dm 2 1, .dma (rS 2 1), ne 2),
   (dm 0 2, .dma (rS 0 2), ne 0), (dm 1 2, .dma (rS 1 2), ne 1), (dm 2 2, .dma (rS 2 2), ne 2),
   (dm 0 0, .dma (grS 0), ne 0), (dm 1 0, .dma (grS 1), ne 1), (dm 2 0, .dma (grS 2), ne 2)]

/-- The credits of a plan that device `c` owes. -/
def oweL (c : Dev nD) : List (Fin 3 × SemLoc sig × ℕ) → CellTallies nD τ sig Unit
  | [] => 0
  | x :: l => oweL c l + tallyAt ((px x.1 c : Thread nD τ), x.2.1) () x.2.2

def L (g : GSem nD τ sig) : Finset Unit := if g.1.2 = .tc then {()} else ∅
/-- Barrier cells at 1; the receive cells of the exchanges at 2, 3, 4 and those of the gathering at 5; everything else at 0. -/
def lvl : SemLoc sig → ℕ
  | .reg _ => 1
  | .dma q => match use q.val with | .rcv _ r => 2 + r.val | .grcv _ => 5 | _ => 0
def lv (g : GSem nD τ sig) (_ : Unit) : ℕ := lvl g.2

/-- Only the cells of the devices' main cores have a level. -/
theorem L_of_ne (g : GSem nD τ sig) (h : g.1.2 ≠ .tc) : L g = ∅ := if_neg h
/-- Every cell of a device's main core has one level. -/
theorem L_tc (c : Dev nD) (sm : SemLoc sig) : L ((c : Thread nD τ), sm) = {()} := if_pos rfl

/-- A cell to which a device owes something is in its plan. -/
theorem oweL_pos {c : Dev nD} {g : GSem nD τ sig} {u : Unit} :
    ∀ {l : List (Fin 3 × SemLoc sig × ℕ)}, 0 < oweL c l g u → ∃ x ∈ l, g = ((px x.1 c : Thread nD τ), x.2.1)
  | [], h => absurd h (Nat.lt_irrefl 0)
  | x :: l, h => by
    unfold oweL at h
    rw [Pi.add_apply, Finsupp.add_apply, tallyAt_apply] at h
    by_cases hg : g = ((px x.1 c : Thread nD τ), x.2.1) ∧ u = ()
    · exact ⟨x, List.mem_cons_self, hg.1⟩
    · rw [if_neg hg, Nat.add_zero] at h
      obtain ⟨y, hy, e⟩ := oweL_pos h
      exact ⟨y, List.mem_cons_of_mem _ hy, e⟩

/-- A device may wait on a semaphore whose level lies below those of all it owes. -/
theorem mayWait (c : Dev nD) (sm : SemLoc sig) (l : List (Fin 3 × SemLoc sig × ℕ)) (h : ∀ x ∈ l, lvl sm < lvl x.2.1) :
    (levAts L lv : sProp 𝕄) ⊢ MayWait (c : Thread nD τ) sm () (oweL c l) :=
  MayOwe.of_cut (L := L) (lev := lv) (lvl sm) (fun p hp => by rw [Finset.mem_singleton.mp hp, L_tc]; exact Finset.mem_singleton_self _)
    (fun g u hg => by obtain ⟨x, _, rfl⟩ := oweL_pos hg; rw [L_tc]; exact Finset.mem_singleton_self _)
    (fun p hp => by rw [Finset.mem_singleton.mp hp]; exact le_rfl)
    (fun g u hg => by obtain ⟨x, hx, rfl⟩ := oweL_pos hg; exact h x hx)

end Cert.KernelProof

end
-- ==== Proof.Moves.lean ====
/- # What the kernel's loads, stores and transfers move

For each view the kernel reads or writes, which elements it covers, what it reads, and what the buffer holds after it is
written. -/
module

public import proofs.«01_k».proof.Proof.Schedule
public import Idealize.ShloMosaic.Lib.ViewIndex

@[expose] public section

noncomputable section

namespace Cert.KernelProof

open Cert.KernelIdeal Cert.KernelIdeal.Gen
open Idealize.ShloMosaic Idealize.ShloMosaic.TcCoe Idealize.ShloMosaic.ValueIdx

variable {F : FTy → Type} [FloatOps F] [Named F]

/-! ## Views -/

/-- Contents written through a view agree, on what the view covers, with any contents the view reads as what was written. -/
theorem land {sp : Space} {s : Shape} {e : EltTy} {v : View sig .tc sp s e} {Val : EltTy → Type} (fd g : v.ty.Contents Val)
    (w : s.Idx → Val e) (h : ∀ j, w j = v.read Val g j) : ∀ i ∈ v.set, v.write Val fd w Finset.univ i = g i := by
  intro i hi
  obtain ⟨j, -, rfl⟩ := Finset.mem_map.mp hi
  exact View.eq_of_read_eq (by rw [View.read_write_of_mem fd w (Finset.mem_univ j), h j])

/-- Where a head's elements lie. -/
theorem k_emb {sp : Space} {e : EltTy} (v : View sig .tc sp S8x1024x128 e) (h : ℕ) (hh : h < 8)
    (inb : ∀ a, (![h, 0, 0] : Fin 3 → ℕ) a + S1x1024x128.size a ≤ S8x1024x128.size a) (hn) (x : Fin 1024) (y : Fin 128) :
    ((v.slice (Rect.unit (s := S8x1024x128) ![h, 0, 0] S1x1024x128.size inb)).reshape S1024x128 hn).emb (ix2 x y)
      = v.emb (ix3 (⟨h, hh⟩ : Fin 8) x y) := by
  rw [View.emb_reshape, View.emb_slice]
  show v.emb ((Rect.unit (s := S8x1024x128) ![h, 0, 0] S1x1024x128.size inb).emb (Shape.reshapeEquiv _ (ix2 x y))) = _
  rw [reshapeEquiv_ix2_1ab]
  refine congrArg _ (funext fun a => Fin.ext ?_)
  match a with
  | ⟨0, _⟩ => show h + 1 * 0 = h; omega
  | ⟨1, _⟩ => show 0 + 1 * x.val = x.val; omega
  | ⟨2, _⟩ => show 0 + 1 * y.val = y.val; omega

/-- A head's 1024 rows, seen as a matrix: row x, column y is element (0, x, 0, y). -/
theorem src_row (x : Fin 1024) (y : Fin 128) (hn : S1024x128.numel = S1x1024x1x128.numel) :
    Shape.reshapeEquiv hn (ix2 x y) = (ix4 (0 : Fin 1) x (0 : Fin 1) y : S1x1024x1x128.Idx) :=
  Shape.reshapeEquiv_eq_of_rowMajor hn (by
    rw [Shape.rowMajor_val_four, Shape.rowMajor_val_two]
    show ((0 * 1024 + x.val) * 1 + 0) * 128 + y.val = x.val * 128 + y.val
    omega)

/-- The copy of head h of device c begins at head 8 c + h of all the heads. -/
theorem off1_eq (c : Dev nD) (h : Fin 8) : k0_off1 c (BitVec.ofNat 32 h.val) = ![0, 0, 8 * c.val + h.val, 0] := by
  revert c h; decide

/-- The view of one head's rows, at row x and column y, is element (0, x, a, y) of the whole. -/
theorem src_emb {sp : Space} {e : EltTy} (v : View sig .tc sp S1x1024x64x128 e) (off : Fin 4 → ℕ) (a : ℕ) (ha : a < 64) (ho : off = ![0, 0, a, 0])
    (inb : ∀ i, off i + S1x1024x1x128.size i ≤ S1x1024x64x128.size i) (hn) (x : Fin 1024) (y : Fin 128) :
    ((v.slice (Rect.unit (s := S1x1024x64x128) off S1x1024x1x128.size inb)).reshape S1024x128 hn).emb (ix2 x y)
      = v.emb (ix4 (0 : Fin 1) x (⟨a, ha⟩ : Fin 64) y) := by
  subst ho
  rw [View.emb_reshape, View.emb_slice]
  show v.emb ((Rect.unit (s := S1x1024x64x128) ![0, 0, a, 0] S1x1024x1x128.size inb).emb (Shape.reshapeEquiv _ (ix2 x y))) = _
  rw [src_row]
  refine congrArg _ (funext fun b => Fin.ext ?_)
  match b with
  | ⟨0, _⟩ => rfl
  | ⟨1, _⟩ => show 0 + 1 * x.val = x.val; omega
  | ⟨2, _⟩ => show a + 1 * 0 = a; omega
  | ⟨3, _⟩ => show 0 + 1 * y.val = y.val; omega

/-- The elements of a head. -/
theorem k_set {sp : Space} {e : EltTy} (v : View sig .tc sp S8x1024x128 e) (h : Fin 8)
    (inb : ∀ a, (![h.val, 0, 0] : Fin 3 → ℕ) a + S1x1024x128.size a ≤ S8x1024x128.size a) (hn) :
    ((v.slice (Rect.unit (s := S8x1024x128) ![h.val, 0, 0] S1x1024x128.size inb)).reshape S1024x128 hn).set = (kSet h).map v.emb := by
  rw [View.set_reshape, View.set_slice]
  congr 1
  ext i
  rw [Rect.mem_set_unit]
  unfold kSet
  rw [Finset.mem_filter]
  constructor
  · intro H
    have := H 0
    refine ⟨Finset.mem_univ _, ?_⟩
    have h1 : h.val ≤ (i 0).val ∧ (i 0).val < h.val + 1 := this
    omega
  · rintro ⟨-, H⟩ a
    match a with
    | ⟨0, _⟩ => show h.val ≤ (i 0).val ∧ (i 0).val < h.val + 1; omega
    | ⟨1, _⟩ => exact ⟨Nat.zero_le _, by have := (i 1).isLt; show (i 1).val < 0 + 1024; change (i 1).val < 1024 at this; omega⟩
    | ⟨2, _⟩ => exact ⟨Nat.zero_le _, by have := (i 2).isLt; show (i 2).val < 0 + 128; change (i 2).val < 128 at this; omega⟩

/-- A slot of the exchange buffers. -/
theorem e_rect (p r n : ℕ) (hp' : p < 3) (hr : r < 3) (hn : n ≤ 192)
    (inb : ∀ a, (![p, r, 0, 0] : Fin 4 → ℕ) a + (![1, 1, n, 1024] : Fin 4 → ℕ) a ≤ S3x3x192x1024.size a) (x : Fin n) (y : Fin 1024) :
    (Rect.unit (s := S3x3x192x1024) ![p, r, 0, 0] ![1, 1, n, 1024] inb).emb (ix4 (0 : Fin 1) (0 : Fin 1) x y)
      = ix4 (⟨p, hp'⟩ : Fin 3) (⟨r, hr⟩ : Fin 3) (⟨x.val, lt_of_lt_of_le x.isLt hn⟩ : Fin 192) y := by
  refine funext fun a => Fin.ext ?_
  match a with
  | ⟨0, _⟩ => show p + 1 * 0 = p; omega
  | ⟨1, _⟩ => show r + 1 * 0 = r; omega
  | ⟨2, _⟩ => show 0 + 1 * x.val = x.val; omega
  | ⟨3, _⟩ => show 0 + 1 * y.val = y.val; omega

/-- The view of the first n rows of slot (p, r), at row x and column y, is element (p, r, x, y). -/
theorem e_emb {sp : Space} {e : EltTy} (v : View sig .tc sp S3x3x192x1024 e) (p r n : ℕ) (hp' : p < 3) (hr : r < 3) (hn : n ≤ 192)
    (inb : ∀ a, (![p, r, 0, 0] : Fin 4 → ℕ) a + (![1, 1, n, 1024] : Fin 4 → ℕ) a ≤ S3x3x192x1024.size a) (h) (x : Fin n) (y : Fin 1024) :
    ((v.slice (Rect.unit (s := S3x3x192x1024) ![p, r, 0, 0] ![1, 1, n, 1024] inb)).reshape ⟨2, ![n, 1024]⟩ h).emb (ix2 x y)
      = v.emb (ix4 (⟨p, hp'⟩ : Fin 3) (⟨r, hr⟩ : Fin 3) (⟨x.val, lt_of_lt_of_le x.isLt hn⟩ : Fin 192) y) := by
  rw [View.emb_reshape, View.emb_slice]
  show v.emb ((Rect.unit (s := S3x3x192x1024) ![p, r, 0, 0] ![1, 1, n, 1024] inb).emb (Shape.reshapeEquiv _ (ix2 x y))) = _
  rw [reshapeEquiv_ix2_11ab]
  exact congrArg _ (e_rect p r n hp' hr hn inb x y)

/-- The rectangle of slot (p, r) covers the slot's rows. -/
theorem e_rset (p r : Fin 3) (n : ℕ) (hn : n = hp p)
    (inb : ∀ a, (![p.val, r.val, 0, 0] : Fin 4 → ℕ) a + (![1, 1, n, 1024] : Fin 4 → ℕ) a ≤ S3x3x192x1024.size a) :
    (Rect.unit (s := S3x3x192x1024) ![p.val, r.val, 0, 0] ![1, 1, n, 1024] inb).set = eSet p r := by
  subst hn
  ext i
  rw [Rect.mem_set_unit]
  unfold eSet
  rw [Finset.mem_filter]
  constructor
  · intro H
    have h0 : p.val ≤ (i 0).val ∧ (i 0).val < p.val + 1 := H 0
    have h1 : r.val ≤ (i 1).val ∧ (i 1).val < r.val + 1 := H 1
    have h2 : 0 ≤ (i 2).val ∧ (i 2).val < 0 + hp p := H 2
    exact ⟨Finset.mem_univ _, by omega, by omega, by omega⟩
  · rintro ⟨-, h0, h1, h2⟩ a
    match a with
    | ⟨0, _⟩ => show p.val ≤ (i 0).val ∧ (i 0).val < p.val + 1; omega
    | ⟨1, _⟩ => show r.val ≤ (i 1).val ∧ (i 1).val < r.val + 1; omega
    | ⟨2, _⟩ => show 0 ≤ (i 2).val ∧ (i 2).val < 0 + hp p; omega
    | ⟨3, _⟩ => exact ⟨Nat.zero_le _, by have := (i 3).isLt; show (i 3).val < 0 + 1024; change (i 3).val < 1024 at this; omega⟩

/-- A view of that rectangle covers the slot's rows. -/
theorem e_set {sp : Space} {e : EltTy} (v : View sig .tc sp S3x3x192x1024 e) (p r : Fin 3) (n : ℕ) (hn : n = hp p)
    (inb : ∀ a, (![p.val, r.val, 0, 0] : Fin 4 → ℕ) a + (![1, 1, n, 1024] : Fin 4 → ℕ) a ≤ S3x3x192x1024.size a) (h) :
    ((v.slice (Rect.unit (s := S3x3x192x1024) ![p.val, r.val, 0, 0] ![1, 1, n, 1024] inb)).reshape ⟨2, ![n, 1024]⟩ h).set = (eSet p r).map v.emb := by
  rw [View.set_reshape, View.set_slice, e_rset p r n hn]

/-- Rows of a square buffer. -/
theorem g_rect (off : Fin 2 → ℕ) (a n : ℕ) (ho : off = ![a, 0]) (han : a + n ≤ 1024)
    (inb : ∀ i, off i + (![n, 1024] : Fin 2 → ℕ) i ≤ S1024x1024.size i) (x : Fin n) (y : Fin 1024) :
    (Rect.unit (s := S1024x1024) off ![n, 1024] inb).emb (ix2 x y) = sq (a + x.val) y.val := by
  subst ho
  refine funext fun i => Fin.ext ?_
  have hx := x.isLt
  have hy := y.isLt
  match i with
  | ⟨0, _⟩ => show a + 1 * x.val = (a + x.val) % 1024; rw [Nat.mod_eq_of_lt (by omega)]; omega
  | ⟨1, _⟩ => show 0 + 1 * y.val = y.val % 1024; rw [Nat.mod_eq_of_lt (by omega)]; omega

/-- The rectangle of n rows from row a covers those rows. -/
theorem g_rset (off : Fin 2 → ℕ) (a n : ℕ) (ho : off = ![a, 0])
    (inb : ∀ i, off i + (![n, 1024] : Fin 2 → ℕ) i ≤ S1024x1024.size i) :
    (Rect.unit (s := S1024x1024) off ![n, 1024] inb).set = gSet a n := by
  subst ho
  ext i
  rw [Rect.mem_set_unit]
  unfold gSet
  rw [Finset.mem_filter]
  constructor
  · intro H
    exact ⟨Finset.mem_univ _, H 0⟩
  · rintro ⟨-, h0⟩ j
    match j with
    | ⟨0, _⟩ => exact h0
    | ⟨1, _⟩ => exact ⟨Nat.zero_le _, by have := (i 1).isLt; show (i 1).val < 0 + 1024; change (i 1).val < 1024 at this; omega⟩

/-- To prove something of every index of a matrix it is enough to prove it of every pair of coordinates. -/
theorem ix2_cases {a b : ℕ} {P : (⟨2, ![a, b]⟩ : Shape).Idx → Prop} (h : ∀ (x : Fin a) (y : Fin b), P (ix2 x y)) : ∀ j, P j :=
  fun j => by rw [eq_ix2 j]; exact h _ _
/-- The same of an array whose first two sides are 1. -/
theorem ix4_cases {n m : ℕ} {P : (⟨4, ![1, 1, n, m]⟩ : Shape).Idx → Prop} (h : ∀ (x : Fin n) (y : Fin m), P (ix4 (0 : Fin 1) (0 : Fin 1) x y)) : ∀ j, P j :=
  fun j => by
    rw [eq_ix4 j, show j 0 = (0 : Fin 1) from Subsingleton.elim (α := Fin 1) _ _, show j 1 = (0 : Fin 1) from Subsingleton.elim (α := Fin 1) _ _]
    exact h _ _

/-- Two row-major coordinates within bounds are those of the index they make. -/
theorem sq_0 {i j : ℕ} (h : i < 1024) : ((sq i j) 0).val = i := Nat.mod_eq_of_lt h
/-- A column below 1024 is itself. -/
theorem sq_1 {i j : ℕ} (h : j < 1024) : ((sq i j) 1).val = j := Nat.mod_eq_of_lt h
/-- An index is the index at its own coordinates. -/
theorem sq_self (i : S1024x1024.Idx) : sq (i 0).val (i 1).val = i := by
  rw [eq_ix2 i]
  refine funext fun a => Fin.ext ?_
  match a with
  | ⟨0, _⟩ => exact Nat.mod_eq_of_lt (i 0).isLt
  | ⟨1, _⟩ => exact Nat.mod_eq_of_lt (i 1).isLt

/-! ## The payloads, element by element -/

section
variable {n : ℕ}

/-- A matrix seen as an array with two more sides of 1: the same elements. -/
theorem sc24 {α : Type} (v : (⟨2, ![n, 1024]⟩ : Shape).Idx → α) (h) (x : Fin n) (y : Fin 1024) :
    shapeCast ⟨4, ![1, 1, n, 1024]⟩ v h (ix4 (0 : Fin 1) (0 : Fin 1) x y) = v (ix2 x y) :=
  shapeCast_apply v h _ _ (by
    rw [Shape.rowMajor_val_four, Shape.rowMajor_val_two]
    show x.val * 1024 + y.val = ((0 * 1 + 0) * n + x.val) * 1024 + y.val
    omega)
/-- And back. -/
theorem sc42 {α : Type} (v : (⟨4, ![1, 1, n, 1024]⟩ : Shape).Idx → α) (h) (x : Fin n) (y : Fin 1024) :
    shapeCast ⟨2, ![n, 1024]⟩ v h (ix2 x y) = v (ix4 (0 : Fin 1) (0 : Fin 1) x y) :=
  shapeCast_apply v h _ _ (by
    rw [Shape.rowMajor_val_four, Shape.rowMajor_val_two]
    show ((0 * 1 + 0) * n + x.val) * 1024 + y.val = x.val * 1024 + y.val
    omega)

/-- What is stored for sending: the rows, rounded. -/
theorem tx_apply (v : FVec F ⟨2, ![n, 1024]⟩ .f32) (h) (x : Fin n) (y : Fin 1024) :
    shapeCast ⟨4, ![1, 1, n, 1024]⟩ (truncf .bf16 v bitsLt_bf16_f32) h (ix4 (0 : Fin 1) (0 : Fin 1) x y) = nar (v (ix2 x y)) :=
  sc24 _ h x y
/-- An update: the rows plus what was received, widened. -/
theorem upd_apply (v : FVec F ⟨2, ![n, 1024]⟩ .f32) (r : FVec F ⟨4, ![1, 1, n, 1024]⟩ .bf16) (h h') (x : Fin n) (y : Fin 1024) :
    shapeCast ⟨2, ![n, 1024]⟩ (addf v (extf .f32 (shapeCast ⟨2, ![n, 1024]⟩ r h) bitsLt_bf16_f32)) h' (ix2 x y)
      = FloatOps.addf (v (ix2 x y)) (wid (r (ix4 (0 : Fin 1) (0 : Fin 1) x y))) := by
  rw [shapeCast_self]
  show FloatOps.addf (v (ix2 x y)) (wid (shapeCast ⟨2, ![n, 1024]⟩ r h (ix2 x y))) = _
  rw [sc42]
/-- What is stored for gathering: the rows, rounded. -/
theorem ag_apply (v : FVec F ⟨2, ![n, 1024]⟩ .f32) (h) (x : Fin n) (y : Fin 1024) :
    shapeCast ⟨2, ![n, 1024]⟩ (truncf .bf16 v bitsLt_bf16_f32) h (ix2 x y) = nar (v (ix2 x y)) := by
  rw [shapeCast_self]; rfl

end

/-! ## Contents -/

/-- A row lies inside its part. -/
theorem part_lt (i : ℕ) (hi : i < 1024) : po (part i) ≤ i ∧ i < po (part i) + 2 * hp (part i) := by
  unfold part
  split
  · refine ⟨Nat.zero_le _, ?_⟩; show i < 0 + 2 * 192; omega
  · split
    · exact ⟨by show 384 ≤ i; omega, by show i < 384 + 2 * 192; omega⟩
    · exact ⟨by show 768 ≤ i; omega, by show i < 768 + 2 * 128; omega⟩

/-- A row inside a part has that part. -/
theorem part_eq (p : Fin 3) (i : ℕ) (h1 : po p ≤ i) (h2 : i < po p + 2 * hp p) : part i = p := by
  unfold part
  fin_cases p
  · rw [if_pos (show i < 384 from by change i < 0 + 2 * 192 at h2; omega)]; rfl
  · change 384 ≤ i at h1; change i < 384 + 2 * 192 at h2
    rw [if_neg (by omega), if_pos (by omega)]; rfl
  · change 768 ≤ i at h1
    rw [if_neg (by omega), if_neg (by omega)]; rfl

/-- The half kept lies inside its part. -/
theorem ko_range (p : Fin 3) (c : Dev nD) : po p ≤ ko p c ∧ ko p c + hp p ≤ po p + 2 * hp p := by revert p c; decide
/-- The half sent lies inside its part. -/
theorem so_range (p : Fin 3) (c : Dev nD) : po p ≤ so p c ∧ so p c + hp p ≤ po p + 2 * hp p := by revert p c; decide
/-- One of the two halves is the lower and the other the upper. -/
theorem ko_so (p : Fin 3) (c : Dev nD) : (ko p c = po p ∧ so p c = po p + hp p) ∨ (so p c = po p ∧ ko p c = po p + hp p) := by revert p c; decide

/-- A row of the half kept is of its part. -/
theorem part_ko (p : Fin 3) (c : Dev nD) (i : ℕ) (h : ko p c ≤ i ∧ i < ko p c + hp p) : part i = p := by
  have := ko_range p c; exact part_eq p i (by omega) (by omega)
/-- A row of the half sent is of its part. -/
theorem part_so (p : Fin 3) (c : Dev nD) (i : ℕ) (h : so p c ≤ i ∧ i < so p c + hp p) : part i = p := by
  have := so_range p c; exact part_eq p i (by omega) (by omega)
/-- No row is in both halves. -/
theorem not_ko_of_so (p : Fin 3) (c : Dev nD) (i : ℕ) (h : so p c ≤ i ∧ i < so p c + hp p) : ¬ (ko p c ≤ i ∧ i < ko p c + hp p) := by
  have := ko_so p c; omega

section
variable (O : Dev nD → Ops F) (c : Dev nD)

/-- Before the first band the accumulator is as it was. -/
theorem accB_0 (f : FVec F S1024x1024 .f32) : accB (O c) c 0 f = f := funext fun i => if_neg (by omega)
/-- After the four bands it is the device's product. -/
theorem accB_4 (f : FVec F S1024x1024 .f32) : accB (O c) c 4 f = acc (O c) c :=
  funext fun i => if_pos (by have := (i 0).isLt; change (i 0).val < 1024 at this; omega)

/-- Before any exchange the accumulator is the device's product. -/
theorem AS_zero : AS O c (fun _ => 0) = acc (O c) c := by
  funext i
  unfold AS
  split
  · rename_i h
    show s0 O _ c _ _ = _
    unfold s0
    rw [Nat.add_sub_cancel' h.1, sq_self]
  · rfl

/-- In the half kept the accumulator holds the sum that its exchanges have made. -/
theorem AS_keep (n : Fin 3 → ℕ) (p : Fin 3) (x y : ℕ) (hx : x < hp p) (hy : y < 1024) :
    AS O c n (sq (ko p c + x) y) = sv O (n p) p c x y := by
  have hk := ko_le p c
  have hi : ((sq (ko p c + x) y) 0).val = ko p c + x := sq_0 (by omega)
  have hj : ((sq (ko p c + x) y) 1).val = y := sq_1 hy
  unfold AS
  rw [hi, hj, part_ko p c (ko p c + x) (by omega), if_pos (by omega), Nat.add_sub_cancel_left]

/-- An exchange of one part changes no row outside that part's kept half. -/
theorem AS_congr (n n' : Fin 3 → ℕ) (p : Fin 3) (hn : ∀ p', p' ≠ p → n p' = n' p') (i : S1024x1024.Idx)
    (h : ¬ (ko p c ≤ (i 0).val ∧ (i 0).val < ko p c + hp p)) : AS O c n i = AS O c n' i := by
  unfold AS
  by_cases hk : ko (part (i 0).val) c ≤ (i 0).val ∧ (i 0).val < ko (part (i 0).val) c + hp (part (i 0).val)
  · rw [if_pos hk, if_pos hk, hn]
    intro e; rw [e] at hk; exact h hk
  · rw [if_neg hk, if_neg hk]

/-- The device's own half of the gathered rows is its finished sum, rounded. -/
theorem AG_keep (p : Fin 3) (x y : ℕ) (hx : x < hp p) (hy : y < 1024) : AG O c (sq (ko p c + x) y) = nar (s3 O p c x y) := by
  have hk := ko_le p c
  have hi : ((sq (ko p c + x) y) 0).val = ko p c + x := sq_0 (by omega)
  have hj : ((sq (ko p c + x) y) 1).val = y := sq_1 hy
  unfold AG
  rw [hi, hj, part_ko p c (ko p c + x) (by omega), if_pos (by omega), Nat.add_sub_cancel_left]
/-- The other half is the first partner's finished sum, rounded. -/
theorem AG_send (p : Fin 3) (x y : ℕ) (hx : x < hp p) (hy : y < 1024) : AG O c (sq (so p c + x) y) = nar (s3 O p (pr p 0 c) x y) := by
  have hk := so_le p c
  have hi : ((sq (so p c + x) y) 0).val = so p c + x := sq_0 (by omega)
  have hj : ((sq (so p c + x) y) 1).val = y := sq_1 hy
  unfold AG
  rw [hi, hj, part_so p c (so p c + x) (by omega), if_neg (not_ko_of_so p c _ (by omega)), Nat.add_sub_cancel_left]

end

end Cert.KernelProof

end
-- ==== Proof.Steps.lean ====
/- # The kernel's steps

One rule for each kind of step of the kernel - a head's copy and the wait for it, an exchange's transfer and the two waits for
it, the same for the gathering, the barrier's signals and its wait - over what a device holds at each stage. -/
module

public import proofs.«01_k».proof.Proof.Moves

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- The weakest precondition of a stretch of device `c`'s kernel. -/
abbrev wpc {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

variable (O : Dev nD → Ops F) (c : Dev nD)

/-! ## The cells' records -/

/-- The semaphores of the kernel: its own 52 and the barrier's. -/
def csem (k : Fin 53) : SemLoc sig := if h : k.val < 52 then .dma ⟨4 + k.val, by show _ < 56; omega⟩ else .reg barS
abbrev kcell (ck : Dev nD × Fin 53) : GSem nD τ sig := ((ck.1 : Thread nD τ), csem ck.2)

def rec1 (g : GSem nD τ sig) : sProp 𝕄 := iprop((∃ κ : ℕ, cellInv ER (Rd O) κ g) ∗ reached ER g 0)
/-- A cell's record may be used again and again. -/
instance rec1_persistent (g : GSem nD τ sig) : BI.Persistent (rec1 O g) := by unfold rec1; infer_instance
/-- Every cell of every device: its invariant, and that it has reached its round. -/
def recs : sProp 𝕄 := bigSep Finset.univ fun ck : Dev nD × Fin 53 => rec1 O (kcell ck)
/-- All the records may be used again and again. -/
instance recs_persistent : BI.Persistent (recs O) := by unfold recs; infer_instance

/-- The record of one cell, from all of them. -/
theorem recs_at (ck : Dev nD × Fin 53) : recs O ⊢ rec1 O (kcell ck) := bigSep_elim (Finset.mem_univ ck)
/-- The record of a device's barrier. -/
theorem recs_bar : recs O ⊢ rec1 O (barC c) := by
  have h := recs_at O (c, 52)
  rw [show kcell (c, 52) = barC c from rfl] at h; exact h
/-- The record of one of a device's copy semaphores. -/
theorem recs_dma (q : DmaSem sig) (hq : 4 ≤ q.val) : recs O ⊢ rec1 O (dmaC c q) := by
  have hq' : q.val < 56 := q.isLt
  have h := recs_at O (c, (⟨q.val - 4, by omega⟩ : Fin 53))
  rw [show kcell (c, (⟨q.val - 4, by omega⟩ : Fin 53)) = dmaC c q from by
    unfold kcell csem
    rw [dif_pos (show q.val - 4 < 52 by omega)]
    refine congrArg (fun x => ((c : Thread nD τ), SemLoc.dma x)) (Fin.ext ?_)
    show 4 + (q.val - 4) = q.val
    omega] at h
  exact h

/-- What a device owes, its waits forgotten; a cell none of whose rounds is to come. -/
def ow (l : List (Fin 3 × SemLoc sig × ℕ)) : sProp 𝕄 := iprop(∃ W, owes (c : Thread nD τ) (oweL c l) W)
def fin (sm : SemLoc sig) : sProp 𝕄 := iprop(∃ R : ℕ, ⌜∀ r, R ≤ r → (Rd O).duties ((c : Thread nD τ), sm) r = ∅⌝ ∗ atPos ER ((c : Thread nD τ), sm) R ∅ 0)

/-- A cell whose one round is over has no round to come. -/
theorem fin_done (sm : SemLoc sig) : (atPos ER ((c : Thread nD τ), sm) (0 + 1) ∅ 0 : sProp 𝕄) ⊢ fin O c sm := by
  unfold fin
  iintro H
  iexists (0 + 1)
  isplitr
  · ipureintro; exact fun r hr => duties_later O _ r hr
  iexact H

/-! ## Waiting -/

/-- A wait on a copy's semaphore: the credit is spent, and what the copy landed is handed over. -/
theorem wait_dma {α : Type} {Q : α → sProp 𝕄} {k : PUnit → Prog (TpuEff nD τ sig (Elt F) Λ₀ .tc) α}
    {sp sp' : Space} {s s' : Shape} {e e' : EltTy} {src : Memref sig .tc sp' s' e'} {dst : Memref sig .tc sp s e} {h1 h2}
    {sem : DmaSem sig} (q : DmaSem sig) (hs : sem = q) (hq : 4 ≤ q.val) (hu : use q.val ≠ .none) (n : ℕ) (hn : dmaAmt q = n)
    (hN : dst.view.dmaCredit = n) (l : List (Fin 3 × SemLoc sig × ℕ)) (hl : ∀ x ∈ l, lvl (.dma q) < lvl x.2.1) :
    iprop(recs O ∗ levAts L lv ∗ cred (tallyAt (dmaC c q) () n) ∗ ow c l ∗ atPos ER (dmaC c q) 0 ∅ 0)
      ⊢ iprop(((ow c l ∗ fin O c (.dma q) ∗ dmaPay O c q) -∗ wpc c (k ⟨⟩) Q)
          -∗ wpc c (.op (.waitDma2 sem src dst h1 h2) k) Q) := by
  subst hs hn
  unfold ow
  iintro ⟨#HR, #Hlev, Hc, ⟨%W, HO⟩, Hat⟩ Hk
  ihave Hr := (recs_dma O c sem hq) $$ HR
  unfold rec1
  icases Hr with ⟨⟨%κ, #HI⟩, -⟩
  iapply (Rounds.wp_wait_rest_token 𝒱₀ ER (Rd O) (c : Thread nD τ) none (κ := κ)
      (wpE_waitDma2_eq 𝒱₀ (c : Thread nD τ) none Set.univ) (Set.mem_univ _) () (O := oweL c l) (W := W) (R := 0) (m := 0) (T := ∅)
      (by rw [Nat.zero_add, expect_dma O c sem hu, hN])) $$ [Hc HO Hat]
  · isplitr; · iexact HI
    isplitl [Hc]; · rw [hN]; iexact Hc
    isplitl [HO]; · iexact HO
    isplitr; · iapply (mayWait c (.dma sem) l hl); iexact Hlev
    iexact Hat
  iintro ⟨HO, Hat, -, Hpay⟩
  ihave Hp := (Entails.of_eq (rest_dma O c sem hu)) $$ Hpay
  iapply Hk
  isplitl [HO]; · iexists _; iexact HO
  isplitl [Hat]; · iapply (fin_done O c _); iexact Hat
  iexact Hp

/-! ## Slots and their stages -/

/-- To change one state of many, take it out and put the new one back. -/
theorem bigSep_upd {I : Type} [Fintype I] [DecidableEq I] (Φ : I → ℕ → sProp 𝕄) (st : I → ℕ) (i : I) :
    bigSep Finset.univ (fun j => Φ j (st j)) ⊢ iprop(Φ i (st i) ∗ (∀ n, Φ i n -∗ bigSep Finset.univ (fun j => Φ j (Function.update st i n j)))) := by
  rw [bigSep_univ_at _ i]
  iintro ⟨H, HR⟩
  isplitl [H]; · iexact H
  iintro %n H
  rw [bigSep_univ_at _ i, Function.update_self, bigSep_congr (s := Finset.univ.erase i) (Φ := fun j => Φ j (Function.update st i n j)) (Ψ := fun j => Φ j (st j))
    (fun j hj => by rw [Function.update_of_ne (Finset.ne_of_mem_erase hj)])]
  isplitl [H] <;> iassumption

/-- A head's copy: to be issued, in flight, landed. -/
def kvSlot (kh : Fin 2 × Fin 8) (n : ℕ) : sProp 𝕄 :=
  match n with
  | 0 => iprop(dutyTok ER (dmaC c (kvS kh.1 kh.2)) 0 0 ∗ atPos ER (dmaC c (kvS kh.1 kh.2)) 0 ∅ 0
      ∗ (if kh.1 = 0 then iprop(∃ f, kPts (F := F) c kh.2 f) else iprop(∃ f, vPts (F := F) c kh.2 f))
      ∗ (if kh.1 = 0 then iprop(∃ q, ((c : Thread nD τ).loc main_arg2) ↦{q} (O c).k) else iprop(∃ q, ((c : Thread nD τ).loc main_arg3) ↦{q} (O c).v)))
  | 1 => iprop(cred (tallyAt (dmaC c (kvS kh.1 kh.2)) () nk) ∗ atPos ER (dmaC c (kvS kh.1 kh.2)) 0 ∅ 0)
  | _ => iprop(fin O c (.dma (kvS kh.1 kh.2)) ∗ dmaPay O c (kvS kh.1 kh.2))
def KV (st : Fin 2 × Fin 8 → ℕ) : sProp 𝕄 := bigSep Finset.univ fun kh => kvSlot O c kh (st kh)

/-- An exchange: its transmit slot to be filled, filled, sent; what it receives received; both. -/
def xSlot (pr' : Fin 3 × Fin 3) (n : ℕ) : sProp 𝕄 :=
  let p := pr'.1
  let r := pr'.2
  match n with
  | 0 => iprop(dutyTok ER (dmaC c (sS p r)) 0 0 ∗ dutyTok ER (dmaC (pr p r c) (rS p r)) 0 0 ∗ (∃ f, rPts (F := F) (pr p r c) p r f)
      ∗ (∃ f, tPts (F := F) c p r f)
      ∗ atPos ER (dmaC c (sS p r)) 0 ∅ 0 ∗ atPos ER (dmaC c (rS p r)) 0 ∅ 0 ∗ cred (tallyAt (dmaC c (rS p r)) () (ne p)))
  | 1 => iprop(dutyTok ER (dmaC c (sS p r)) 0 0 ∗ dutyTok ER (dmaC (pr p r c) (rS p r)) 0 0 ∗ (∃ f, rPts (F := F) (pr p r c) p r f)
      ∗ tPts c p r (TX O c)
      ∗ atPos ER (dmaC c (sS p r)) 0 ∅ 0 ∗ atPos ER (dmaC c (rS p r)) 0 ∅ 0 ∗ cred (tallyAt (dmaC c (rS p r)) () (ne p)))
  | 2 => iprop(cred (tallyAt (dmaC c (sS p r)) () (ne p)) ∗ atPos ER (dmaC c (sS p r)) 0 ∅ 0
      ∗ atPos ER (dmaC c (rS p r)) 0 ∅ 0 ∗ cred (tallyAt (dmaC c (rS p r)) () (ne p)))
  | 3 => iprop(cred (tallyAt (dmaC c (sS p r)) () (ne p)) ∗ atPos ER (dmaC c (sS p r)) 0 ∅ 0
      ∗ fin O c (.dma (rS p r)) ∗ rPts c p r (RS O c))
  | _ => iprop(fin O c (.dma (sS p r)) ∗ tPts c p r (TX O c) ∗ fin O c (.dma (rS p r)) ∗ rPts c p r (RS O c))
def X (st : Fin 3 × Fin 3 → ℕ) : sProp 𝕄 := bigSep Finset.univ fun pr' => xSlot O c pr' (st pr')

/-- The gathering of a part: the device's half to be filled, filled, sent; the partner's received; both. -/
def gSlot (p : Fin 3) (n : ℕ) : sProp 𝕄 :=
  match n with
  | 0 => iprop(dutyTok ER (dmaC c (gsS p)) 0 0 ∗ dutyTok ER (dmaC (pr p 0 c) (grS p)) 0 0
      ∗ (∃ f, gPts (F := F) (pr p 0 c) (so p (pr p 0 c)) (hp p) fullShare f)
      ∗ (∃ f, gPts (F := F) c (ko p c) (hp p) fullShare f)
      ∗ atPos ER (dmaC c (gsS p)) 0 ∅ 0 ∗ atPos ER (dmaC c (grS p)) 0 ∅ 0 ∗ cred (tallyAt (dmaC c (grS p)) () (ne p)))
  | 1 => iprop(dutyTok ER (dmaC c (gsS p)) 0 0 ∗ dutyTok ER (dmaC (pr p 0 c) (grS p)) 0 0
      ∗ (∃ f, gPts (F := F) (pr p 0 c) (so p (pr p 0 c)) (hp p) fullShare f)
      ∗ gPts c (ko p c) (hp p) fullShare (AG O c)
      ∗ atPos ER (dmaC c (gsS p)) 0 ∅ 0 ∗ atPos ER (dmaC c (grS p)) 0 ∅ 0 ∗ cred (tallyAt (dmaC c (grS p)) () (ne p)))
  | 2 => iprop(cred (tallyAt (dmaC c (gsS p)) () (ne p)) ∗ atPos ER (dmaC c (gsS p)) 0 ∅ 0
      ∗ gPts c (ko p c) (hp p) fullShare.right (AG O c)
      ∗ atPos ER (dmaC c (grS p)) 0 ∅ 0 ∗ cred (tallyAt (dmaC c (grS p)) () (ne p)))
  | 3 => iprop(cred (tallyAt (dmaC c (gsS p)) () (ne p)) ∗ atPos ER (dmaC c (gsS p)) 0 ∅ 0
      ∗ gPts c (ko p c) (hp p) fullShare.right (AG O c) ∗ fin O c (.dma (grS p)) ∗ gPts c (so p c) (hp p) fullShare (AG O c))
  | _ => iprop(fin O c (.dma (gsS p)) ∗ gPts c (ko p c) (hp p) fullShare.left (AG O c)
      ∗ gPts c (ko p c) (hp p) fullShare.right (AG O c) ∗ fin O c (.dma (grS p)) ∗ gPts c (so p c) (hp p) fullShare (AG O c))
def GA (st : Fin 3 → ℕ) : sProp 𝕄 := bigSep Finset.univ fun p => gSlot O c p (st p)

/-! ## The copies of the keys and the values -/

/-- A head lies inside the buffer of heads. -/
theorem kinb (h : Fin 8) : ∀ a, (![h.val, 0, 0] : Fin 3 → ℕ) a + S1x1024x128.size a ≤ S8x1024x128.size a := by
  revert h; decide
/-- A device's head lies inside the array of all heads. -/
theorem sinb (h : Fin 8) : ∀ a, k0_off1 c (BitVec.ofNat 32 h.val) a + S1x1024x1x128.size a ≤ S1x1024x64x128.size a := k0_off1_inb c h

def kDst (h : Fin 8) : Memref sig .tc .vmem S1024x128 .f32 :=
  ((Memref.whole cc0_scratch1 : Memref sig .tc .vmem S8x1024x128 .f32).slice (Rect.unit (s := S8x1024x128) ![h.val, 0, 0] S1x1024x128.size (kinb h)) (fun _ => rfl)).squeeze S1024x128 squeezes_S1x1024x128_S1024x128
def vDst (h : Fin 8) : Memref sig .tc .vmem S1024x128 .f32 :=
  ((Memref.whole cc0_scratch2 : Memref sig .tc .vmem S8x1024x128 .f32).slice (Rect.unit (s := S8x1024x128) ![h.val, 0, 0] S1x1024x128.size (kinb h)) (fun _ => rfl)).squeeze S1024x128 squeezes_S1x1024x128_S1024x128
def kSrc (h : Fin 8) : Memref sig .tc .hbm S1024x128 .f32 :=
  ((Memref.whole main_arg2 : Memref sig .tc .hbm S1x1024x64x128 .f32).slice (Rect.unit (s := S1x1024x64x128) (k0_off1 c (BitVec.ofNat 32 h.val)) S1x1024x1x128.size (sinb c h)) (fun _ => rfl)).squeeze S1024x128 squeezes_S1x1024x1x128_S1024x128
def vSrc (h : Fin 8) : Memref sig .tc .hbm S1024x128 .f32 :=
  ((Memref.whole main_arg3 : Memref sig .tc .hbm S1x1024x64x128 .f32).slice (Rect.unit (s := S1x1024x64x128) (k0_off1 c (BitVec.ofNat 32 h.val)) S1x1024x1x128.size (sinb c h)) (fun _ => rfl)).squeeze S1024x128 squeezes_S1x1024x1x128_S1024x128

/-- A copy of keys fills its head. -/
theorem kDst_set (h : Fin 8) : (kDst h).view.set = kSet h := by
  have := k_set (View.whole cc0_scratch1) h (kinb h) squeezes_S1x1024x128_S1024x128.numel_eq
  rw [View.emb_whole] at this
  exact this.trans Finset.map_refl
/-- A copy of values fills its head. -/
theorem vDst_set (h : Fin 8) : (vDst h).view.set = kSet h := by
  have := k_set (View.whole cc0_scratch2) h (kinb h) squeezes_S1x1024x128_S1024x128.numel_eq
  rw [View.emb_whole] at this
  exact this.trans Finset.map_refl

/-- Head h of device c, at a row and a column, is head 8 c + h of all. -/
theorem hd_at (h : Fin 8) (f : FVec F S1x1024x64x128 .f32) (x : Fin 1024) (y : Fin 128) (hl : 8 * c.val + h.val < 64) :
    hd c f (ix3 h x y) = f (ix4 (0 : Fin 1) x (⟨8 * c.val + h.val, hl⟩ : Fin 64) y) := by
  unfold hd
  refine congrArg f (funext fun a => ?_)
  match a with
  | ⟨0, _⟩ => rfl
  | ⟨1, _⟩ => rfl
  | ⟨2, _⟩ => exact Fin.ext (Nat.mod_eq_of_lt hl)
  | ⟨3, _⟩ => rfl

/-- A device's heads are among the 64. -/
theorem hl (h : Fin 8) : 8 * c.val + h.val < 64 := by
  have := c.isLt; have := h.isLt; change c.val < 8 at *; omega

/-- What a copy of keys lands is the device's head of the keys. -/
theorem k_land (h : Fin 8) (fd : FVec F S8x1024x128 .f32) (f : FVec F S1x1024x64x128 .f32) :
    ∀ i ∈ kSet h, (kDst h).view.write (Elt F) fd ((kSrc c h).view.read (Elt F) f) Finset.univ i = hd c f i := by
  rw [← kDst_set h]
  refine land (v := (kDst h).view) (Val := Elt F) fd (hd c f) _ (ix2_cases fun x y => ?_)
  show f ((kSrc c h).view.emb (ix2 x y)) = hd c f ((kDst h).view.emb (ix2 x y))
  have e1 : (kSrc c h).view.emb (ix2 x y) = ix4 (0 : Fin 1) x (⟨8 * c.val + h.val, hl c h⟩ : Fin 64) y :=
    src_emb (View.whole main_arg2) _ (8 * c.val + h.val) (hl c h) (off1_eq c h) (sinb c h) _ x y
  have e2 : (kDst h).view.emb (ix2 x y) = ix3 h x y := k_emb (View.whole cc0_scratch1) h.val h.isLt (kinb h) _ x y
  rw [e1, e2, hd_at c h f x y (hl c h)]
/-- What a copy of values lands is the device's head of the values. -/
theorem v_land (h : Fin 8) (fd : FVec F S8x1024x128 .f32) (f : FVec F S1x1024x64x128 .f32) :
    ∀ i ∈ kSet h, (vDst h).view.write (Elt F) fd ((vSrc c h).view.read (Elt F) f) Finset.univ i = hd c f i := by
  rw [← vDst_set h]
  refine land (v := (vDst h).view) (Val := Elt F) fd (hd c f) _ (ix2_cases fun x y => ?_)
  show f ((vSrc c h).view.emb (ix2 x y)) = hd c f ((vDst h).view.emb (ix2 x y))
  have e1 : (vSrc c h).view.emb (ix2 x y) = ix4 (0 : Fin 1) x (⟨8 * c.val + h.val, hl c h⟩ : Fin 64) y :=
    src_emb (View.whole main_arg3) _ (8 * c.val + h.val) (hl c h) (off1_eq c h) (sinb c h) _ x y
  have e2 : (vDst h).view.emb (ix2 x y) = ix3 h x y := k_emb (View.whole cc0_scratch2) h.val h.isLt (kinb h) _ x y
  rw [e1, e2, hd_at c h f x y (hl c h)]

/-- A copy of keys before it is issued. -/
theorem kvSlot_k0 (h : Fin 8) : kvSlot O c (0, h) 0 = iprop(dutyTok ER (dmaC c (kvS 0 h)) 0 0 ∗ atPos ER (dmaC c (kvS 0 h)) 0 ∅ 0
      ∗ (∃ f, kPts (F := F) c h f) ∗ (∃ q, ((c : Thread nD τ).loc main_arg2) ↦{q} (O c).k)) := rfl
/-- A copy of values before it is issued. -/
theorem kvSlot_v0 (h : Fin 8) : kvSlot O c (1, h) 0 = iprop(dutyTok ER (dmaC c (kvS 1 h)) 0 0 ∗ atPos ER (dmaC c (kvS 1 h)) 0 ∅ 0
      ∗ (∃ f, vPts (F := F) c h f) ∗ (∃ q, ((c : Thread nD τ).loc main_arg3) ↦{q} (O c).v)) := rfl
/-- A copy in flight. -/
theorem kvSlot_1 (kh : Fin 2 × Fin 8) : kvSlot O c kh 1 = iprop(cred (tallyAt (dmaC c (kvS kh.1 kh.2)) () nk) ∗ atPos ER (dmaC c (kvS kh.1 kh.2)) 0 ∅ 0) := rfl
/-- A copy that has landed. -/
theorem kvSlot_2 (kh : Fin 2 × Fin 8) : kvSlot O c kh 2 = iprop(fin O c (.dma (kvS kh.1 kh.2)) ∗ dmaPay O c (kvS kh.1 kh.2)) := rfl

/-- The start of a head's copy of keys. -/
theorem copyK {α : Type} {Q : α → sProp 𝕄} {k : PUnit → Prog (TpuEff nD τ sig (Elt F) Λ₀ .tc) α}
    {src : Memref sig .tc .hbm S1024x128 .f32} {dst : Memref sig .tc .vmem S1024x128 .f32} {sem : SemLoc sig} {h1 h2 h3}
    (st : Fin 2 × Fin 8 → ℕ) (h : Fin 8) (hst : st (0, h) = 0) (hsem : sem = .dma (kvS 0 h)) (hsrc : src = kSrc c h) (hdst : dst = kDst h) :
    iprop(recs O ∗ KV O c st) ⊢ iprop((KV O c (Function.update st (0, h) 1) -∗ wpc c (k ⟨⟩) Q)
      -∗ wpc c (.op (.enqueueDma src (.here dst) sem h1 h2 h3) k) Q) := by
  subst hsem hsrc hdst
  unfold KV
  iintro ⟨#HR, HK⟩ Hk
  ihave H := (bigSep_upd (kvSlot O c) st (0, h)) $$ HK
  rw [hst]
  icases H with ⟨H, HK⟩
  ihave Hr := (recs_dma O c (kvS 0 h) (by show 4 ≤ 4 + 8 * 0 + h.val; omega)) $$ HR
  unfold rec1
  icases Hr with ⟨⟨%κ, #HI⟩, #Hre⟩
  ihave H := (Entails.of_eq (kvSlot_k0 O c h)) $$ H
  icases H with ⟨Htok, Hat, ⟨%f, Hd⟩, ⟨%q, Hs⟩⟩
  ihave Hs' := (pointsTo_split_subset (Finset.subset_univ (kSrc c h).view.set)).1 $$ Hs
  icases Hs' with ⟨Hs, -⟩
  iapply (Rounds.wp_copy_pointsTo 𝒱₀ ER (Rd O) (c : Thread nD τ) none (src := kSrc c h) (dst := kDst h) (q := q) (fs := (O c).k) (fd := f) (r := 0) (d := 0) (κ := κ)
    (by rw [duties_dma O c _ (used_kv 0 h)]; exact Finset.mem_singleton_self _) () nk rfl (by rw [amount_dma, amt_kv])
    (by
      rw [payload_dma, pay_k, kDst_set]
      iintro ⟨H, -⟩
      unfold kPts
      iapply (Entails.of_eq (pointsTo_congr (k_land c h f (O c).k)))
      iexact H)) $$ [Hs Hd Htok]
  · isplitr; · iexact HI
    isplitl [Hs]; · iexact Hs
    isplitl [Hd]; · rw [kDst_set]; unfold kPts; iexact Hd
    isplitl [Htok]; · iexact Htok
    iexact Hre
  iintro Hc
  iapply Hk
  iapply HK $$ %1
  iapply (Entails.of_eq (kvSlot_1 O c (0, h)).symm)
  isplitl [Hc] <;> iassumption

/-- The start of a head's copy of values. -/
theorem copyV {α : Type} {Q : α → sProp 𝕄} {k : PUnit → Prog (TpuEff nD τ sig (Elt F) Λ₀ .tc) α}
    {src : Memref sig .tc .hbm S1024x128 .f32} {dst : Memref sig .tc .vmem S1024x128 .f32} {sem : SemLoc sig} {h1 h2 h3}
    (st : Fin 2 × Fin 8 → ℕ) (h : Fin 8) (hst : st (1, h) = 0) (hsem : sem = .dma (kvS 1 h)) (hsrc : src = vSrc c h) (hdst : dst = vDst h) :
    iprop(recs O ∗ KV O c st) ⊢ iprop((KV O c (Function.update st (1, h) 1) -∗ wpc c (k ⟨⟩) Q)
      -∗ wpc c (.op (.enqueueDma src (.here dst) sem h1 h2 h3) k) Q) := by
  subst hsem hsrc hdst
  unfold KV
  iintro ⟨#HR, HK⟩ Hk
  ihave H := (bigSep_upd (kvSlot O c) st (1, h)) $$ HK
  rw [hst]
  icases H with ⟨H, HK⟩
  ihave Hr := (recs_dma O c (kvS 1 h) (by show 4 ≤ 4 + 8 * 1 + h.val; omega)) $$ HR
  unfold rec1
  icases Hr with ⟨⟨%κ, #HI⟩, #Hre⟩
  ihave H := (Entails.of_eq (kvSlot_v0 O c h)) $$ H
  icases H with ⟨Htok, Hat, ⟨%f, Hd⟩, ⟨%q, Hs⟩⟩
  ihave Hs' := (pointsTo_split_subset (Finset.subset_univ (vSrc c h).view.set)).1 $$ Hs
  icases Hs' with ⟨Hs, -⟩
  iapply (Rounds.wp_copy_pointsTo 𝒱₀ ER (Rd O) (c : Thread nD τ) none (src := vSrc c h) (dst := vDst h) (q := q) (fs := (O c).v) (fd := f) (r := 0) (d := 0) (κ := κ)
    (by rw [duties_dma O c _ (used_kv 1 h)]; exact Finset.mem_singleton_self _) () nk rfl (by rw [amount_dma, amt_kv])
    (by
      rw [payload_dma, pay_v, vDst_set]
      iintro ⟨H, -⟩
      unfold vPts
      iapply (Entails.of_eq (pointsTo_congr (v_land c h f (O c).v)))
      iexact H)) $$ [Hs Hd Htok]
  · isplitr; · iexact HI
    isplitl [Hs]; · iexact Hs
    isplitl [Hd]; · rw [vDst_set]; unfold vPts; iexact Hd
    isplitl [Htok]; · iexact Htok
    iexact Hre
  iintro Hc
  iapply Hk
  iapply HK $$ %1
  iapply (Entails.of_eq (kvSlot_1 O c (1, h)).symm)
  isplitl [Hc] <;> iassumption

/-- The heads' copies have the lowest level. -/
theorem lvl_kv (k : Fin 2) (h : Fin 8) : lvl (.dma (kvS k h)) = 0 := by revert k h; decide
/-- The wait for a head's copy. -/
theorem waitKV {α : Type} {Q : α → sProp 𝕄} {k : PUnit → Prog (TpuEff nD τ sig (Elt F) Λ₀ .tc) α}
    {sp sp' : Space} {s s' : Shape} {e e' : EltTy} {src : Memref sig .tc sp' s' e'} {dst : Memref sig .tc sp s e} {h1 h2} {sem : DmaSem sig}
    (st : Fin 2 × Fin 8 → ℕ) (kh : Fin 2 × Fin 8) (hst : st kh = 1) (hs : sem = kvS kh.1 kh.2) (hN : dst.view.dmaCredit = nk)
    (l : List (Fin 3 × SemLoc sig × ℕ)) (hl : ∀ x ∈ l, 0 < lvl x.2.1) :
    iprop(recs O ∗ levAts L lv ∗ KV O c st ∗ ow c l)
      ⊢ iprop(((KV O c (Function.update st kh 2) ∗ ow c l) -∗ wpc c (k ⟨⟩) Q) -∗ wpc c (.op (.waitDma2 sem src dst h1 h2) k) Q) := by
  unfold KV
  iintro ⟨#HR, #Hlev, HK, HO⟩ Hk
  ihave H := (bigSep_upd (kvSlot O c) st kh) $$ HK
  rw [hst]
  icases H with ⟨H, HK⟩
  ihave H := (Entails.of_eq (kvSlot_1 O c kh)) $$ H
  icases H with ⟨Hc, Hat⟩
  iapply (wait_dma O c (src := src) (dst := dst) (kvS kh.1 kh.2) hs (by show 4 ≤ 4 + 8 * kh.1.val + kh.2.val; omega) (used_kv kh.1 kh.2) nk (amt_kv kh.1 kh.2) hN l
    (by rw [lvl_kv]; exact hl)) $$ [Hc Hat HO]
  · iframe HR Hlev Hc HO Hat
  iintro ⟨HO, Hf, Hp⟩
  iapply Hk
  isplitr [HO]
  · iapply HK $$ %2
    iapply (Entails.of_eq (kvSlot_2 O c kh).symm)
    isplitl [Hf] <;> iassumption
  iexact HO

end Cert.KernelProof

end
-- ==== Proof.StepsX.lean ====
/- # The steps of the exchanges

Loads and stores of the accumulator's rows, the filling of a transmit slot, its transfer, the two waits of an exchange and the
reading of what it received; the same for the gathering. -/
module

public import proofs.«01_k».proof.Proof.Steps

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-! ## The accumulator -/

abbrev accP (f : FVec F S1024x1024 .f32) : sProp 𝕄 := ((c : Thread nD τ).loc cc0_scratch0) ↦{fullShare} f

/-- Writing a view's elements as another array has them gives that array, if the two agree outside the view. -/
theorem write_all {sp : Space} {s : Shape} {e : EltTy} {v : View sig .tc sp s e} {Val : EltTy → Type} (fd g : v.ty.Contents Val)
    (w : s.Idx → Val e) (h : ∀ j, w j = v.read Val g j) (h' : ∀ i, i ∉ v.set → fd i = g i) : v.write Val fd w Finset.univ = g := by
  funext i
  by_cases hi : i ∈ v.set
  · exact land fd g w h i hi
  · rw [View.write_of_not_mem _ _ _ (by rw [View.setOn_univ]; exact hi)]; exact h' i hi

/-- A load of rows of the accumulator. -/
theorem ldA {α : Type} {Q : α → sProp 𝕄} {n : ℕ} {off : Fin 2 → ℕ} (a : ℕ) (ho : off = ![a, 0]) (han : a + n ≤ 1024)
    {inb : ∀ i, off i + (![n, 1024] : Fin 2 → ℕ) i ≤ S1024x1024.size i} {hl}
    {k : ((⟨2, ![n, 1024]⟩ : Shape).Idx → F .f32) → Prog (TpuEff nD τ sig (Elt F) Λ₀ .tc) α} (f : FVec F S1024x1024 .f32) :
    accP c f ⊢ iprop((∀ v : (⟨2, ![n, 1024]⟩ : Shape).Idx → F .f32, ⌜∀ x y, v (ix2 x y) = f (sq (a + x.val) y.val)⌝ -∗ accP c f -∗ wpc c (k v) Q)
      -∗ wpc c (.op (.load (Memref.whole cc0_scratch0 : Memref sig .tc .vmem S1024x1024 .f32) (Rect.unit (s := S1024x1024) off ![n, 1024] inb).toLoadRect hl) k) Q) := by
  iintro Ha Hk
  iapply (wp_load_rect 𝒱₀ (c : Thread nD τ) none Set.univ (m := (Memref.whole cc0_scratch0 : Memref sig .tc .vmem S1024x1024 .f32))
    (r := Rect.unit (s := S1024x1024) off ![n, 1024] inb) (hl := hl) (f := f) (Finset.subset_univ _)) $$ [Ha]
  · iexact Ha
  iintro Ha
  iapply Hk
  · ipureintro
    intro x y
    show f ((Rect.unit (s := S1024x1024) off ![n, 1024] inb).emb (ix2 x y)) = _
    rw [g_rect off a n ho han inb]
  iexact Ha

/-- A store of rows of the accumulator. -/
theorem stA {α : Type} {Q : α → sProp 𝕄} {n : ℕ} {off : Fin 2 → ℕ} (a : ℕ) (ho : off = ![a, 0]) (han : a + n ≤ 1024)
    {inb : ∀ i, off i + (![n, 1024] : Fin 2 → ℕ) i ≤ S1024x1024.size i} {w : (⟨2, ![n, 1024]⟩ : Shape).Idx → F .f32} {hx hm}
    {k : PUnit → Prog (TpuEff nD τ sig (Elt F) Λ₀ .tc) α} (f g : FVec F S1024x1024 .f32)
    (hin : ∀ x y, w (ix2 x y) = g (sq (a + x.val) y.val)) (hout : ∀ i, ¬ (a ≤ (i 0).val ∧ (i 0).val < a + n) → f i = g i) :
    accP c f ⊢ iprop((accP c g -∗ wpc c (k ⟨⟩) Q)
      -∗ wpc c (.op (.store (Memref.whole cc0_scratch0 : Memref sig .tc .vmem S1024x1024 .f32) (Rect.unit (s := S1024x1024) off ![n, 1024] inb) w Finset.univ hx hm) k) Q) := by
  iintro Ha Hk
  iapply (wp_store 𝒱₀ (c : Thread nD τ) none Set.univ (m := (Memref.whole cc0_scratch0 : Memref sig .tc .vmem S1024x1024 .f32))
    (r := Rect.unit (s := S1024x1024) off ![n, 1024] inb) (hx := hx) (f := f) (Finset.subset_univ _)) $$ [Ha]
  · iexact Ha
  have e : ((Memref.whole cc0_scratch0 : Memref sig .tc .vmem S1024x1024 .f32).access (Rect.unit (s := S1024x1024) off ![n, 1024] inb)).write (Elt F) f w Finset.univ = g :=
    write_all (Val := Elt F) (v := (Memref.whole cc0_scratch0 : Memref sig .tc .vmem S1024x1024 .f32).access (Rect.unit (s := S1024x1024) off ![n, 1024] inb)) f g w
      (ix2_cases fun x y => by
        show w (ix2 x y) = g ((Rect.unit (s := S1024x1024) off ![n, 1024] inb).emb (ix2 x y))
        rw [g_rect off a n ho han inb]; exact hin x y)
      (fun i hi => hout i (fun h => hi (by
        have hs : ((Memref.whole cc0_scratch0 : Memref sig .tc .vmem S1024x1024 .f32).access (Rect.unit (s := S1024x1024) off ![n, 1024] inb)).set = gSet a n :=
          (View.set_slice_whole _ _).trans (g_rset off a n ho inb)
        rw [hs]; exact Finset.mem_filter.mpr ⟨Finset.mem_univ _, h⟩)))
  rw [e]
  iexact Hk

/-- A band's store. -/
theorem stBand {α : Type} {Q : α → sProp 𝕄} {off : Fin 2 → ℕ} (b : ℕ) (ho : off = ![256 * b, 0]) (hb : b < 4)
    {inb : ∀ i, off i + (![256, 1024] : Fin 2 → ℕ) i ≤ S1024x1024.size i} {w : (⟨2, ![256, 1024]⟩ : Shape).Idx → F .f32} {hx hm}
    {k : PUnit → Prog (TpuEff nD τ sig (Elt F) Λ₀ .tc) α} (f : FVec F S1024x1024 .f32) (hw : w = band (O c) c b) :
    accP c (accB (O c) c b f) ⊢ iprop((accP c (accB (O c) c (b + 1) f) -∗ wpc c (k ⟨⟩) Q)
      -∗ wpc c (.op (.store (Memref.whole cc0_scratch0 : Memref sig .tc .vmem S1024x1024 .f32) (Rect.unit (s := S1024x1024) off ![256, 1024] inb) w Finset.univ hx hm) k) Q) := by
  refine stA c (n := 256) (256 * b) ho (by omega) _ _ (fun x y => ?_) (fun i hi => ?_)
  · have hx' := x.isLt
    have h0 : ((sq (256 * b + x.val) y.val) 0).val = 256 * b + x.val := sq_0 (by omega)
    have h1 : (sq (256 * b + x.val) y.val) 1 = y := Fin.ext (sq_1 y.isLt)
    unfold accB acc
    rw [if_pos (by rw [h0]; omega), h0, h1, hw, show (256 * b + x.val) / 256 = b by omega, show (256 * b + x.val) % 256 = x.val by omega,
      show Fin.ofNat 256 x.val = x from Fin.ext (Nat.mod_eq_of_lt hx')]
  · unfold accB
    by_cases h : (i 0).val < 256 * b
    · rw [if_pos h, if_pos (by omega)]
    · rw [if_neg h, if_neg (by omega)]

/-- The update of a part by an exchange. -/
theorem stU {α : Type} {Q : α → sProp 𝕄} {m : ℕ} {off : Fin 2 → ℕ} (p : Fin 3) (r : Fin 3) (hm' : m = hp p) (ho : off = ![ko p c, 0])
    {inb : ∀ i, off i + (![m, 1024] : Fin 2 → ℕ) i ≤ S1024x1024.size i} {w : (⟨2, ![m, 1024]⟩ : Shape).Idx → F .f32} {hx hm}
    {k : PUnit → Prog (TpuEff nD τ sig (Elt F) Λ₀ .tc) α} (n : Fin 3 → ℕ) (hn : n p = r.val)
    (v : (⟨2, ![m, 1024]⟩ : Shape).Idx → F .f32) (u : (⟨4, ![1, 1, m, 1024]⟩ : Shape).Idx → F .bf16)
    (hv : ∀ x y, v (ix2 x y) = AS O c n (sq (ko p c + x.val) y.val))
    (hu : ∀ x y, u (ix4 (0 : Fin 1) (0 : Fin 1) x y) = tv O r p (pr p r c) x.val y.val)
    (hw : ∀ x y, w (ix2 x y) = FloatOps.addf (v (ix2 x y)) (wid (u (ix4 (0 : Fin 1) (0 : Fin 1) x y)))) :
    accP c (AS O c n) ⊢ iprop((accP c (AS O c (Function.update n p (r.val + 1))) -∗ wpc c (k ⟨⟩) Q)
      -∗ wpc c (.op (.store (Memref.whole cc0_scratch0 : Memref sig .tc .vmem S1024x1024 .f32) (Rect.unit (s := S1024x1024) off ![m, 1024] inb) w Finset.univ hx hm) k) Q) := by
  subst hm'
  refine stA c (n := hp p) (ko p c) ho (ko_le p c) _ _ (fun x y => ?_) (fun i hi => ?_)
  · rw [hw, hv, hu, AS_keep O c _ p _ _ x.isLt y.isLt, AS_keep O c _ p _ _ x.isLt y.isLt, Function.update_self, hn]
    fin_cases r <;> rfl
  · exact AS_congr O c _ _ p (fun p' hp' => by rw [Function.update_of_ne hp']) i hi

/-! ## The exchanges -/

/-- An exchange before its transmit slot is filled. -/
theorem xSlot_0 (p r : Fin 3) : xSlot O c (p, r) 0 = iprop(dutyTok ER (dmaC c (sS p r)) 0 0 ∗ dutyTok ER (dmaC (pr p r c) (rS p r)) 0 0 ∗ (∃ f, rPts (F := F) (pr p r c) p r f)
      ∗ (∃ f, tPts (F := F) c p r f)
      ∗ atPos ER (dmaC c (sS p r)) 0 ∅ 0 ∗ atPos ER (dmaC c (rS p r)) 0 ∅ 0 ∗ cred (tallyAt (dmaC c (rS p r)) () (ne p))) := rfl
/-- An exchange whose transmit slot is filled. -/
theorem xSlot_1 (p r : Fin 3) : xSlot O c (p, r) 1 = iprop(dutyTok ER (dmaC c (sS p r)) 0 0 ∗ dutyTok ER (dmaC (pr p r c) (rS p r)) 0 0 ∗ (∃ f, rPts (F := F) (pr p r c) p r f)
      ∗ tPts c p r (TX O c)
      ∗ atPos ER (dmaC c (sS p r)) 0 ∅ 0 ∗ atPos ER (dmaC c (rS p r)) 0 ∅ 0 ∗ cred (tallyAt (dmaC c (rS p r)) () (ne p))) := rfl
/-- An exchange that has been sent. -/
theorem xSlot_2 (p r : Fin 3) : xSlot O c (p, r) 2 = iprop(cred (tallyAt (dmaC c (sS p r)) () (ne p)) ∗ atPos ER (dmaC c (sS p r)) 0 ∅ 0
      ∗ atPos ER (dmaC c (rS p r)) 0 ∅ 0 ∗ cred (tallyAt (dmaC c (rS p r)) () (ne p))) := rfl
/-- An exchange whose receipt has arrived. -/
theorem xSlot_3 (p r : Fin 3) : xSlot O c (p, r) 3 = iprop(cred (tallyAt (dmaC c (sS p r)) () (ne p)) ∗ atPos ER (dmaC c (sS p r)) 0 ∅ 0
      ∗ fin O c (.dma (rS p r)) ∗ rPts c p r (RS O c)) := rfl
/-- An exchange that is done on both sides. -/
theorem xSlot_4 (p r : Fin 3) : xSlot O c (p, r) 4 = iprop(fin O c (.dma (sS p r)) ∗ tPts c p r (TX O c) ∗ fin O c (.dma (rS p r)) ∗ rPts c p r (RS O c)) := rfl

/-- A load or store of a slot touches the slot. -/
theorem e_acc (b : Ref sig .tc) {v : View sig .tc .vmem S3x3x192x1024 .bf16} (p r : Fin 3) (n : ℕ) (hn : n = hp p)
    (inb : ∀ a, (![p.val, r.val, 0, 0] : Fin 4 → ℕ) a + (![1, 1, n, 1024] : Fin 4 → ℕ) a ≤ S3x3x192x1024.size a) :
    (v.slice (Rect.unit (s := S3x3x192x1024) ![p.val, r.val, 0, 0] ![1, 1, n, 1024] inb)).set = (eSet p r).map v.emb := by
  rw [View.set_slice, e_rset p r n hn]

/-- No half has more than 192 rows. -/
theorem hp_le (p : Fin 3) : hp p ≤ 192 := by revert p; decide
/-- A transmit slot's element. -/
theorem TX_at (p r : Fin 3) (x : Fin 192) (y : Fin 1024) : TX O c (ix4 p r x y) = tv O r p c x.val y.val := rfl
/-- A receive slot's element: what the partner transmitted. -/
theorem RS_at (p r : Fin 3) (x : Fin 192) (y : Fin 1024) : RS O c (ix4 p r x y) = tv O r p (pr p r c) x.val y.val := rfl

/-- The view of a transmit slot covers the slot. -/
theorem t_set (p r : Fin 3) (n : ℕ) (hn : n = hp p) (inb) :
    ((Memref.whole cc0_scratch4 : Memref sig .tc .vmem S3x3x192x1024 .bf16).access (Rect.unit (s := S3x3x192x1024) ![p.val, r.val, 0, 0] ![1, 1, n, 1024] inb)).set = eSet p r :=
  (View.set_slice_whole _ _).trans (e_rset p r n hn inb)
/-- The view of a receive slot covers the slot. -/
theorem r_set (p r : Fin 3) (n : ℕ) (hn : n = hp p) (inb) :
    ((Memref.whole cc0_scratch3 : Memref sig .tc .vmem S3x3x192x1024 .bf16).access (Rect.unit (s := S3x3x192x1024) ![p.val, r.val, 0, 0] ![1, 1, n, 1024] inb)).set = eSet p r :=
  (View.set_slice_whole _ _).trans (e_rset p r n hn inb)

/-- Setting a state to what it is changes nothing. -/
theorem upd_id {I : Type} [DecidableEq I] (st : I → ℕ) (i : I) (n : ℕ) (h : st i = n) : Function.update st i n = st := by
  subst h; exact Function.update_eq_self _ _

/-- The load of a transmit slot that is to be filled. -/
theorem ldT {α : Type} {Q : α → sProp 𝕄} {n : ℕ} {off : Fin 4 → ℕ} (p r : Fin 3) (hn : n = hp p) (ho : off = ![p.val, r.val, 0, 0])
    {inb : ∀ a, off a + (![1, 1, n, 1024] : Fin 4 → ℕ) a ≤ S3x3x192x1024.size a} {hl}
    {k : ((⟨4, ![1, 1, n, 1024]⟩ : Shape).Idx → F .bf16) → Prog (TpuEff nD τ sig (Elt F) Λ₀ .tc) α} (st : Fin 3 × Fin 3 → ℕ) (hst : st (p, r) = 0) :
    X O c st ⊢ iprop((∀ v, X O c st -∗ wpc c (k v) Q)
      -∗ wpc c (.op (.load (Memref.whole cc0_scratch4 : Memref sig .tc .vmem S3x3x192x1024 .bf16) (Rect.unit (s := S3x3x192x1024) off ![1, 1, n, 1024] inb).toLoadRect hl) k) Q) := by
  subst ho
  iintro HX Hk
  unfold X
  ihave H := (bigSep_upd (xSlot O c) st (p, r)) $$ HX
  rw [hst]
  icases H with ⟨H, HX⟩
  ihave H := (Entails.of_eq (xSlot_0 O c p r)) $$ H
  icases H with ⟨H1, H2, H3, ⟨%f, Ht⟩, H4⟩
  iapply (wp_load_rect 𝒱₀ (c : Thread nD τ) none Set.univ (m := (Memref.whole cc0_scratch4 : Memref sig .tc .vmem S3x3x192x1024 .bf16))
    (r := Rect.unit (s := S3x3x192x1024) ![p.val, r.val, 0, 0] ![1, 1, n, 1024] inb) (hl := hl) (f := f) (S := eSet p r) (by rw [t_set p r n hn])) $$ [Ht]
  · unfold tPts; iexact Ht
  iintro Ht
  iapply Hk
  ihave HX := HX $$ %0 [H1 H2 H3 Ht H4]
  · iapply (Entails.of_eq (xSlot_0 O c p r).symm)
    iframe H1 H2 H3 H4
    iexists f; unfold tPts; iexact Ht
  rw [show Function.update st (p, r) 0 = st from upd_id _ _ _ hst]
  iexact HX

/-- The store that fills it. -/
theorem stT {α : Type} {Q : α → sProp 𝕄} {n : ℕ} {off : Fin 4 → ℕ} (p r : Fin 3) (hn : n = hp p) (ho : off = ![p.val, r.val, 0, 0])
    {inb : ∀ a, off a + (![1, 1, n, 1024] : Fin 4 → ℕ) a ≤ S3x3x192x1024.size a} {w : (⟨4, ![1, 1, n, 1024]⟩ : Shape).Idx → F .bf16} {hx hm}
    {k : PUnit → Prog (TpuEff nD τ sig (Elt F) Λ₀ .tc) α} (st : Fin 3 × Fin 3 → ℕ) (hst : st (p, r) = 0)
    (hw : ∀ x y, w (ix4 (0 : Fin 1) (0 : Fin 1) x y) = tv O r p c x.val y.val) :
    X O c st ⊢ iprop((X O c (Function.update st (p, r) 1) -∗ wpc c (k ⟨⟩) Q)
      -∗ wpc c (.op (.store (Memref.whole cc0_scratch4 : Memref sig .tc .vmem S3x3x192x1024 .bf16) (Rect.unit (s := S3x3x192x1024) off ![1, 1, n, 1024] inb) w Finset.univ hx hm) k) Q) := by
  subst ho
  iintro HX Hk
  unfold X
  ihave H := (bigSep_upd (xSlot O c) st (p, r)) $$ HX
  rw [hst]
  icases H with ⟨H, HX⟩
  ihave H := (Entails.of_eq (xSlot_0 O c p r)) $$ H
  icases H with ⟨H1, H2, H3, ⟨%f, Ht⟩, H4⟩
  iapply (wp_store 𝒱₀ (c : Thread nD τ) none Set.univ (m := (Memref.whole cc0_scratch4 : Memref sig .tc .vmem S3x3x192x1024 .bf16))
    (r := Rect.unit (s := S3x3x192x1024) ![p.val, r.val, 0, 0] ![1, 1, n, 1024] inb) (hx := hx) (f := f) (S := eSet p r) (by rw [View.setOn_univ, t_set p r n hn])) $$ [Ht]
  · unfold tPts; iexact Ht
  iintro Ht
  iapply Hk
  iapply HX $$ %1
  iapply (Entails.of_eq (xSlot_1 O c p r).symm)
  iframe H1 H2 H3 H4
  unfold tPts
  iapply (Entails.of_eq (pointsTo_congr (f := ((Memref.whole cc0_scratch4 : Memref sig .tc .vmem S3x3x192x1024 .bf16).access (Rect.unit (s := S3x3x192x1024) ![p.val, r.val, 0, 0] ![1, 1, n, 1024] inb)).write (Elt F) f w Finset.univ) (fun i hi => land (Val := Elt F)
    (v := (Memref.whole cc0_scratch4 : Memref sig .tc .vmem S3x3x192x1024 .bf16).access (Rect.unit (s := S3x3x192x1024) ![p.val, r.val, 0, 0] ![1, 1, n, 1024] inb)) f (TX O c) w
    (ix4_cases fun x y => by
      rw [hw]
      show _ = TX O c ((Rect.unit (s := S3x3x192x1024) ![p.val, r.val, 0, 0] ![1, 1, n, 1024] inb).emb (ix4 (0 : Fin 1) (0 : Fin 1) x y))
      rw [e_rect p.val r.val n p.isLt r.isLt (hn ▸ hp_le p) inb x y]; rfl) i (by rw [t_set p r n hn]; exact hi))))
  iexact Ht

/-- The slice of a transmit slot that is sent covers the slot. -/
theorem t_sset (p r : Fin 3) (n : ℕ) (hn : n = hp p) (inb) (hs : Shape.Squeezes ⟨4, ![1, 1, n, 1024]⟩ ⟨2, ![n, 1024]⟩) :
    (((Memref.whole cc0_scratch4 : Memref sig .tc .vmem S3x3x192x1024 .bf16).slice (Rect.unit (s := S3x3x192x1024) ![p.val, r.val, 0, 0] ![1, 1, n, 1024] inb) (fun _ => rfl)).squeeze ⟨2, ![n, 1024]⟩ hs).view.set = eSet p r := by
  have h := e_set (View.whole cc0_scratch4) p r n hn inb hs.numel_eq
  rw [View.emb_whole] at h
  exact h.trans Finset.map_refl
/-- The slice of a receive slot that is sent to covers the slot. -/
theorem r_sset (p r : Fin 3) (n : ℕ) (hn : n = hp p) (inb) (hs : Shape.Squeezes ⟨4, ![1, 1, n, 1024]⟩ ⟨2, ![n, 1024]⟩) :
    (((Memref.whole cc0_scratch3 : Memref sig .tc .vmem S3x3x192x1024 .bf16).slice (Rect.unit (s := S3x3x192x1024) ![p.val, r.val, 0, 0] ![1, 1, n, 1024] inb) (fun _ => rfl)).squeeze ⟨2, ![n, 1024]⟩ hs).view.set = eSet p r := by
  have h := e_set (View.whole cc0_scratch3) p r n hn inb hs.numel_eq
  rw [View.emb_whole] at h
  exact h.trans Finset.map_refl
/-- What a transfer lands is what the partner's receive slot should hold. -/
theorem x_land (p r : Fin 3) (n : ℕ) (hn : n = hp p) (inb) (hs : Shape.Squeezes ⟨4, ![1, 1, n, 1024]⟩ ⟨2, ![n, 1024]⟩) (fd : FVec F S3x3x192x1024 .bf16) :
    ∀ i ∈ eSet p r, (((Memref.whole cc0_scratch3 : Memref sig .tc .vmem S3x3x192x1024 .bf16).slice (Rect.unit (s := S3x3x192x1024) ![p.val, r.val, 0, 0] ![1, 1, n, 1024] inb) (fun _ => rfl)).squeeze ⟨2, ![n, 1024]⟩ hs).view.write (Elt F) fd
      ((((Memref.whole cc0_scratch4 : Memref sig .tc .vmem S3x3x192x1024 .bf16).slice (Rect.unit (s := S3x3x192x1024) ![p.val, r.val, 0, 0] ![1, 1, n, 1024] inb) (fun _ => rfl)).squeeze ⟨2, ![n, 1024]⟩ hs).view.read (Elt F) (TX O c)) Finset.univ i = RS O (pr p r c) i := by
  rw [← r_sset p r n hn inb hs]
  refine land (Val := Elt F) (v := (((Memref.whole cc0_scratch3 : Memref sig .tc .vmem S3x3x192x1024 .bf16).slice (Rect.unit (s := S3x3x192x1024) ![p.val, r.val, 0, 0] ![1, 1, n, 1024] inb) (fun _ => rfl)).squeeze ⟨2, ![n, 1024]⟩ hs).view) fd (RS O (pr p r c)) _ (ix2_cases fun x y => ?_)
  have e1 := e_emb (View.whole cc0_scratch4) p.val r.val n p.isLt r.isLt (hn ▸ hp_le p) inb hs.numel_eq x y
  have e2 := e_emb (View.whole cc0_scratch3) p.val r.val n p.isLt r.isLt (hn ▸ hp_le p) inb hs.numel_eq x y
  refine (congrArg (TX O c) e1).trans (Eq.trans ?_ (congrArg (RS O (pr p r c)) e2).symm)
  show tv O r p c x.val y.val = tv O r p (pr p r (pr p r c)) x.val y.val
  unfold pr; rw [px_px]

/-- The transfer. -/
theorem sendX {α : Type} {Q : α → sProp 𝕄} {n : ℕ} {src dst : Memref sig .tc .vmem ⟨2, ![n, 1024]⟩ .bf16} {c' : Dev nD} {s1 s2 : SemLoc sig} {h0 : dst.view.ref.isScScratch = false} {h1 h2}
    {h3 : DmaTarget.Typed (nD := nD) (τ := τ) .vmem s2 (.remote (Dev.tc c') dst s1 h0)}
    {k : PUnit → Prog (TpuEff nD τ sig (Elt F) Λ₀ .tc) α} (p r : Fin 3) (hn : n = hp p)
    (inb : ∀ a, (![p.val, r.val, 0, 0] : Fin 4 → ℕ) a + (![1, 1, n, 1024] : Fin 4 → ℕ) a ≤ S3x3x192x1024.size a) (hs)
    (hsrc : src = ((Memref.whole cc0_scratch4 : Memref sig .tc .vmem S3x3x192x1024 .bf16).slice (Rect.unit (s := S3x3x192x1024) ![p.val, r.val, 0, 0] ![1, 1, n, 1024] inb) (fun _ => rfl)).squeeze ⟨2, ![n, 1024]⟩ hs)
    (hdst : dst = ((Memref.whole cc0_scratch3 : Memref sig .tc .vmem S3x3x192x1024 .bf16).slice (Rect.unit (s := S3x3x192x1024) ![p.val, r.val, 0, 0] ![1, 1, n, 1024] inb) (fun _ => rfl)).squeeze ⟨2, ![n, 1024]⟩ hs)
    (hc : c' = pr p r c) (hs1 : s1 = .dma (sS p r)) (hs2 : s2 = .dma (rS p r)) (hN : dst.view.amount s2 = ne p)
    (st : Fin 3 × Fin 3 → ℕ) (hst : st (p, r) = 1) (l : List (Fin 3 × SemLoc sig × ℕ)) (l' : List (Fin 3 × SemLoc sig × ℕ)) (hl : l = (dm p r, .dma (rS p r), ne p) :: l') :
    iprop(recs O ∗ X O c st ∗ ow c l) ⊢ iprop(((X O c (Function.update st (p, r) 2) ∗ ow c l') -∗ wpc c (k ⟨⟩) Q)
      -∗ wpc c (.op (.enqueueDma src (.remote (Dev.tc c') dst s1 h0) s2 h1 h2 h3) k) Q) := by
  subst hsrc hdst hc hs1 hs2 hl
  unfold X ow
  iintro ⟨#HR, HX, ⟨%W, HO⟩⟩ Hk
  ihave H := (bigSep_upd (xSlot O c) st (p, r)) $$ HX
  rw [hst]
  icases H with ⟨H, HX⟩
  ihave H := (Entails.of_eq (xSlot_1 O c p r)) $$ H
  icases H with ⟨Hts, Htr, ⟨%fd, Hr⟩, Ht, Has, Har, Hcr⟩
  ihave Hr1 := (recs_dma O c (sS p r) (by show 4 ≤ 20 + 6 * p.val + r.val; omega)) $$ HR
  ihave Hr2 := (recs_dma O (pr p r c) (rS p r) (by show 4 ≤ 38 + 6 * p.val + r.val; omega)) $$ HR
  unfold rec1
  icases Hr1 with ⟨⟨%κ₁, #HI1⟩, #Hre1⟩
  icases Hr2 with ⟨⟨%κ₂, #HI2⟩, #Hre2⟩
  iapply (Rounds.wp_send_pointsTo 𝒱₀ ER (Rd O) (c : Thread nD τ) none (c' := (pr p r c : Thread nD τ)) (q := fullShare) (fs := TX O c) (fd := fd) (r₁ := 0) (r₂ := 0) (d₁ := 0) (d₂ := 0)
    (κ₁ := κ₁) (κ₂ := κ₂)
    (src := ((Memref.whole cc0_scratch4 : Memref sig .tc .vmem S3x3x192x1024 .bf16).slice (Rect.unit (s := S3x3x192x1024) ![p.val, r.val, 0, 0] ![1, 1, n, 1024] inb) (fun _ => rfl)).squeeze ⟨2, ![n, 1024]⟩ hs)
    (dst := ((Memref.whole cc0_scratch3 : Memref sig .tc .vmem S3x3x192x1024 .bf16).slice (Rect.unit (s := S3x3x192x1024) ![p.val, r.val, 0, 0] ![1, 1, n, 1024] inb) (fun _ => rfl)).squeeze ⟨2, ![n, 1024]⟩ hs)
    (by rw [duties_dma O c _ (used_s p r)]; exact Finset.mem_singleton_self _)
    (by rw [duties_dma O _ _ (used_r p r)]; exact Finset.mem_singleton_self _)
    () () (ne p) hN (by rw [amount_dma, amt_s]) (by rw [amount_dma, amt_r]) (O₀ := oweL c ((dm p r, .dma (rS p r), ne p) :: l')) (oweL c l') rfl
    (by rw [payload_dma, pay_s, t_sset p r n hn inb hs]; exact Entails.rfl)
    (by
      rw [payload_dma, pay_r, r_sset p r n hn inb hs]
      exact Entails.of_eq (pointsTo_congr (x_land O c p r n hn inb hs fd)))) $$ [Hr Ht HO Hts Htr]
  · isplitr; · iexact HI1
    isplitr; · iexact HI2
    isplitl [Ht]; · rw [t_sset p r n hn inb hs]; unfold tPts; iexact Ht
    isplitl [Hr]; · rw [r_sset p r n hn inb hs]; unfold rPts; iexact Hr
    isplitl [HO]; · iexact HO
    isplitl [Hts]; · iexact Hts
    isplitr; · iexact Hre1
    isplitl [Htr]; · iexact Htr
    iexact Hre2
  iintro ⟨Hcs, HO⟩
  iapply Hk
  isplitr [HO]
  · iapply HX $$ %2
    iapply (Entails.of_eq (xSlot_2 O c p r).symm)
    iframe Hcs Has Har Hcr
  iexists W; iexact HO

/-- The receipts of a round have level 2, 3 or 4. -/
theorem lvl_r (p r : Fin 3) : lvl (.dma (rS p r)) = 2 + r.val := by revert p r; decide
/-- The sends have the lowest level. -/
theorem lvl_s (p r : Fin 3) : lvl (.dma (sS p r)) = 0 := by revert p r; decide
/-- The receipts of the gathering have level 5. -/
theorem lvl_gr (p : Fin 3) : lvl (.dma (grS p)) = 5 := by revert p; decide
/-- The gathering's sends have the lowest level. -/
theorem lvl_gs (p : Fin 3) : lvl (.dma (gsS p)) = 0 := by revert p; decide

/-- The wait for what an exchange delivers. -/
theorem waitR {α : Type} {Q : α → sProp 𝕄} {sp sp' : Space} {s s' : Shape} {e e' : EltTy} {src : Memref sig .tc sp' s' e'} {dst : Memref sig .tc sp s e} {h1 h2} {sem : DmaSem sig}
    {k : PUnit → Prog (TpuEff nD τ sig (Elt F) Λ₀ .tc) α}
    (st : Fin 3 × Fin 3 → ℕ) (p r : Fin 3) (hst : st (p, r) = 2) (hs : sem = rS p r) (hN : dst.view.dmaCredit = ne p)
    (l : List (Fin 3 × SemLoc sig × ℕ)) (hl : ∀ x ∈ l, 2 + r.val < lvl x.2.1) :
    iprop(recs O ∗ levAts L lv ∗ X O c st ∗ ow c l)
      ⊢ iprop(((X O c (Function.update st (p, r) 3) ∗ ow c l) -∗ wpc c (k ⟨⟩) Q) -∗ wpc c (.op (.waitDma2 sem src dst h1 h2) k) Q) := by
  unfold X
  iintro ⟨#HR, #Hlev, HX, HO⟩ Hk
  ihave H := (bigSep_upd (xSlot O c) st (p, r)) $$ HX
  rw [hst]
  icases H with ⟨H, HX⟩
  ihave H := (Entails.of_eq (xSlot_2 O c p r)) $$ H
  icases H with ⟨Hcs, Has, Har, Hcr⟩
  iapply (wait_dma O c (src := src) (dst := dst) (rS p r) hs (by show 4 ≤ 38 + 6 * p.val + r.val; omega) (used_r p r) (ne p) (amt_r p r) hN l
    (by rw [lvl_r]; exact hl)) $$ [Hcr Har HO]
  · iframe HR Hlev Hcr HO Har
  rw [pay_r]
  iintro ⟨HO, Hf, Hp⟩
  iapply Hk
  isplitr [HO]
  · iapply HX $$ %3
    iapply (Entails.of_eq (xSlot_3 O c p r).symm)
    iframe Hcs Has Hf Hp
  iexact HO

/-- The wait for an exchange's own transfer. -/
theorem waitS {α : Type} {Q : α → sProp 𝕄} {sp sp' : Space} {s s' : Shape} {e e' : EltTy} {src : Memref sig .tc sp' s' e'} {dst : Memref sig .tc sp s e} {h1 h2} {sem : DmaSem sig}
    {k : PUnit → Prog (TpuEff nD τ sig (Elt F) Λ₀ .tc) α}
    (st : Fin 3 × Fin 3 → ℕ) (p r : Fin 3) (hst : st (p, r) = 3) (hs : sem = sS p r) (hN : dst.view.dmaCredit = ne p)
    (l : List (Fin 3 × SemLoc sig × ℕ)) (hl : ∀ x ∈ l, 0 < lvl x.2.1) :
    iprop(recs O ∗ levAts L lv ∗ X O c st ∗ ow c l)
      ⊢ iprop(((X O c (Function.update st (p, r) 4) ∗ ow c l) -∗ wpc c (k ⟨⟩) Q) -∗ wpc c (.op (.waitDma2 sem src dst h1 h2) k) Q) := by
  unfold X
  iintro ⟨#HR, #Hlev, HX, HO⟩ Hk
  ihave H := (bigSep_upd (xSlot O c) st (p, r)) $$ HX
  rw [hst]
  icases H with ⟨H, HX⟩
  ihave H := (Entails.of_eq (xSlot_3 O c p r)) $$ H
  icases H with ⟨Hcs, Has, Hf', Hp'⟩
  iapply (wait_dma O c (src := src) (dst := dst) (sS p r) hs (by show 4 ≤ 20 + 6 * p.val + r.val; omega) (used_s p r) (ne p) (amt_s p r) hN l
    (by rw [lvl_s]; exact hl)) $$ [Hcs Has HO]
  · iframe HR Hlev Hcs HO Has
  rw [pay_s]
  iintro ⟨HO, Hf, Hp⟩
  iapply Hk
  isplitr [HO]
  · iapply HX $$ %4
    iapply (Entails.of_eq (xSlot_4 O c p r).symm)
    iframe Hf Hp Hf' Hp'
  iexact HO

/-- The load of what an exchange delivered. -/
theorem ldR {α : Type} {Q : α → sProp 𝕄} {n : ℕ} {off : Fin 4 → ℕ} (p r : Fin 3) (hn : n = hp p) (ho : off = ![p.val, r.val, 0, 0])
    {inb : ∀ a, off a + (![1, 1, n, 1024] : Fin 4 → ℕ) a ≤ S3x3x192x1024.size a} {hl}
    {k : ((⟨4, ![1, 1, n, 1024]⟩ : Shape).Idx → F .bf16) → Prog (TpuEff nD τ sig (Elt F) Λ₀ .tc) α} (st : Fin 3 × Fin 3 → ℕ) (hst : st (p, r) = 3) :
    X O c st ⊢ iprop((∀ v, ⌜∀ x y, v (ix4 (0 : Fin 1) (0 : Fin 1) x y) = tv O r p (pr p r c) x.val y.val⌝ -∗ X O c st -∗ wpc c (k v) Q)
      -∗ wpc c (.op (.load (Memref.whole cc0_scratch3 : Memref sig .tc .vmem S3x3x192x1024 .bf16) (Rect.unit (s := S3x3x192x1024) off ![1, 1, n, 1024] inb).toLoadRect hl) k) Q) := by
  subst ho
  iintro HX Hk
  unfold X
  ihave H := (bigSep_upd (xSlot O c) st (p, r)) $$ HX
  rw [hst]
  icases H with ⟨H, HX⟩
  ihave H := (Entails.of_eq (xSlot_3 O c p r)) $$ H
  icases H with ⟨H1, H2, H3, Ht⟩
  iapply (wp_load_rect 𝒱₀ (c : Thread nD τ) none Set.univ (m := (Memref.whole cc0_scratch3 : Memref sig .tc .vmem S3x3x192x1024 .bf16))
    (r := Rect.unit (s := S3x3x192x1024) ![p.val, r.val, 0, 0] ![1, 1, n, 1024] inb) (hl := hl) (f := RS O c) (S := eSet p r) (by rw [r_set p r n hn])) $$ [Ht]
  · unfold rPts; iexact Ht
  iintro Ht
  iapply Hk
  · ipureintro
    intro x y
    show RS O c ((Rect.unit (s := S3x3x192x1024) ![p.val, r.val, 0, 0] ![1, 1, n, 1024] inb).emb (ix4 (0 : Fin 1) (0 : Fin 1) x y)) = _
    rw [e_rect p.val r.val n p.isLt r.isLt (hn ▸ hp_le p) inb x y]; rfl
  ihave HX := HX $$ %3 [H1 H2 H3 Ht]
  · iapply (Entails.of_eq (xSlot_3 O c p r).symm)
    iframe H1 H2 H3
    unfold rPts; iexact Ht
  rw [show Function.update st (p, r) 3 = st from upd_id _ _ _ hst]
  iexact HX

/-- What fills a transmit slot: the rows the device gives away, of its product; or the rows it keeps, after exchanges. -/
theorem tx_first {n : ℕ} (p : Fin 3) (hn : n = hp p) (b : ℕ) (hb : so p c + n ≤ 256 * b) (f : FVec F S1024x1024 .f32) (v : (⟨2, ![n, 1024]⟩ : Shape).Idx → F .f32)
    (hv : ∀ x y, v (ix2 x y) = accB (O c) c b f (sq (so p c + x.val) y.val)) (x : Fin n) (y : Fin 1024) : nar (v (ix2 x y)) = tv O 0 p c x.val y.val := by
  have hx := x.isLt
  have := so_le p c
  rw [hv]; unfold accB
  rw [if_pos (by rw [sq_0 (by omega)]; omega)]; rfl
/-- What fills a transmit slot in the later rounds: the kept rows as they then are, rounded. -/
theorem tx_later {n : ℕ} (p : Fin 3) (hn : n = hp p) (m : Fin 3 → ℕ) (r : Fin 3) (hr : r ≠ 0) (hm : m p = r.val) (v : (⟨2, ![n, 1024]⟩ : Shape).Idx → F .f32)
    (hv : ∀ x y, v (ix2 x y) = AS O c m (sq (ko p c + x.val) y.val)) (x : Fin n) (y : Fin 1024) : nar (v (ix2 x y)) = tv O r p c x.val y.val := by
  subst hn
  rw [hv, AS_keep O c m p _ _ x.isLt y.isLt, hm]
  fin_cases r
  · exact absurd rfl hr
  · rfl
  · rfl

end Cert.KernelProof

end
-- ==== Proof.StepsG.lean ====
/- # The steps of the gathering and of the barrier -/
module

public import proofs.«01_k».proof.Proof.StepsX
public import Idealize.ShloMosaic.Lib.Ring

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-! ## The halves of the gathered buffer -/

/-- Which half of which part a row is of: the half the device keeps (0) or the one it is given (1). -/
def gLab (i : S1024x1024.Idx) : Fin 3 × Fin 2 :=
  (part (i 0).val, if ko (part (i 0).val) c ≤ (i 0).val ∧ (i 0).val < ko (part (i 0).val) c + hp (part (i 0).val) then 0 else 1)
def gBlk (b : Fin 3 × Fin 2) : Finset S1024x1024.Idx := Finset.univ.filter fun i => gLab c i = b

/-- The first piece of a part is the half that the device keeps. -/
theorem gBlk_keep (p : Fin 3) : gBlk c (p, 0) = gSet (ko p c) (hp p) := by
  ext i
  unfold gBlk gSet gLab
  rw [Finset.mem_filter, Finset.mem_filter]
  refine and_congr_right fun _ => ⟨fun h => ?_, fun h => ?_⟩
  · obtain ⟨h1, h2⟩ := Prod.mk.inj h
    by_contra hn
    rw [h1, if_neg hn] at h2
    exact absurd h2 (by decide)
  · rw [part_ko p c _ h, if_pos h]
/-- The second piece is the half that the device is given. -/
theorem gBlk_send (p : Fin 3) : gBlk c (p, 1) = gSet (so p c) (hp p) := by
  ext i
  unfold gBlk gSet gLab
  rw [Finset.mem_filter, Finset.mem_filter]
  refine and_congr_right fun _ => ⟨fun h => ?_, fun h => ?_⟩
  · obtain ⟨h1, h2⟩ := Prod.mk.inj h
    have hi : (i 0).val < 1024 := (i 0).isLt
    have hr := part_lt (i 0).val hi
    rw [h1] at hr
    have hs := ko_so p c
    by_contra hn
    rw [h1, if_pos (by omega)] at h2
    exact absurd h2 (by decide)
  · rw [part_so p c _ h, if_neg (not_ko_of_so p c _ h)]
/-- Different halves share no row. -/
theorem gBlk_disj (b b' : Fin 3 × Fin 2) (h : b ≠ b') : Disjoint (gBlk c b) (gBlk c b') :=
  Finset.disjoint_left.mpr fun i hi hi' => h ((Finset.mem_filter.mp hi).2.symm.trans (Finset.mem_filter.mp hi').2)
/-- The six halves are the whole buffer. -/
theorem gBlk_cover : (Finset.univ.biUnion (gBlk c) : Finset S1024x1024.Idx) = Finset.univ := by
  ext i
  simp only [Finset.mem_biUnion, Finset.mem_univ, true_and, iff_true]
  exact ⟨gLab c i, Finset.mem_filter.mpr ⟨Finset.mem_univ _, rfl⟩⟩

/-- The buffer whole, as its six halves. -/
theorem g_blocks (q : PosShare TreeShare) (f : FVec F S1024x1024 .bf16) :
    (((c : Thread nD τ).loc cc0_scratch5) ↦{q} f : sProp 𝕄)
      = iprop((gPts c (ko 0 c) (hp 0) q f ∗ gPts c (so 0 c) (hp 0) q f) ∗ (gPts c (ko 1 c) (hp 1) q f ∗ gPts c (so 1 c) (hp 1) q f)
        ∗ (gPts c (ko 2 c) (hp 2) q f ∗ gPts c (so 2 c) (hp 2) q f)) := by
  have h := Ring.pointsTo_blocks (Val := Elt F) (Ix := Unit) (Name := ℕ) (U := UU) (Lvl := ℕ) (ℓ := (c : Thread nD τ).loc cc0_scratch5) (gBlk c) (gBlk_disj c) (gBlk_cover c) (q := q) f
  rw [h, bigSep_univ_prod, bigSep_univ_eq_bigSepL [0, 1, 2] (by decide) (by decide)]
  simp only [bigSep_univ_eq_bigSepL [(0 : Fin 2), 1] (by decide) (by decide), bigSepL_cons_cons, bigSepL_singleton, gBlk_keep, gBlk_send]
  rfl

/-- A gathering before its half is stored. -/
theorem gSlot_0 (p : Fin 3) : gSlot O c p 0 = iprop(dutyTok ER (dmaC c (gsS p)) 0 0 ∗ dutyTok ER (dmaC (pr p 0 c) (grS p)) 0 0
      ∗ (∃ f, gPts (F := F) (pr p 0 c) (so p (pr p 0 c)) (hp p) fullShare f)
      ∗ (∃ f, gPts (F := F) c (ko p c) (hp p) fullShare f)
      ∗ atPos ER (dmaC c (gsS p)) 0 ∅ 0 ∗ atPos ER (dmaC c (grS p)) 0 ∅ 0 ∗ cred (tallyAt (dmaC c (grS p)) () (ne p))) := rfl
/-- A gathering whose half is stored. -/
theorem gSlot_1 (p : Fin 3) : gSlot O c p 1 = iprop(dutyTok ER (dmaC c (gsS p)) 0 0 ∗ dutyTok ER (dmaC (pr p 0 c) (grS p)) 0 0
      ∗ (∃ f, gPts (F := F) (pr p 0 c) (so p (pr p 0 c)) (hp p) fullShare f)
      ∗ gPts c (ko p c) (hp p) fullShare (AG O c)
      ∗ atPos ER (dmaC c (gsS p)) 0 ∅ 0 ∗ atPos ER (dmaC c (grS p)) 0 ∅ 0 ∗ cred (tallyAt (dmaC c (grS p)) () (ne p))) := rfl
/-- A gathering that has been sent. -/
theorem gSlot_2 (p : Fin 3) : gSlot O c p 2 = iprop(cred (tallyAt (dmaC c (gsS p)) () (ne p)) ∗ atPos ER (dmaC c (gsS p)) 0 ∅ 0
      ∗ gPts c (ko p c) (hp p) fullShare.right (AG O c)
      ∗ atPos ER (dmaC c (grS p)) 0 ∅ 0 ∗ cred (tallyAt (dmaC c (grS p)) () (ne p))) := rfl
/-- A gathering whose other half has been received. -/
theorem gSlot_3 (p : Fin 3) : gSlot O c p 3 = iprop(cred (tallyAt (dmaC c (gsS p)) () (ne p)) ∗ atPos ER (dmaC c (gsS p)) 0 ∅ 0
      ∗ gPts c (ko p c) (hp p) fullShare.right (AG O c) ∗ fin O c (.dma (grS p)) ∗ gPts c (so p c) (hp p) fullShare (AG O c)) := rfl
/-- A gathering that is done on both sides. -/
theorem gSlot_4 (p : Fin 3) : gSlot O c p 4 = iprop(fin O c (.dma (gsS p)) ∗ gPts c (ko p c) (hp p) fullShare.left (AG O c)
      ∗ gPts c (ko p c) (hp p) fullShare.right (AG O c) ∗ fin O c (.dma (grS p)) ∗ gPts c (so p c) (hp p) fullShare (AG O c)) := rfl

/-- The view of n rows from row a covers those rows. -/
theorem a_set {off : Fin 2 → ℕ} (a n : ℕ) (ho : off = ![a, 0]) (inb : ∀ i, off i + (![n, 1024] : Fin 2 → ℕ) i ≤ S1024x1024.size i) :
    ((Memref.whole cc0_scratch5 : Memref sig .tc .vmem S1024x1024 .bf16).access (Rect.unit (s := S1024x1024) off ![n, 1024] inb)).set = gSet a n :=
  (View.set_slice_whole _ _).trans (g_rset off a n ho inb)
/-- The same of a slice. -/
theorem a_set' {off : Fin 2 → ℕ} (a n : ℕ) (ho : off = ![a, 0]) (inb : ∀ i, off i + (![n, 1024] : Fin 2 → ℕ) i ≤ S1024x1024.size i) :
    ((Memref.whole cc0_scratch5 : Memref sig .tc .vmem S1024x1024 .bf16).slice (Rect.unit (s := S1024x1024) off ![n, 1024] inb) (fun _ => rfl)).view.set = gSet a n :=
  a_set a n ho inb

/-- A view at the kept half covers the kept half. -/
theorem a_ko {off : Fin 2 → ℕ} {n : ℕ} (p : Fin 3) (hn : n = hp p) (ho : off = ![ko p c, 0]) (inb : ∀ i, off i + (![n, 1024] : Fin 2 → ℕ) i ≤ S1024x1024.size i) :
    ((Memref.whole cc0_scratch5 : Memref sig .tc .vmem S1024x1024 .bf16).slice (Rect.unit (s := S1024x1024) off ![n, 1024] inb) (fun _ => rfl)).view.set = gSet (ko p c) (hp p) := by
  subst hn; exact a_set' _ _ ho inb
/-- At the partner, the same view covers the half that the partner is given. -/
theorem a_so {off : Fin 2 → ℕ} {n : ℕ} (p : Fin 3) (hn : n = hp p) (ho : off = ![ko p c, 0]) (inb : ∀ i, off i + (![n, 1024] : Fin 2 → ℕ) i ≤ S1024x1024.size i) :
    ((Memref.whole cc0_scratch5 : Memref sig .tc .vmem S1024x1024 .bf16).slice (Rect.unit (s := S1024x1024) off ![n, 1024] inb) (fun _ => rfl)).view.set = gSet (so p (pr p 0 c)) (hp p) := by
  rw [so_pr]; exact a_ko c p hn ho inb

/-- A load or store at the kept half touches the kept half. -/
theorem a_acc {off : Fin 2 → ℕ} {n : ℕ} (p : Fin 3) (hn : n = hp p) (ho : off = ![ko p c, 0]) (inb : ∀ i, off i + (![n, 1024] : Fin 2 → ℕ) i ≤ S1024x1024.size i) :
    ((Memref.whole cc0_scratch5 : Memref sig .tc .vmem S1024x1024 .bf16).access (Rect.unit (s := S1024x1024) off ![n, 1024] inb)).set = gSet (ko p c) (hp p) := by
  subst hn; exact a_set _ _ ho inb

/-- The load of a half that is about to be stored. -/
theorem ldG {α : Type} {Q : α → sProp 𝕄} {n : ℕ} {off : Fin 2 → ℕ} (p : Fin 3) (hn : n = hp p) (ho : off = ![ko p c, 0])
    {inb : ∀ a, off a + (![n, 1024] : Fin 2 → ℕ) a ≤ S1024x1024.size a} {hl}
    {k : ((⟨2, ![n, 1024]⟩ : Shape).Idx → F .bf16) → Prog (TpuEff nD τ sig (Elt F) Λ₀ .tc) α} (st : Fin 3 → ℕ) (hst : st p = 0) :
    GA O c st ⊢ iprop((∀ v, GA O c st -∗ wpc c (k v) Q)
      -∗ wpc c (.op (.load (Memref.whole cc0_scratch5 : Memref sig .tc .vmem S1024x1024 .bf16) (Rect.unit (s := S1024x1024) off ![n, 1024] inb).toLoadRect hl) k) Q) := by
  iintro HX Hk
  unfold GA
  ihave H := (bigSep_upd (gSlot O c) st p) $$ HX
  rw [hst]
  icases H with ⟨H, HX⟩
  ihave H := (Entails.of_eq (gSlot_0 O c p)) $$ H
  icases H with ⟨H1, H2, H3, ⟨%f, Ht⟩, H4⟩
  iapply (wp_load_rect 𝒱₀ (c : Thread nD τ) none Set.univ (m := (Memref.whole cc0_scratch5 : Memref sig .tc .vmem S1024x1024 .bf16))
    (r := Rect.unit (s := S1024x1024) off ![n, 1024] inb) (hl := hl) (f := f) (S := gSet (ko p c) (hp p)) (by rw [a_acc c p hn ho inb])) $$ [Ht]
  · unfold gPts; iexact Ht
  iintro Ht
  iapply Hk
  ihave HX := HX $$ %0 [H1 H2 H3 Ht H4]
  · iapply (Entails.of_eq (gSlot_0 O c p).symm)
    iframe H1 H2 H3 H4
    iexists f; unfold gPts; iexact Ht
  rw [upd_id _ _ _ hst]
  iexact HX

/-- The store of a device's finished half, rounded. -/
theorem stG {α : Type} {Q : α → sProp 𝕄} {n : ℕ} {off : Fin 2 → ℕ} (p : Fin 3) (hn : n = hp p) (ho : off = ![ko p c, 0])
    {inb : ∀ a, off a + (![n, 1024] : Fin 2 → ℕ) a ≤ S1024x1024.size a} {w : (⟨2, ![n, 1024]⟩ : Shape).Idx → F .bf16} {hx hm}
    {k : PUnit → Prog (TpuEff nD τ sig (Elt F) Λ₀ .tc) α} (st : Fin 3 → ℕ) (hst : st p = 0)
    (hw : ∀ x y, w (ix2 x y) = nar (s3 O p c x.val y.val)) :
    GA O c st ⊢ iprop((GA O c (Function.update st p 1) -∗ wpc c (k ⟨⟩) Q)
      -∗ wpc c (.op (.store (Memref.whole cc0_scratch5 : Memref sig .tc .vmem S1024x1024 .bf16) (Rect.unit (s := S1024x1024) off ![n, 1024] inb) w Finset.univ hx hm) k) Q) := by
  iintro HX Hk
  unfold GA
  ihave H := (bigSep_upd (gSlot O c) st p) $$ HX
  rw [hst]
  icases H with ⟨H, HX⟩
  ihave H := (Entails.of_eq (gSlot_0 O c p)) $$ H
  icases H with ⟨H1, H2, H3, ⟨%f, Ht⟩, H4⟩
  iapply (wp_store 𝒱₀ (c : Thread nD τ) none Set.univ (m := (Memref.whole cc0_scratch5 : Memref sig .tc .vmem S1024x1024 .bf16))
    (r := Rect.unit (s := S1024x1024) off ![n, 1024] inb) (hx := hx) (f := f) (S := gSet (ko p c) (hp p)) (by rw [View.setOn_univ, a_acc c p hn ho inb])) $$ [Ht]
  · unfold gPts; iexact Ht
  iintro Ht
  iapply Hk
  iapply HX $$ %1
  iapply (Entails.of_eq (gSlot_1 O c p).symm)
  iframe H1 H2 H3 H4
  unfold gPts
  iapply (Entails.of_eq (pointsTo_congr (f := ((Memref.whole cc0_scratch5 : Memref sig .tc .vmem S1024x1024 .bf16).access (Rect.unit (s := S1024x1024) off ![n, 1024] inb)).write (Elt F) f w Finset.univ) (fun i hi => land (Val := Elt F)
    (v := (Memref.whole cc0_scratch5 : Memref sig .tc .vmem S1024x1024 .bf16).access (Rect.unit (s := S1024x1024) off ![n, 1024] inb)) f (AG O c) w
    (ix2_cases fun x y => by
      rw [hw]
      show _ = AG O c ((Rect.unit (s := S1024x1024) off ![n, 1024] inb).emb (ix2 x y))
      rw [g_rect off (ko p c) n ho (hn ▸ ko_le p c) inb x y, AG_keep O c p _ _ (hn ▸ x.isLt) y.isLt]) i (by rw [a_acc c p hn ho inb]; exact hi))))
  iexact Ht

/-- What the transfer of a half lands is the gathered rows of the partner. -/
theorem g_land (p : Fin 3) {n : ℕ} {off : Fin 2 → ℕ} (hn : n = hp p) (ho : off = ![ko p c, 0]) (inb : ∀ a, off a + (![n, 1024] : Fin 2 → ℕ) a ≤ S1024x1024.size a)
    (fd : FVec F S1024x1024 .bf16) :
    ∀ i ∈ gSet (ko p c) n, ((Memref.whole cc0_scratch5 : Memref sig .tc .vmem S1024x1024 .bf16).slice (Rect.unit (s := S1024x1024) off ![n, 1024] inb) (fun _ => rfl)).view.write (Elt F) fd
      (((Memref.whole cc0_scratch5 : Memref sig .tc .vmem S1024x1024 .bf16).slice (Rect.unit (s := S1024x1024) off ![n, 1024] inb) (fun _ => rfl)).view.read (Elt F) (AG O c)) Finset.univ i = AG O (pr p 0 c) i := by
  rw [← a_set' (ko p c) n ho inb]
  refine land (Val := Elt F) (v := ((Memref.whole cc0_scratch5 : Memref sig .tc .vmem S1024x1024 .bf16).slice (Rect.unit (s := S1024x1024) off ![n, 1024] inb) (fun _ => rfl)).view) fd (AG O (pr p 0 c)) _ (ix2_cases fun x y => ?_)
  show AG O c ((Rect.unit (s := S1024x1024) off ![n, 1024] inb).emb (ix2 x y)) = AG O (pr p 0 c) ((Rect.unit (s := S1024x1024) off ![n, 1024] inb).emb (ix2 x y))
  rw [g_rect off (ko p c) n ho (hn ▸ ko_le p c) inb x y, AG_keep O c p _ _ (hn ▸ x.isLt) y.isLt, ← so_pr p c, AG_send O _ p _ _ (hn ▸ x.isLt) y.isLt]
  unfold pr; rw [px_px]

/-- The transfer of a device's half of a part. -/
theorem sendG {α : Type} {Q : α → sProp 𝕄} {n : ℕ} {off : Fin 2 → ℕ} {src dst : Memref sig .tc .vmem ⟨2, ![n, 1024]⟩ .bf16} {c' : Dev nD} {s1 s2 : SemLoc sig} {h0 : dst.view.ref.isScScratch = false} {h1 h2}
    {h3 : DmaTarget.Typed (nD := nD) (τ := τ) .vmem s2 (.remote (Dev.tc c') dst s1 h0)}
    {k : PUnit → Prog (TpuEff nD τ sig (Elt F) Λ₀ .tc) α} (p : Fin 3) (hn : n = hp p) (ho : off = ![ko p c, 0])
    (inb : ∀ a, off a + (![n, 1024] : Fin 2 → ℕ) a ≤ S1024x1024.size a)
    (hsrc : src = (Memref.whole cc0_scratch5 : Memref sig .tc .vmem S1024x1024 .bf16).slice (Rect.unit (s := S1024x1024) off ![n, 1024] inb) (fun _ => rfl))
    (hdst : dst = (Memref.whole cc0_scratch5 : Memref sig .tc .vmem S1024x1024 .bf16).slice (Rect.unit (s := S1024x1024) off ![n, 1024] inb) (fun _ => rfl))
    (hc : c' = pr p 0 c) (hs1 : s1 = .dma (gsS p)) (hs2 : s2 = .dma (grS p)) (hN : dst.view.amount s2 = ne p)
    (st : Fin 3 → ℕ) (hst : st p = 1) (l : List (Fin 3 × SemLoc sig × ℕ)) (l' : List (Fin 3 × SemLoc sig × ℕ)) (hl : l = (dm p 0, .dma (grS p), ne p) :: l') :
    iprop(recs O ∗ GA O c st ∗ ow c l) ⊢ iprop(((GA O c (Function.update st p 2) ∗ ow c l') -∗ wpc c (k ⟨⟩) Q)
      -∗ wpc c (.op (.enqueueDma src (.remote (Dev.tc c') dst s1 h0) s2 h1 h2 h3) k) Q) := by
  subst hsrc hdst hc hs1 hs2 hl
  unfold GA ow
  iintro ⟨#HR, HX, ⟨%W, HO⟩⟩ Hk
  ihave H := (bigSep_upd (gSlot O c) st p) $$ HX
  rw [hst]
  icases H with ⟨H, HX⟩
  ihave H := (Entails.of_eq (gSlot_1 O c p)) $$ H
  icases H with ⟨Hts, Htr, ⟨%fd, Hr⟩, Ht, Has, Har, Hcr⟩
  ihave Hr1 := (recs_dma O c (gsS p) (by show 4 ≤ 23 + 6 * p.val; omega)) $$ HR
  ihave Hr2 := (recs_dma O (pr p 0 c) (grS p) (by show 4 ≤ 41 + 6 * p.val; omega)) $$ HR
  unfold rec1
  icases Hr1 with ⟨⟨%κ₁, #HI1⟩, #Hre1⟩
  icases Hr2 with ⟨⟨%κ₂, #HI2⟩, #Hre2⟩
  unfold gPts
  ihave Ht := (pointsTo_share (PosShare.mem_left_op_right fullShare)).1 $$ Ht
  icases Ht with ⟨HtL, HtR⟩
  iapply (Rounds.wp_send_pointsTo 𝒱₀ ER (Rd O) (c : Thread nD τ) none (c' := (pr p 0 c : Thread nD τ)) (q := fullShare.left) (fs := AG O c) (fd := fd) (r₁ := 0) (r₂ := 0) (d₁ := 0) (d₂ := 0)
    (κ₁ := κ₁) (κ₂ := κ₂)
    (src := (Memref.whole cc0_scratch5 : Memref sig .tc .vmem S1024x1024 .bf16).slice (Rect.unit (s := S1024x1024) off ![n, 1024] inb) (fun _ => rfl))
    (dst := (Memref.whole cc0_scratch5 : Memref sig .tc .vmem S1024x1024 .bf16).slice (Rect.unit (s := S1024x1024) off ![n, 1024] inb) (fun _ => rfl))
    (by rw [duties_dma O c _ (used_gs p)]; exact Finset.mem_singleton_self _)
    (by rw [duties_dma O _ _ (used_gr p)]; exact Finset.mem_singleton_self _)
    () () (ne p) hN (by rw [amount_dma, amt_gs]) (by rw [amount_dma, amt_gr]) (O₀ := oweL c ((dm p 0, .dma (grS p), ne p) :: l')) (oweL c l') rfl
    (by rw [payload_dma, pay_gs, a_ko c p hn ho inb]; exact Entails.rfl)
    (by
      rw [payload_dma, pay_gr, a_so c p hn ho inb]
      exact Entails.of_eq (pointsTo_congr (fun i hi => g_land O c p hn ho inb fd i (by rw [so_pr] at hi; rw [hn]; exact hi))))) $$ [Hr HtL HO Hts Htr]
  · isplitr; · iexact HI1
    isplitr; · iexact HI2
    isplitl [HtL]; · rw [a_ko c p hn ho inb]; iexact HtL
    isplitl [Hr]; · rw [a_so c p hn ho inb]; iexact Hr
    isplitl [HO]; · iexact HO
    isplitl [Hts]; · iexact Hts
    isplitr; · iexact Hre1
    isplitl [Htr]; · iexact Htr
    iexact Hre2
  iintro ⟨Hcs, HO⟩
  iapply Hk
  isplitr [HO]
  · iapply HX $$ %2
    iapply (Entails.of_eq (gSlot_2 O c p).symm)
    unfold gPts
    iframe Hcs Has Har Hcr HtR
  iexists W; iexact HO

/-- The wait for the partner's half. -/
theorem waitGr {α : Type} {Q : α → sProp 𝕄} {sp sp' : Space} {s s' : Shape} {e e' : EltTy} {src : Memref sig .tc sp' s' e'} {dst : Memref sig .tc sp s e} {h1 h2} {sem : DmaSem sig}
    {k : PUnit → Prog (TpuEff nD τ sig (Elt F) Λ₀ .tc) α}
    (st : Fin 3 → ℕ) (p : Fin 3) (hst : st p = 2) (hs : sem = grS p) (hN : dst.view.dmaCredit = ne p)
    (l : List (Fin 3 × SemLoc sig × ℕ)) (hl : ∀ x ∈ l, 5 < lvl x.2.1) :
    iprop(recs O ∗ levAts L lv ∗ GA O c st ∗ ow c l)
      ⊢ iprop(((GA O c (Function.update st p 3) ∗ ow c l) -∗ wpc c (k ⟨⟩) Q) -∗ wpc c (.op (.waitDma2 sem src dst h1 h2) k) Q) := by
  unfold GA
  iintro ⟨#HR, #Hlev, HX, HO⟩ Hk
  ihave H := (bigSep_upd (gSlot O c) st p) $$ HX
  rw [hst]
  icases H with ⟨H, HX⟩
  ihave H := (Entails.of_eq (gSlot_2 O c p)) $$ H
  icases H with ⟨Hcs, Has, Ht, Har, Hcr⟩
  iapply (wait_dma O c (src := src) (dst := dst) (grS p) hs (by show 4 ≤ 41 + 6 * p.val; omega) (used_gr p) (ne p) (amt_gr p) hN l
    (by rw [lvl_gr]; exact hl)) $$ [Hcr Har HO]
  · iframe HR Hlev Hcr HO Har
  rw [pay_gr]
  iintro ⟨HO, Hf, Hp⟩
  iapply Hk
  isplitr [HO]
  · iapply HX $$ %3
    iapply (Entails.of_eq (gSlot_3 O c p).symm)
    iframe Hcs Has Ht Hf Hp
  iexact HO

/-- The wait for a gathering's own transfer. -/
theorem waitGs {α : Type} {Q : α → sProp 𝕄} {sp sp' : Space} {s s' : Shape} {e e' : EltTy} {src : Memref sig .tc sp' s' e'} {dst : Memref sig .tc sp s e} {h1 h2} {sem : DmaSem sig}
    {k : PUnit → Prog (TpuEff nD τ sig (Elt F) Λ₀ .tc) α}
    (st : Fin 3 → ℕ) (p : Fin 3) (hst : st p = 3) (hs : sem = gsS p) (hN : dst.view.dmaCredit = ne p)
    (l : List (Fin 3 × SemLoc sig × ℕ)) (hl : ∀ x ∈ l, 0 < lvl x.2.1) :
    iprop(recs O ∗ levAts L lv ∗ GA O c st ∗ ow c l)
      ⊢ iprop(((GA O c (Function.update st p 4) ∗ ow c l) -∗ wpc c (k ⟨⟩) Q) -∗ wpc c (.op (.waitDma2 sem src dst h1 h2) k) Q) := by
  unfold GA
  iintro ⟨#HR, #Hlev, HX, HO⟩ Hk
  ihave H := (bigSep_upd (gSlot O c) st p) $$ HX
  rw [hst]
  icases H with ⟨H, HX⟩
  ihave H := (Entails.of_eq (gSlot_3 O c p)) $$ H
  icases H with ⟨Hcs, Has, Ht, Hf', Hp'⟩
  iapply (wait_dma O c (src := src) (dst := dst) (gsS p) hs (by show 4 ≤ 23 + 6 * p.val; omega) (used_gs p) (ne p) (amt_gs p) hN l
    (by rw [lvl_gs]; exact hl)) $$ [Hcs Has HO]
  · iframe HR Hlev Hcs HO Has
  rw [pay_gs]
  iintro ⟨HO, Hf, Hp⟩
  iapply Hk
  isplitr [HO]
  · iapply HX $$ %4
    iapply (Entails.of_eq (gSlot_4 O c p).symm)
    iframe Hf Hp Ht Hf' Hp'
  iexact HO

/-- The gatherings, part by part. -/
theorem GA_list (st : Fin 3 → ℕ) : GA O c st = iprop(gSlot O c 0 (st 0) ∗ gSlot O c 1 (st 1) ∗ gSlot O c 2 (st 2)) := by
  unfold GA
  rw [bigSep_univ_eq_bigSepL [0, 1, 2] (by decide) (by decide)]
  simp only [bigSepL_cons_cons, bigSepL_singleton]
  rfl

/-- Rows that are held whole are two halves of a share. -/
theorem g_half (a n : ℕ) (f : FVec F S1024x1024 .bf16) : (gPts c a n fullShare f : sProp 𝕄) ⊣⊢ iprop(gPts c a n fullShare.left f ∗ gPts c a n fullShare.right f) :=
  pointsTo_share (PosShare.mem_left_op_right fullShare)

/-- All gathered: a share of the buffer whole. -/
theorem GA_whole : GA O c (fun _ => 3) ⊢ iprop((((c : Thread nD τ).loc cc0_scratch5) ↦{fullShare.right} (AG O c))
    ∗ ((((c : Thread nD τ).loc cc0_scratch5) ↦{fullShare.right} (AG O c)) -∗ GA O c (fun _ => 3))) := by
  rw [GA_list, g_blocks c fullShare.right (AG O c), gSlot_3, gSlot_3, gSlot_3]
  iintro ⟨⟨A1, A2, A3, A4, A5⟩, ⟨B1, B2, B3, B4, B5⟩, ⟨C1, C2, C3, C4, C5⟩⟩
  ihave A := (g_half c (so 0 c) (hp 0) (AG O c)).1 $$ A5
  ihave B := (g_half c (so 1 c) (hp 1) (AG O c)).1 $$ B5
  ihave C := (g_half c (so 2 c) (hp 2) (AG O c)).1 $$ C5
  icases A with ⟨A5, A6⟩
  icases B with ⟨B5, B6⟩
  icases C with ⟨C5, C6⟩
  isplitl [A3 A6 B3 B6 C3 C6]
  · iframe A3 A6 B3 B6 C3 C6
  iintro ⟨⟨A3, A6⟩, ⟨B3, B6⟩, ⟨C3, C6⟩⟩
  ihave A := (g_half c (so 0 c) (hp 0) (AG O c)).2 $$ [A5 A6]
  · iframe A5 A6
  ihave B := (g_half c (so 1 c) (hp 1) (AG O c)).2 $$ [B5 B6]
  · iframe B5 B6
  ihave C := (g_half c (so 2 c) (hp 2) (AG O c)).2 $$ [C5 C6]
  · iframe C5 C6
  iframe A1 A2 A3 A4 A B1 B2 B3 B4 B C1 C2 C3 C4 C

/-! ## The barrier -/

/-- A signal to the partner at a mask, with the slots and the half of the gather buffer that the partner writes. -/
theorem signal {α : Type} {Q : α → sProp 𝕄} {c' : Dev nD} {sem : Sem sig} {N : ℕ} {k : PUnit → Prog (TpuEff nD τ sig (Elt F) Λ₀ .tc) α} (d : Fin 3) (hc : c' = px d c)
    (hs : sem = barS) (hN : N = 1)
    (l : List (Fin 3 × SemLoc sig × ℕ)) (l' : List (Fin 3 × SemLoc sig × ℕ)) (hl : l = (d, .reg barS, 1) :: l') :
    iprop(recs O ∗ ow c l ∗ dutyTok ER (barC (px d c)) 0 d ∗ barPay (F := F) (px d c) d)
      ⊢ iprop((ow c l' -∗ wpc c (k ⟨⟩) Q) -∗ wpc c (.op (.semSignal (c' : Thread nD τ) sem N) k) Q) := by
  subst hc hs hN hl
  unfold ow
  iintro ⟨#HR, ⟨%W, HO⟩, Ht, Hp⟩ Hk
  ihave Hr := (recs_bar O (px d c)) $$ HR
  unfold rec1
  icases Hr with ⟨⟨%κ, #HI⟩, #Hre⟩
  iapply (Rounds.wp_signal 𝒱₀ ER (Rd O) (c : Thread nD τ) none (dst := (px d c : Thread nD τ)) (κ := κ)
      (d := d) (r := 0) (by rw [duties_bar]; exact Finset.mem_univ _) (amount_bar O (px d c) d) () (O₀ := oweL c ((d, .reg barS, 1) :: l')) (oweL c l') rfl (W := W))
    $$ [HO Ht Hp]
  · isplitr; · iexact HI
    isplitl [HO]; · iexact HO
    isplitl [Ht]; · iexact Ht
    isplitl [Hp]; · rw [payload_bar]; iexact Hp
    iexact Hre
  iintro HO
  iapply Hk
  iexists W; iexact HO

/-- The wait for the three partners' signals. -/
theorem waitBar {α : Type} {Q : α → sProp 𝕄} {sem : Sem sig} {N : ℕ} {k : PUnit → Prog (TpuEff nD τ sig (Elt F) Λ₀ .tc) α} (hs : sem = barS) (hN : N = 3)
    (l : List (Fin 3 × SemLoc sig × ℕ)) (hl : ∀ x ∈ l, 1 < lvl x.2.1) :
    iprop(recs O ∗ levAts L lv ∗ ow c l ∗ cred (tallyAt (barC c) () 3) ∗ atPos ER (barC c) 0 ∅ 0)
      ⊢ iprop(((ow c l ∗ fin O c (.reg barS) ∗ (barPay (F := F) c 0 ∗ barPay (F := F) c 1 ∗ barPay (F := F) c 2)) -∗ wpc c (k ⟨⟩) Q)
        -∗ wpc c (.op (.semWait sem N) k) Q) := by
  subst hs hN
  unfold ow
  iintro ⟨#HR, #Hlev, ⟨%W, HO⟩, Hc, Hat⟩ Hk
  ihave Hr := (recs_bar O c) $$ HR
  unfold rec1
  icases Hr with ⟨⟨%κ, #HI⟩, -⟩
  iapply (Rounds.wp_wait_rest_token 𝒱₀ ER (Rd O) (c : Thread nD τ) none (κ := κ)
      (wpE_semWait_eq 𝒱₀ (c : Thread nD τ) none Set.univ) (Set.mem_univ _) () (O := oweL c l) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar O c)) $$ Hpay
  iapply Hk
  isplitl [HO]; · iexists _; iexact HO
  isplitl [Hat]; · iapply (fin_done O c _); iexact Hat
  iexact Hp

/-- An exchange, and a part's gathering, before the partner has signalled. -/
def x0 (p r : Fin 3) : sProp 𝕄 := iprop(dutyTok ER (dmaC c (sS p r)) 0 0 ∗ dutyTok ER (dmaC (pr p r c) (rS p r)) 0 0
      ∗ (∃ f, tPts (F := F) c p r f)
      ∗ atPos ER (dmaC c (sS p r)) 0 ∅ 0 ∗ atPos ER (dmaC c (rS p r)) 0 ∅ 0 ∗ cred (tallyAt (dmaC c (rS p r)) () (ne p)))
def g0 (p : Fin 3) : sProp 𝕄 := iprop(dutyTok ER (dmaC c (gsS p)) 0 0 ∗ dutyTok ER (dmaC (pr p 0 c) (grS p)) 0 0
      ∗ (∃ f, gPts (F := F) c (ko p c) (hp p) fullShare f)
      ∗ atPos ER (dmaC c (gsS p)) 0 ∅ 0 ∗ atPos ER (dmaC c (grS p)) 0 ∅ 0 ∗ cred (tallyAt (dmaC c (grS p)) () (ne p)))
/-- An exchange is ready once the partner has handed its slot over. -/
theorem x0_fill (p r : Fin 3) : iprop(x0 (F := F) c p r ∗ ∃ f, rPts (F := F) (pr p r c) p r f) ⊢ xSlot O c (p, r) 0 := by
  rw [xSlot_0]; unfold x0
  iintro ⟨⟨H1, H2, H3, H4, H5, H6⟩, H7⟩
  iframe H1 H2 H3 H4 H5 H6 H7
/-- A gathering is ready once the partner has handed its half over. -/
theorem g0_fill (p : Fin 3) : iprop(g0 (F := F) c p ∗ ∃ f, gPts (F := F) (pr p 0 c) (so p (pr p 0 c)) (hp p) fullShare f) ⊢ gSlot O c p 0 := by
  rw [gSlot_0]; unfold g0
  iintro ⟨⟨H1, H2, H3, H4, H5, H6⟩, H7⟩
  iframe H1 H2 H3 H4 H5 H6 H7
def XG0 : sProp 𝕄 := iprop((bigSep Finset.univ fun p : Fin 3 => bigSep Finset.univ fun r : Fin 3 => x0 (F := F) c p r) ∗ bigSep Finset.univ fun p : Fin 3 => g0 (F := F) c p)

/-- What the partner at mask 1 hands over, by part and round. -/
theorem barPay_0 : (barPay (F := F) c 0 : sProp 𝕄) = iprop((∃ f, rPts (F := F) (pr 0 2 c) 0 2 f) ∗ (∃ f, rPts (F := F) (pr 1 1 c) 1 1 f) ∗ (∃ f, rPts (F := F) (pr 2 0 c) 2 0 f) ∗ (∃ f, gPts (F := F) (pr 2 0 c) (so 2 (pr 2 0 c)) (hp 2) fullShare f)) := rfl
/-- What the partner at mask 3 hands over, by part and round. -/
theorem barPay_1 : (barPay (F := F) c 1 : sProp 𝕄) = iprop((∃ f, rPts (F := F) (pr 0 1 c) 0 1 f) ∗ (∃ f, rPts (F := F) (pr 1 0 c) 1 0 f) ∗ (∃ f, rPts (F := F) (pr 2 2 c) 2 2 f) ∗ (∃ f, gPts (F := F) (pr 1 0 c) (so 1 (pr 1 0 c)) (hp 1) fullShare f)) := rfl
/-- What the partner at mask 4 hands over, by part and round. -/
theorem barPay_2 : (barPay (F := F) c 2 : sProp 𝕄) = iprop((∃ f, rPts (F := F) (pr 0 0 c) 0 0 f) ∗ (∃ f, rPts (F := F) (pr 1 2 c) 1 2 f) ∗ (∃ f, rPts (F := F) (pr 2 1 c) 2 1 f) ∗ (∃ f, gPts (F := F) (pr 0 0 c) (so 0 (pr 0 0 c)) (hp 0) fullShare f)) := rfl

/-- The exchanges, one by one. -/
theorem X_list (st : Fin 3 × Fin 3 → ℕ) : X O c st = iprop((xSlot O c (0, 0) (st (0, 0)) ∗ xSlot O c (0, 1) (st (0, 1)) ∗ xSlot O c (0, 2) (st (0, 2)))
    ∗ (xSlot O c (1, 0) (st (1, 0)) ∗ xSlot O c (1, 1) (st (1, 1)) ∗ xSlot O c (1, 2) (st (1, 2)))
    ∗ (xSlot O c (2, 0) (st (2, 0)) ∗ xSlot O c (2, 1) (st (2, 1)) ∗ xSlot O c (2, 2) (st (2, 2)))) := by
  unfold X
  rw [bigSep_univ_prod]
  simp only [bigSep_univ_eq_bigSepL [(0 : Fin 3), 1, 2] (by decide) (by decide), bigSepL_cons_cons, bigSepL_singleton]
  rfl

/-- The exchanges and gatherings before the handshake, one by one. -/
theorem XG0_list : (XG0 (F := F) c : sProp 𝕄) = iprop(((x0 (F := F) c 0 0 ∗ x0 (F := F) c 0 1 ∗ x0 (F := F) c 0 2) ∗ (x0 (F := F) c 1 0 ∗ x0 (F := F) c 1 1 ∗ x0 (F := F) c 1 2)
    ∗ (x0 (F := F) c 2 0 ∗ x0 (F := F) c 2 1 ∗ x0 (F := F) c 2 2)) ∗ (g0 (F := F) c 0 ∗ g0 (F := F) c 1 ∗ g0 (F := F) c 2)) := by
  unfold XG0
  simp only [bigSep_univ_eq_bigSepL [(0 : Fin 3), 1, 2] (by decide) (by decide), bigSepL_cons_cons, bigSepL_singleton]
  rfl

/-- The barrier passed: each exchange and each gathering has what the partner handed over. -/
theorem XG_fill : iprop(XG0 (F := F) c ∗ barPay (F := F) c 0 ∗ barPay (F := F) c 1 ∗ barPay (F := F) c 2) ⊢ iprop(X O c (fun _ => 0) ∗ GA O c (fun _ => 0)) := by
  rw [XG0_list, barPay_0, barPay_1, barPay_2, X_list, GA_list]
  iintro ⟨⟨⟨⟨X00, X01, X02⟩, ⟨X10, X11, X12⟩, ⟨X20, X21, X22⟩⟩, ⟨G0, G1, G2⟩⟩, ⟨R02, R11, R20, H2⟩, ⟨R01, R10, R22, H1⟩, ⟨R00, R12, R21, H0⟩⟩
  isplitr [G0 G1 G2 H0 H1 H2]
  · isplitl [X00 X01 X02 R00 R01 R02]
    · isplitl [X00 R00]; · iapply (x0_fill O c 0 0); isplitl [X00] <;> iassumption
      isplitl [X01 R01]; · iapply (x0_fill O c 0 1); isplitl [X01] <;> iassumption
      iapply (x0_fill O c 0 2); isplitl [X02] <;> iassumption
    isplitl [X10 X11 X12 R10 R11 R12]
    · isplitl [X10 R10]; · iapply (x0_fill O c 1 0); isplitl [X10] <;> iassumption
      isplitl [X11 R11]; · iapply (x0_fill O c 1 1); isplitl [X11] <;> iassumption
      iapply (x0_fill O c 1 2); isplitl [X12] <;> iassumption
    isplitl [X20 R20]; · iapply (x0_fill O c 2 0); isplitl [X20] <;> iassumption
    isplitl [X21 R21]; · iapply (x0_fill O c 2 1); isplitl [X21] <;> iassumption
    iapply (x0_fill O c 2 2); isplitl [X22] <;> iassumption
  isplitl [G0 H0]; · iapply (g0_fill O c 0); isplitl [G0] <;> iassumption
  isplitl [G1 H1]; · iapply (g0_fill O c 1); isplitl [G1] <;> iassumption
  iapply (g0_fill O c 2); isplitl [G2] <;> iassumption

/-! ## Whole buffers -/

/-- Two zero offsets. -/
theorem z2 : (![0, 0] : Fin 2 → ℕ) = fun _ => 0 := funext fun a => by fin_cases a <;> rfl
/-- Three zero offsets. -/
theorem z3 : (![0, 0, 0] : Fin 3 → ℕ) = fun _ => 0 := funext fun a => by fin_cases a <;> rfl

/-- The load of the activations. -/
theorem ldX {α : Type} {Q : α → sProp 𝕄} {inb : ∀ i, (![0, 0, 0] : Fin 3 → ℕ) i + S1x1024x1024.size i ≤ S1x1024x1024.size i} {hl}
    {k : (S1x1024x1024.Idx → F .f32) → Prog (TpuEff nD τ sig (Elt F) Λ₀ .tc) α} (q : PosShare TreeShare) (f : FVec F S1x1024x1024 .f32) :
    (((c : Thread nD τ).loc cc0_stg0_0) ↦{q} f : sProp 𝕄) ⊢ iprop(((((c : Thread nD τ).loc cc0_stg0_0) ↦{q} f) -∗ wpc c (k f) Q)
      -∗ wpc c (.op (.load (Memref.whole cc0_stg0_0 : Memref sig .tc .vmem S1x1024x1024 .f32) (Rect.unit (s := S1x1024x1024) ![0, 0, 0] S1x1024x1024.size inb).toLoadRect hl) k) Q) := by
  have h := wp_load_rect (Q := Q) 𝒱₀ (c : Thread nD τ) none Set.univ (Γ := .empty) (defs := defs₀ (F := F)) (m := (Memref.whole cc0_stg0_0 : Memref sig .tc .vmem S1x1024x1024 .f32)) (r := Rect.unit (s := S1x1024x1024) ![0, 0, 0] S1x1024x1024.size inb) (hl := hl) (k := k) (q := q) (f := f) (Finset.subset_univ _)
  rw [show ((Memref.whole cc0_stg0_0 : Memref sig .tc .vmem S1x1024x1024 .f32).access (Rect.unit (s := S1x1024x1024) ![0, 0, 0] S1x1024x1024.size inb)).read (Elt F) f = f from Memref.readAt_unit_zero (Elt F) cc0_stg0_0 z3 inb f] at h
  exact h
/-- The load of the query weights. -/
theorem ldWq {α : Type} {Q : α → sProp 𝕄} {inb : ∀ i, (![0, 0] : Fin 2 → ℕ) i + S1024x1024.size i ≤ S1024x1024.size i} {hl}
    {k : (S1024x1024.Idx → F .f32) → Prog (TpuEff nD τ sig (Elt F) Λ₀ .tc) α} (q : PosShare TreeShare) (f : FVec F S1024x1024 .f32) :
    (((c : Thread nD τ).loc cc0_stg1_0) ↦{q} f : sProp 𝕄) ⊢ iprop(((((c : Thread nD τ).loc cc0_stg1_0) ↦{q} f) -∗ wpc c (k f) Q)
      -∗ wpc c (.op (.load (Memref.whole cc0_stg1_0 : Memref sig .tc .vmem S1024x1024 .f32) (Rect.unit (s := S1024x1024) ![0, 0] S1024x1024.size inb).toLoadRect hl) k) Q) := by
  have h := wp_load_rect (Q := Q) 𝒱₀ (c : Thread nD τ) none Set.univ (Γ := .empty) (defs := defs₀ (F := F)) (m := (Memref.whole cc0_stg1_0 : Memref sig .tc .vmem S1024x1024 .f32)) (r := Rect.unit (s := S1024x1024) ![0, 0] S1024x1024.size inb) (hl := hl) (k := k) (q := q) (f := f) (Finset.subset_univ _)
  rw [show ((Memref.whole cc0_stg1_0 : Memref sig .tc .vmem S1024x1024 .f32).access (Rect.unit (s := S1024x1024) ![0, 0] S1024x1024.size inb)).read (Elt F) f = f from Memref.readAt_unit_zero (Elt F) cc0_stg1_0 z2 inb f] at h
  exact h
/-- The load of the output weights. -/
theorem ldWo {α : Type} {Q : α → sProp 𝕄} {inb : ∀ i, (![0, 0] : Fin 2 → ℕ) i + S1024x1024.size i ≤ S1024x1024.size i} {hl}
    {k : (S1024x1024.Idx → F .f32) → Prog (TpuEff nD τ sig (Elt F) Λ₀ .tc) α} (q : PosShare TreeShare) (f : FVec F S1024x1024 .f32) :
    (((c : Thread nD τ).loc cc0_stg2_0) ↦{q} f : sProp 𝕄) ⊢ iprop(((((c : Thread nD τ).loc cc0_stg2_0) ↦{q} f) -∗ wpc c (k f) Q)
      -∗ wpc c (.op (.load (Memref.whole cc0_stg2_0 : Memref sig .tc .vmem S1024x1024 .f32) (Rect.unit (s := S1024x1024) ![0, 0] S1024x1024.size inb).toLoadRect hl) k) Q) := by
  have h := wp_load_rect (Q := Q) 𝒱₀ (c : Thread nD τ) none Set.univ (Γ := .empty) (defs := defs₀ (F := F)) (m := (Memref.whole cc0_stg2_0 : Memref sig .tc .vmem S1024x1024 .f32)) (r := Rect.unit (s := S1024x1024) ![0, 0] S1024x1024.size inb) (hl := hl) (k := k) (q := q) (f := f) (Finset.subset_univ _)
  rw [show ((Memref.whole cc0_stg2_0 : Memref sig .tc .vmem S1024x1024 .f32).access (Rect.unit (s := S1024x1024) ![0, 0] S1024x1024.size inb)).read (Elt F) f = f from Memref.readAt_unit_zero (Elt F) cc0_stg2_0 z2 inb f] at h
  exact h
/-- The load of the keys. -/
theorem ldK {α : Type} {Q : α → sProp 𝕄} {inb : ∀ i, (![0, 0, 0] : Fin 3 → ℕ) i + S8x1024x128.size i ≤ S8x1024x128.size i} {hl}
    {k : (S8x1024x128.Idx → F .f32) → Prog (TpuEff nD τ sig (Elt F) Λ₀ .tc) α} (q : PosShare TreeShare) (f : FVec F S8x1024x128 .f32) :
    (((c : Thread nD τ).loc cc0_scratch1) ↦{q} f : sProp 𝕄) ⊢ iprop(((((c : Thread nD τ).loc cc0_scratch1) ↦{q} f) -∗ wpc c (k f) Q)
      -∗ wpc c (.op (.load (Memref.whole cc0_scratch1 : Memref sig .tc .vmem S8x1024x128 .f32) (Rect.unit (s := S8x1024x128) ![0, 0, 0] S8x1024x128.size inb).toLoadRect hl) k) Q) := by
  have h := wp_load_rect (Q := Q) 𝒱₀ (c : Thread nD τ) none Set.univ (Γ := .empty) (defs := defs₀ (F := F)) (m := (Memref.whole cc0_scratch1 : Memref sig .tc .vmem S8x1024x128 .f32)) (r := Rect.unit (s := S8x1024x128) ![0, 0, 0] S8x1024x128.size inb) (hl := hl) (k := k) (q := q) (f := f) (Finset.subset_univ _)
  rw [show ((Memref.whole cc0_scratch1 : Memref sig .tc .vmem S8x1024x128 .f32).access (Rect.unit (s := S8x1024x128) ![0, 0, 0] S8x1024x128.size inb)).read (Elt F) f = f from Memref.readAt_unit_zero (Elt F) cc0_scratch1 z3 inb f] at h
  exact h
/-- The load of the values. -/
theorem ldV {α : Type} {Q : α → sProp 𝕄} {inb : ∀ i, (![0, 0, 0] : Fin 3 → ℕ) i + S8x1024x128.size i ≤ S8x1024x128.size i} {hl}
    {k : (S8x1024x128.Idx → F .f32) → Prog (TpuEff nD τ sig (Elt F) Λ₀ .tc) α} (q : PosShare TreeShare) (f : FVec F S8x1024x128 .f32) :
    (((c : Thread nD τ).loc cc0_scratch2) ↦{q} f : sProp 𝕄) ⊢ iprop(((((c : Thread nD τ).loc cc0_scratch2) ↦{q} f) -∗ wpc c (k f) Q)
      -∗ wpc c (.op (.load (Memref.whole cc0_scratch2 : Memref sig .tc .vmem S8x1024x128 .f32) (Rect.unit (s := S8x1024x128) ![0, 0, 0] S8x1024x128.size inb).toLoadRect hl) k) Q) := by
  have h := wp_load_rect (Q := Q) 𝒱₀ (c : Thread nD τ) none Set.univ (Γ := .empty) (defs := defs₀ (F := F)) (m := (Memref.whole cc0_scratch2 : Memref sig .tc .vmem S8x1024x128 .f32)) (r := Rect.unit (s := S8x1024x128) ![0, 0, 0] S8x1024x128.size inb) (hl := hl) (k := k) (q := q) (f := f) (Finset.subset_univ _)
  rw [show ((Memref.whole cc0_scratch2 : Memref sig .tc .vmem S8x1024x128 .f32).access (Rect.unit (s := S8x1024x128) ![0, 0, 0] S8x1024x128.size inb)).read (Elt F) f = f from Memref.readAt_unit_zero (Elt F) cc0_scratch2 z3 inb f] at h
  exact h
/-- The load of the gathered rows. -/
theorem ldAG {α : Type} {Q : α → sProp 𝕄} {inb : ∀ i, (![0, 0] : Fin 2 → ℕ) i + S1024x1024.size i ≤ S1024x1024.size i} {hl}
    {k : (S1024x1024.Idx → F .bf16) → Prog (TpuEff nD τ sig (Elt F) Λ₀ .tc) α} (q : PosShare TreeShare) (f : FVec F S1024x1024 .bf16) :
    (((c : Thread nD τ).loc cc0_scratch5) ↦{q} f : sProp 𝕄) ⊢ iprop(((((c : Thread nD τ).loc cc0_scratch5) ↦{q} f) -∗ wpc c (k f) Q)
      -∗ wpc c (.op (.load (Memref.whole cc0_scratch5 : Memref sig .tc .vmem S1024x1024 .bf16) (Rect.unit (s := S1024x1024) ![0, 0] S1024x1024.size inb).toLoadRect hl) k) Q) := by
  have h := wp_load_rect (Q := Q) 𝒱₀ (c : Thread nD τ) none Set.univ (Γ := .empty) (defs := defs₀ (F := F)) (m := (Memref.whole cc0_scratch5 : Memref sig .tc .vmem S1024x1024 .bf16)) (r := Rect.unit (s := S1024x1024) ![0, 0] S1024x1024.size inb) (hl := hl) (k := k) (q := q) (f := f) (Finset.subset_univ _)
  rw [show ((Memref.whole cc0_scratch5 : Memref sig .tc .vmem S1024x1024 .bf16).access (Rect.unit (s := S1024x1024) ![0, 0] S1024x1024.size inb)).read (Elt F) f = f from Memref.readAt_unit_zero (Elt F) cc0_scratch5 z2 inb f] at h
  exact h
/-- The load of the result before it is stored. -/
theorem ldOut {α : Type} {Q : α → sProp 𝕄} {inb : ∀ i, (![0, 0, 0] : Fin 3 → ℕ) i + S1x1024x1024.size i ≤ S1x1024x1024.size i} {hl}
    {k : (S1x1024x1024.Idx → F .f32) → Prog (TpuEff nD τ sig (Elt F) Λ₀ .tc) α} (q : PosShare TreeShare) (f : FVec F S1x1024x1024 .f32) :
    (((c : Thread nD τ).loc cc0_stg3_0) ↦{q} f : sProp 𝕄) ⊢ iprop(((((c : Thread nD τ).loc cc0_stg3_0) ↦{q} f) -∗ wpc c (k f) Q)
      -∗ wpc c (.op (.load (Memref.whole cc0_stg3_0 : Memref sig .tc .vmem S1x1024x1024 .f32) (Rect.unit (s := S1x1024x1024) ![0, 0, 0] S1x1024x1024.size inb).toLoadRect hl) k) Q) := by
  have h := wp_load_rect (Q := Q) 𝒱₀ (c : Thread nD τ) none Set.univ (Γ := .empty) (defs := defs₀ (F := F)) (m := (Memref.whole cc0_stg3_0 : Memref sig .tc .vmem S1x1024x1024 .f32)) (r := Rect.unit (s := S1x1024x1024) ![0, 0, 0] S1x1024x1024.size inb) (hl := hl) (k := k) (q := q) (f := f) (Finset.subset_univ _)
  rw [show ((Memref.whole cc0_stg3_0 : Memref sig .tc .vmem S1x1024x1024 .f32).access (Rect.unit (s := S1x1024x1024) ![0, 0, 0] S1x1024x1024.size inb)).read (Elt F) f = f from Memref.readAt_unit_zero (Elt F) cc0_stg3_0 z3 inb f] at h
  exact h
/-- The store of the result. -/
theorem stOut {α : Type} {Q : α → sProp 𝕄} {inb : ∀ i, (![0, 0, 0] : Fin 3 → ℕ) i + S1x1024x1024.size i ≤ S1x1024x1024.size i} {hx hm} {w : S1x1024x1024.Idx → F .f32}
    {k : PUnit → Prog (TpuEff nD τ sig (Elt F) Λ₀ .tc) α} (f : FVec F S1x1024x1024 .f32) :
    (((c : Thread nD τ).loc cc0_stg3_0) ↦{fullShare} f : sProp 𝕄) ⊢ iprop(((((c : Thread nD τ).loc cc0_stg3_0) ↦{fullShare} w) -∗ wpc c (k ⟨⟩) Q)
      -∗ wpc c (.op (.store (Memref.whole cc0_stg3_0 : Memref sig .tc .vmem S1x1024x1024 .f32) (Rect.unit (s := S1x1024x1024) ![0, 0, 0] S1x1024x1024.size inb) w Finset.univ hx hm) k) Q) := by
  have h := wp_store (Q := Q) 𝒱₀ (c : Thread nD τ) none Set.univ (Γ := .empty) (defs := defs₀ (F := F)) (m := (Memref.whole cc0_stg3_0 : Memref sig .tc .vmem S1x1024x1024 .f32)) (r := Rect.unit (s := S1x1024x1024) ![0, 0, 0] S1x1024x1024.size inb) (w := w) (Mk := Finset.univ) (hx := hx) (hm := hm) (k := k) (f := f) (Finset.subset_univ _)
  rw [show ((Memref.whole cc0_stg3_0 : Memref sig .tc .vmem S1x1024x1024 .f32).access (Rect.unit (s := S1x1024x1024) ![0, 0, 0] S1x1024x1024.size inb)).write (Elt F) f w Finset.univ = w from Memref.write_access_unit_zero_univ (Elt F) cc0_stg3_0 z3 inb f w] at h
  exact h

/-- All heads landed: a buffer whole. -/
def kBlk (b : Fin 8) : Finset S8x1024x128.Idx := kSet b
/-- Different heads share no element. -/
theorem kBlk_disj (b b' : Fin 8) (h : b ≠ b') : Disjoint (kBlk b) (kBlk b') := by
  unfold kBlk kSet
  exact Finset.disjoint_left.mpr fun i hi hi' => h (Fin.ext ((Finset.mem_filter.mp hi).2.symm.trans (Finset.mem_filter.mp hi').2))
/-- The eight heads are the whole buffer. -/
theorem kBlk_cover : (Finset.univ.biUnion kBlk : Finset S8x1024x128.Idx) = Finset.univ := by
  ext i
  simp only [Finset.mem_biUnion, Finset.mem_univ, true_and, iff_true]
  exact ⟨i 0, Finset.mem_filter.mpr ⟨Finset.mem_univ _, rfl⟩⟩
/-- The buffer of keys is its eight heads. -/
theorem k_blocks (f : FVec F S8x1024x128 .f32) :
    (((c : Thread nD τ).loc cc0_scratch1) ↦{fullShare} f : sProp 𝕄) = bigSep Finset.univ fun h : Fin 8 => kPts c h f := by
  have h := Ring.pointsTo_blocks (Val := Elt F) (Ix := Unit) (Name := ℕ) (U := UU) (Lvl := ℕ) (ℓ := (c : Thread nD τ).loc cc0_scratch1) kBlk kBlk_disj kBlk_cover (q := fullShare) f
  rw [h]
  exact bigSep_congr fun b _ => by unfold kPts kBlk; rfl
/-- The buffer of values is its eight heads. -/
theorem v_blocks (f : FVec F S8x1024x128 .f32) :
    (((c : Thread nD τ).loc cc0_scratch2) ↦{fullShare} f : sProp 𝕄) = bigSep Finset.univ fun h : Fin 8 => vPts c h f := by
  have h := Ring.pointsTo_blocks (Val := Elt F) (Ix := Unit) (Name := ℕ) (U := UU) (Lvl := ℕ) (ℓ := (c : Thread nD τ).loc cc0_scratch2) kBlk kBlk_disj kBlk_cover (q := fullShare) f
  rw [h]
  exact bigSep_congr fun b _ => by unfold vPts kBlk; rfl

/-- The cells of the heads' copies, closed. -/
def kvFin : sProp 𝕄 := bigSep Finset.univ fun kh : Fin 2 × Fin 8 => fin O c (.dma (kvS kh.1 kh.2))

/-- What all copies hand over: every head of the keys, and every head of the values. -/
theorem kvPay_list : (bigSep Finset.univ fun kh : Fin 2 × Fin 8 => dmaPay O c (kvS kh.1 kh.2) : sProp 𝕄)
    = iprop((bigSep Finset.univ fun h : Fin 8 => kPts c h (hd c (O c).k)) ∗ bigSep Finset.univ fun h : Fin 8 => vPts c h (hd c (O c).v)) := by
  rw [bigSep_univ_prod (fun kh : Fin 2 × Fin 8 => dmaPay O c (kvS kh.1 kh.2)), bigSep_univ_eq_bigSepL [(0 : Fin 2), 1] (by decide) (by decide) _, bigSepL_cons_cons, bigSepL_singleton]
  rw [bigSep_congr (Φ := fun h : Fin 8 => kPts c h (hd c (O c).k)) (fun h _ => (pay_k O c h).symm), bigSep_congr (Φ := fun h : Fin 8 => vPts c h (hd c (O c).v)) (fun h _ => (pay_v O c h).symm)]
  rfl

/-- All copies landed: both buffers whole. -/
theorem KV_landed : KV O c (fun _ => 2) ⊢ iprop(kvFin O c ∗ (((c : Thread nD τ).loc cc0_scratch1) ↦{fullShare} (hd c (O c).k))
    ∗ (((c : Thread nD τ).loc cc0_scratch2) ↦{fullShare} (hd c (O c).v))) := by
  unfold KV kvFin
  rw [bigSep_congr (Ψ := fun kh : Fin 2 × Fin 8 => iprop(fin O c (.dma (kvS kh.1 kh.2)) ∗ dmaPay O c (kvS kh.1 kh.2))) (fun kh _ => kvSlot_2 O c kh), bigSep_sep', k_blocks, v_blocks]
  iintro ⟨H, HP⟩
  isplitl [H]; · iexact H
  rw [kvPay_list]
  first | iexact HP | exact Entails.rfl

end Cert.KernelProof

end
-- ==== Proof.States.lean ====
/- # The states of a run -/
module

public import proofs.«01_k».proof.Proof.StepsG

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-- What happens to the heads' copies, in the order of the program; to the slots of the exchanges; to those of the gathering; to
    the parts of a device's sum. -/
def kvActs : List ((Fin 2 × Fin 8) × ℕ) := [((0, 0), 1), ((1, 0), 1), ((0, 1), 1), ((1, 1), 1), ((0, 2), 1), ((1, 2), 1), ((0, 3), 1), ((1, 3), 1), ((0, 4), 1), ((1, 4), 1), ((0, 5), 1), ((1, 5), 1), ((0, 6), 1), ((1, 6), 1), ((0, 7), 1), ((1, 7), 1), ((0, 0), 2), ((1, 0), 2), ((0, 1), 2), ((1, 1), 2), ((0, 2), 2), ((1, 2), 2), ((0, 3), 2), ((1, 3), 2), ((0, 4), 2), ((1, 4), 2), ((0, 5), 2), ((1, 5), 2), ((0, 6), 2), ((1, 6), 2), ((0, 7), 2), ((1, 7), 2)]
def xActs : List ((Fin 3 × Fin 3) × ℕ) := [((0, 0), 1), ((0, 0), 2), ((1, 0), 1), ((1, 0), 2), ((2, 0), 1), ((2, 0), 2), ((0, 0), 3), ((1, 0), 3), ((2, 0), 3), ((0, 1), 1), ((0, 1), 2), ((1, 1), 1), ((1, 1), 2), ((2, 1), 1), ((2, 1), 2), ((0, 1), 3), ((1, 1), 3), ((2, 1), 3), ((0, 2), 1), ((0, 2), 2), ((1, 2), 1), ((1, 2), 2), ((2, 2), 1), ((2, 2), 2), ((0, 2), 3), ((1, 2), 3), ((2, 2), 3), ((0, 0), 4), ((1, 0), 4), ((2, 0), 4), ((0, 1), 4), ((1, 1), 4), ((2, 1), 4), ((0, 2), 4), ((1, 2), 4), ((2, 2), 4)]
def gActs : List (Fin 3 × ℕ) := [(0, 1), (0, 2), (1, 1), (1, 2), (2, 1), (2, 2), (0, 3), (1, 3), (2, 3), (0, 4)]
def mActs : List (Fin 3 × ℕ) := [(0, 1), (1, 1), (2, 1), (0, 2), (1, 2), (2, 2), (0, 3), (1, 3), (2, 3)]

/-- The states after the first `n` of them. -/
def kvst (n : ℕ) : Fin 2 × Fin 8 → ℕ := (kvActs.take n).foldl (fun st a => Function.update st a.1 a.2) fun _ => 0
def xst (n : ℕ) : Fin 3 × Fin 3 → ℕ := (xActs.take n).foldl (fun st a => Function.update st a.1 a.2) fun _ => 0
def gst (n : ℕ) : Fin 3 → ℕ := (gActs.take n).foldl (fun st a => Function.update st a.1 a.2) fun _ => 0
def mst (n : ℕ) : Fin 3 → ℕ := (mActs.take n).foldl (fun st a => Function.update st a.1 a.2) fun _ => 0

/-- After all their steps every head's copy has landed. -/
theorem kvst_all : kvst 32 = fun _ => 2 := by funext ⟨k, h⟩; revert k h; decide
/-- After all their steps every exchange is done on both sides. -/
theorem xst_all : xst 36 = fun _ => 4 := by funext ⟨p, r⟩; revert p r; decide
/-- After nine steps every part has been sent and received. -/
theorem gst_whole : gst 9 = fun _ => 3 := by funext p; revert p; decide
/-- After nine updates every part has had its three exchanges. -/
theorem mst_all : mst 9 = fun _ => 3 := by funext p; revert p; decide
/-- Two bands cover the half of part 0 that is sent first. -/
theorem so_b0 (c : Dev nD) : so 0 c + 192 ≤ 256 * 2 := by revert c; decide
/-- Three bands cover the half of part 1 that is sent first. -/
theorem so_b1 (c : Dev nD) : so 1 c + 192 ≤ 256 * 3 := by revert c; decide
/-- Four bands cover the half of part 2 that is sent first. -/
theorem so_b2 (c : Dev nD) : so 2 c + 128 ≤ 256 * 4 := by revert c; decide
/-- After the handshake a device may wait for its own copies: everything it owes has a higher level. -/
theorem pl_3_0 : ∀ x ∈ plan.drop 3, 0 < lvl x.2.1 := by decide
/-- After the handshake a device may wait at the barrier. -/
theorem pl_3_1 : ∀ x ∈ plan.drop 3, 1 < lvl x.2.1 := by decide
/-- After the sends of the first round a device may wait for what the first round delivers. -/
theorem pl_6_2 : ∀ x ∈ plan.drop 6, 2 < lvl x.2.1 := by decide
/-- After the sends of the second round it may wait for what the second round delivers. -/
theorem pl_9_3 : ∀ x ∈ plan.drop 9, 3 < lvl x.2.1 := by decide
/-- After the sends of the third round it may wait for what the third round delivers. -/
theorem pl_12_4 : ∀ x ∈ plan.drop 12, 4 < lvl x.2.1 := by decide
/-- At the end a device owes nothing, and may wait for its own sends. -/
theorem pl_15_0 : ∀ x ∈ plan.drop 15, 0 < lvl x.2.1 := by decide
/-- After the gathering's sends it may wait for what the gathering delivers. -/
theorem pl_15_5 : ∀ x ∈ plan.drop 15, 5 < lvl x.2.1 := by decide

abbrev xP (f : FVec F S1x1024x1024 .f32) : sProp 𝕄 := ((c : Thread nD τ).loc cc0_stg0_0) ↦{fullShare} f
abbrev qP (f : FVec F S1024x1024 .f32) : sProp 𝕄 := ((c : Thread nD τ).loc cc0_stg1_0) ↦{fullShare} f
abbrev wP (f : FVec F S1024x1024 .f32) : sProp 𝕄 := ((c : Thread nD τ).loc cc0_stg2_0) ↦{fullShare} f
abbrev oP (f : FVec F S1x1024x1024 .f32) : sProp 𝕄 := ((c : Thread nD τ).loc cc0_stg3_0) ↦{fullShare} f
abbrev kP (f : FVec F S8x1024x128 .f32) : sProp 𝕄 := ((c : Thread nD τ).loc cc0_scratch1) ↦{fullShare} f
abbrev vP (f : FVec F S8x1024x128 .f32) : sProp 𝕄 := ((c : Thread nD τ).loc cc0_scratch2) ↦{fullShare} f
/-- What a device gives with its signal to partner `d`. -/
abbrev barT (d : Fin 3) : sProp 𝕄 := iprop(dutyTok ER (barC (px d c)) 0 d ∗ barPay (F := F) (px d c) d)

/-- All copies landed: the buffers of keys and of values, whole, with the device's heads. -/
theorem KV_done : KV O c (kvst 32) ⊢ iprop(kvFin O c ∗ kP c (hd c (O c).k) ∗ vP c (hd c (O c).v)) := by
  rw [kvst_all]; exact KV_landed O c
/-- All gathered: half a share of the buffer whole, to be read while the sends are not yet over, and given back afterwards. -/
theorem GA_done : GA O c (gst 9) ⊢ iprop((((c : Thread nD τ).loc cc0_scratch5) ↦{fullShare.right} (AG O c))
    ∗ ((((c : Thread nD τ).loc cc0_scratch5) ↦{fullShare.right} (AG O c)) -∗ GA O c (gst 9))) := by
  rw [gst_whole]; exact GA_whole O c

end Cert.KernelProof

end
-- ==== Proof.RunA.lean ====
/- # Parts of the body -/
module

public import proofs.«01_k».proof.Proof.States

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-- Part 1 of the body. -/
theorem run1 {β : Type} {Q : β → sProp 𝕄}  {K : (Σ' (d0 : Dev nD), BitVec 32) → Prog (TpuEff nD τ sig (Elt F) Λ₀ .tc) β} :
    iprop(recs O ∗ levAts L lv ∗ KV O c (kvst 0))
      ⊢ iprop((∀ W0, (KV O c (kvst 3)) -∗ wpc c (K ⟨c, W0⟩) Q) -∗ wpc c (k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8  >>= K) Q) := by
  rw [k0_part1_eq_skeleton]
  unfold k0_part1_skel
  simp only [semSignalWord, semWaitWord, Prog.lift, Prog.bind_op, Prog.bind_ret, Prog.pure_eq_ret, wp_deviceId]
  iintro ⟨#HR, #HL, HK⟩ Hk
  iapply (copyK O c (kvst 0) 0 rfl rfl rfl rfl) $$ [HK]
  · isplitr; · iexact HR
    iexact HK
  iintro HK
  iapply (copyV O c (kvst 1) 0 rfl rfl rfl rfl) $$ [HK]
  · isplitr; · iexact HR
    iexact HK
  iintro HK
  iapply (copyK O c (kvst 2) 1 rfl rfl rfl rfl) $$ [HK]
  · isplitr; · iexact HR
    iexact HK
  iintro HK
  iapply Hk $$ %_ [HK]
  iexact HK

/-- Part 2 of the body. -/
theorem run2 {β : Type} {Q : β → sProp 𝕄} (v2 : BitVec 32) {K : (PUnit) → Prog (TpuEff nD τ sig (Elt F) Λ₀ .tc) β} :
    iprop(recs O ∗ levAts L lv ∗ KV O c (kvst 3))
      ⊢ iprop(((KV O c (kvst 6)) -∗ wpc c (K ⟨⟩) Q) -∗ wpc c (k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 >>= K) Q) := by
  rw [k0_part2_eq_skeleton]
  unfold k0_part2_skel
  simp only [semSignalWord, semWaitWord, Prog.lift, Prog.bind_op, Prog.bind_ret, Prog.pure_eq_ret]
  iintro ⟨#HR, #HL, HK⟩ Hk
  iapply (copyV O c (kvst 3) 1 rfl rfl rfl rfl) $$ [HK]
  · isplitr; · iexact HR
    iexact HK
  iintro HK
  iapply (copyK O c (kvst 4) 2 rfl rfl rfl rfl) $$ [HK]
  · isplitr; · iexact HR
    iexact HK
  iintro HK
  iapply (copyV O c (kvst 5) 2 rfl rfl rfl rfl) $$ [HK]
  · isplitr; · iexact HR
    iexact HK
  iintro HK
  iapply Hk
  iexact HK

/-- Part 3 of the body. -/
theorem run3 {β : Type} {Q : β → sProp 𝕄} (v2 : BitVec 32) {K : (PUnit) → Prog (TpuEff nD τ sig (Elt F) Λ₀ .tc) β} :
    iprop(recs O ∗ levAts L lv ∗ KV O c (kvst 6))
      ⊢ iprop(((KV O c (kvst 10)) -∗ wpc c (K ⟨⟩) Q) -∗ wpc c (k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 >>= K) Q) := by
  rw [k0_part3_eq_skeleton]
  unfold k0_part3_skel
  simp only [semSignalWord, semWaitWord, Prog.lift, Prog.bind_op, Prog.bind_ret, Prog.pure_eq_ret]
  iintro ⟨#HR, #HL, HK⟩ Hk
  iapply (copyK O c (kvst 6) 3 rfl rfl rfl rfl) $$ [HK]
  · isplitr; · iexact HR
    iexact HK
  iintro HK
  iapply (copyV O c (kvst 7) 3 rfl rfl rfl rfl) $$ [HK]
  · isplitr; · iexact HR
    iexact HK
  iintro HK
  iapply (copyK O c (kvst 8) 4 rfl rfl rfl rfl) $$ [HK]
  · isplitr; · iexact HR
    iexact HK
  iintro HK
  iapply (copyV O c (kvst 9) 4 rfl rfl rfl rfl) $$ [HK]
  · isplitr; · iexact HR
    iexact HK
  iintro HK
  iapply Hk
  iexact HK

/-- Part 4 of the body. -/
theorem run4 {β : Type} {Q : β → sProp 𝕄} (v2 : BitVec 32) {K : (PUnit) → Prog (TpuEff nD τ sig (Elt F) Λ₀ .tc) β} :
    iprop(recs O ∗ levAts L lv ∗ KV O c (kvst 10))
      ⊢ iprop(((KV O c (kvst 13)) -∗ wpc c (K ⟨⟩) Q) -∗ wpc c (k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 >>= K) Q) := by
  rw [k0_part4_eq_skeleton]
  unfold k0_part4_skel
  simp only [semSignalWord, semWaitWord, Prog.lift, Prog.bind_op, Prog.bind_ret, Prog.pure_eq_ret]
  iintro ⟨#HR, #HL, HK⟩ Hk
  iapply (copyK O c (kvst 10) 5 rfl rfl rfl rfl) $$ [HK]
  · isplitr; · iexact HR
    iexact HK
  iintro HK
  iapply (copyV O c (kvst 11) 5 rfl rfl rfl rfl) $$ [HK]
  · isplitr; · iexact HR
    iexact HK
  iintro HK
  iapply (copyK O c (kvst 12) 6 rfl rfl rfl rfl) $$ [HK]
  · isplitr; · iexact HR
    iexact HK
  iintro HK
  iapply Hk
  iexact HK

/-- Part 5 of the body. -/
theorem run5 {β : Type} {Q : β → sProp 𝕄} (v2 : BitVec 32) {K : (Σ' (v115 : Sems sig S_), BitVec 32) → Prog (TpuEff nD τ sig (Elt F) Λ₀ .tc) β} :
    iprop(recs O ∗ levAts L lv ∗ KV O c (kvst 13) ∗ ow c (plan.drop 0) ∗ barT (F := F) c 0 ∗ barT (F := F) c 1)
      ⊢ iprop((∀ W0, (KV O c (kvst 16) ∗ ow c (plan.drop 2)) -∗ wpc c (K ⟨SemArray.scalar (sig.barrier 0 rfl), W0⟩) Q) -∗ wpc c (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 >>= K) Q) := by
  rw [k0_part5_eq_skeleton]
  unfold k0_part5_skel
  simp only [semSignalWord, semWaitWord, Prog.lift, Prog.bind_op, Prog.bind_ret, Prog.pure_eq_ret]
  iintro ⟨#HR, #HL, HK, HO, Hb0, Hb1⟩ Hk
  iapply (copyV O c (kvst 13) 6 rfl rfl rfl rfl) $$ [HK]
  · isplitr; · iexact HR
    iexact HK
  iintro HK
  iapply (copyK O c (kvst 14) 7 rfl rfl rfl rfl) $$ [HK]
  · isplitr; · iexact HR
    iexact HK
  iintro HK
  iapply (copyV O c (kvst 15) 7 rfl rfl rfl rfl) $$ [HK]
  · isplitr; · iexact HR
    iexact HK
  iintro HK
  icases Hb0 with ⟨Hbt, Hbp⟩
  iapply (signal O c 0 (Fin.ext (dev1_eq c)) rfl rfl (plan.drop 0) (plan.drop 1) rfl) $$ [HO Hbt Hbp]
  · isplitr; · iexact HR
    isplitl [HO]; · iexact HO
    isplitl [Hbt]; · iexact Hbt
    iexact Hbp
  iintro HO
  icases Hb1 with ⟨Hbt, Hbp⟩
  iapply (signal O c 1 (Fin.ext (dev2_eq c)) rfl rfl (plan.drop 1) (plan.drop 2) rfl) $$ [HO Hbt Hbp]
  · isplitr; · iexact HR
    isplitl [HO]; · iexact HO
    isplitl [Hbt]; · iexact Hbt
    iexact Hbp
  iintro HO
  iapply Hk $$ %_ [HK HO]
  isplitl [HK]; · iexact HK
  iexact HO

/-- Part 6 of the body. -/
theorem run6 {β : Type} {Q : β → sProp 𝕄} (v123 : BitVec 32) {K : (Σ' (v134 : FVec F S1024x1024 .bf16), FVec F S1024x1024 .bf16) → Prog (TpuEff nD τ sig (Elt F) Λ₀ .tc) β} :
    iprop(recs O ∗ levAts L lv ∗ ow c (plan.drop 2) ∗ barT (F := F) c 2 ∗ cred (tallyAt (barC c) () 3) ∗ atPos ER (barC c) 0 ∅ 0 ∗ XG0 (F := F) c ∗ xP c (O c).x ∗ qP c (O c).wq ∗ wP c (O c).wo ∗ KV O c (kvst 16))
      ⊢ iprop(((ow c (plan.drop 3) ∗ xP c (O c).x ∗ qP c (O c).wq ∗ wP c (O c).wo ∗ KV O c (kvst 18) ∗ X O c (xst 0) ∗ GA O c (gst 0) ∗ fin O c (.reg barS)) -∗ wpc c (K ⟨qv (O c), wv (O c)⟩) Q) -∗ wpc c (k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c (SemArray.scalar (sig.barrier 0 rfl)) v123 >>= K) Q) := by
  rw [k0_part6_eq_skeleton]
  unfold k0_part6_skel
  simp only [semSignalWord, semWaitWord, Prog.lift, Prog.bind_op, Prog.bind_ret, Prog.pure_eq_ret]
  iintro ⟨#HR, #HL, HO, Hb2, Hbc, Hba, HXG, Hx, Hq, Hw, HK⟩ Hk
  icases Hb2 with ⟨Hbt, Hbp⟩
  iapply (signal O c 2 (Fin.ext (dev3_eq c)) rfl rfl (plan.drop 2) (plan.drop 3) rfl) $$ [HO Hbt Hbp]
  · isplitr; · iexact HR
    isplitl [HO]; · iexact HO
    isplitl [Hbt]; · iexact Hbt
    iexact Hbp
  iintro HO
  iapply (waitBar O c rfl rfl (plan.drop 3) pl_3_1) $$ [HO Hbc Hba]
  · isplitr; · iexact HR
    isplitr; · iexact HL
    isplitl [HO]; · iexact HO
    isplitl [Hbc]; · iexact Hbc
    iexact Hba
  iintro ⟨HO, Hbf, HP⟩
  ihave HXG := (XG_fill O c) $$ [HXG HP]
  · isplitl [HXG]; · iexact HXG
    iexact HP
  icases HXG with ⟨HX, HG⟩
  iapply (ldX c fullShare (O c).x) $$ [Hx]
  · iexact Hx
  iintro Hx
  iapply (ldWq c fullShare (O c).wq) $$ [Hq]
  · iexact Hq
  iintro Hq
  iapply (ldWo c fullShare (O c).wo) $$ [Hw]
  · iexact Hw
  iintro Hw
  iapply (waitKV O c (kvst 16) (0, 0) rfl rfl rfl (plan.drop 3) pl_3_0) $$ [HK HO]
  · isplitr; · iexact HR
    isplitr; · iexact HL
    isplitl [HK]; · iexact HK
    iexact HO
  iintro ⟨HK, HO⟩
  iapply (waitKV O c (kvst 17) (1, 0) rfl rfl rfl (plan.drop 3) pl_3_0) $$ [HK HO]
  · isplitr; · iexact HR
    isplitr; · iexact HL
    isplitl [HK]; · iexact HK
    iexact HO
  iintro ⟨HK, HO⟩
  iapply Hk
  isplitl [HO]; · iexact HO
  isplitl [Hx]; · iexact Hx
  isplitl [Hq]; · iexact Hq
  isplitl [Hw]; · iexact Hw
  isplitl [HK]; · iexact HK
  isplitl [HX]; · iexact HX
  isplitl [HG]; · iexact HG
  iexact Hbf

/-- Part 7 of the body. -/
theorem run7 {β : Type} {Q : β → sProp 𝕄}  {K : (PUnit) → Prog (TpuEff nD τ sig (Elt F) Λ₀ .tc) β} :
    iprop(recs O ∗ levAts L lv ∗ ow c (plan.drop 3) ∗ KV O c (kvst 18))
      ⊢ iprop(((ow c (plan.drop 3) ∗ KV O c (kvst 22)) -∗ wpc c (K ⟨⟩) Q) -∗ wpc c (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c >>= K) Q) := by
  rw [k0_part7_eq_skeleton]
  unfold k0_part7_skel
  simp only [semSignalWord, semWaitWord, Prog.lift, Prog.bind_op, Prog.bind_ret, Prog.pure_eq_ret]
  iintro ⟨#HR, #HL, HO, HK⟩ Hk
  iapply (waitKV O c (kvst 18) (0, 1) rfl rfl rfl (plan.drop 3) pl_3_0) $$ [HK HO]
  · isplitr; · iexact HR
    isplitr; · iexact HL
    isplitl [HK]; · iexact HK
    iexact HO
  iintro ⟨HK, HO⟩
  iapply (waitKV O c (kvst 19) (1, 1) rfl rfl rfl (plan.drop 3) pl_3_0) $$ [HK HO]
  · isplitr; · iexact HR
    isplitr; · iexact HL
    isplitl [HK]; · iexact HK
    iexact HO
  iintro ⟨HK, HO⟩
  iapply (waitKV O c (kvst 20) (0, 2) rfl rfl rfl (plan.drop 3) pl_3_0) $$ [HK HO]
  · isplitr; · iexact HR
    isplitr; · iexact HL
    isplitl [HK]; · iexact HK
    iexact HO
  iintro ⟨HK, HO⟩
  iapply (waitKV O c (kvst 21) (1, 2) rfl rfl rfl (plan.drop 3) pl_3_0) $$ [HK HO]
  · isplitr; · iexact HR
    isplitr; · iexact HL
    isplitl [HK]; · iexact HK
    iexact HO
  iintro ⟨HK, HO⟩
  iapply Hk
  isplitl [HO]; · iexact HO
  iexact HK

/-- Part 8 of the body. -/
theorem run8 {β : Type} {Q : β → sProp 𝕄}  {K : (PUnit) → Prog (TpuEff nD τ sig (Elt F) Λ₀ .tc) β} :
    iprop(recs O ∗ levAts L lv ∗ ow c (plan.drop 3) ∗ KV O c (kvst 22))
      ⊢ iprop(((ow c (plan.drop 3) ∗ KV O c (kvst 26)) -∗ wpc c (K ⟨⟩) Q) -∗ wpc c (k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c >>= K) Q) := by
  rw [k0_part8_eq_skeleton]
  unfold k0_part8_skel
  simp only [semSignalWord, semWaitWord, Prog.lift, Prog.bind_op, Prog.bind_ret, Prog.pure_eq_ret]
  iintro ⟨#HR, #HL, HO, HK⟩ Hk
  iapply (waitKV O c (kvst 22) (0, 3) rfl rfl rfl (plan.drop 3) pl_3_0) $$ [HK HO]
  · isplitr; · iexact HR
    isplitr; · iexact HL
    isplitl [HK]; · iexact HK
    iexact HO
  iintro ⟨HK, HO⟩
  iapply (waitKV O c (kvst 23) (1, 3) rfl rfl rfl (plan.drop 3) pl_3_0) $$ [HK HO]
  · isplitr; · iexact HR
    isplitr; · iexact HL
    isplitl [HK]; · iexact HK
    iexact HO
  iintro ⟨HK, HO⟩
  iapply (waitKV O c (kvst 24) (0, 4) rfl rfl rfl (plan.drop 3) pl_3_0) $$ [HK HO]
  · isplitr; · iexact HR
    isplitr; · iexact HL
    isplitl [HK]; · iexact HK
    iexact HO
  iintro ⟨HK, HO⟩
  iapply (waitKV O c (kvst 25) (1, 4) rfl rfl rfl (plan.drop 3) pl_3_0) $$ [HK HO]
  · isplitr; · iexact HR
    isplitr; · iexact HL
    isplitl [HK]; · iexact HK
    iexact HO
  iintro ⟨HK, HO⟩
  iapply Hk
  isplitl [HO]; · iexact HO
  iexact HK

/-- Part 9 of the body. -/
theorem run9 {β : Type} {Q : β → sProp 𝕄}  {K : (PUnit) → Prog (TpuEff nD τ sig (Elt F) Λ₀ .tc) β} :
    iprop(recs O ∗ levAts L lv ∗ ow c (plan.drop 3) ∗ KV O c (kvst 26))
      ⊢ iprop(((ow c (plan.drop 3) ∗ KV O c (kvst 30)) -∗ wpc c (K ⟨⟩) Q) -∗ wpc c (k0_part9 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c >>= K) Q) := by
  rw [k0_part9_eq_skeleton]
  unfold k0_part9_skel
  simp only [semSignalWord, semWaitWord, Prog.lift, Prog.bind_op, Prog.bind_ret, Prog.pure_eq_ret]
  iintro ⟨#HR, #HL, HO, HK⟩ Hk
  iapply (waitKV O c (kvst 26) (0, 5) rfl rfl rfl (plan.drop 3) pl_3_0) $$ [HK HO]
  · isplitr; · iexact HR
    isplitr; · iexact HL
    isplitl [HK]; · iexact HK
    iexact HO
  iintro ⟨HK, HO⟩
  iapply (waitKV O c (kvst 27) (1, 5) rfl rfl rfl (plan.drop 3) pl_3_0) $$ [HK HO]
  · isplitr; · iexact HR
    isplitr; · iexact HL
    isplitl [HK]; · iexact HK
    iexact HO
  iintro ⟨HK, HO⟩
  iapply (waitKV O c (kvst 28) (0, 6) rfl rfl rfl (plan.drop 3) pl_3_0) $$ [HK HO]
  · isplitr; · iexact HR
    isplitr; · iexact HL
    isplitl [HK]; · iexact HK
    iexact HO
  iintro ⟨HK, HO⟩
  iapply (waitKV O c (kvst 29) (1, 6) rfl rfl rfl (plan.drop 3) pl_3_0) $$ [HK HO]
  · isplitr; · iexact HR
    isplitr; · iexact HL
    isplitl [HK]; · iexact HK
    iexact HO
  iintro ⟨HK, HO⟩
  iapply Hk
  isplitl [HO]; · iexact HO
  iexact HK

/-- Part 10 of the body. -/
theorem run10 {β : Type} {Q : β → sProp 𝕄}  {K : (Σ' (v235 : FVec F S8x1024x128 .bf16) (v237 : FVec F S8x1024x128 .bf16) (v245 : IVec S256x512 1) (v253 : IVec S256x512 1) (v254 : IVec S256x512 32), BitVec 32) → Prog (TpuEff nD τ sig (Elt F) Λ₀ .tc) β} :
    iprop(recs O ∗ levAts L lv ∗ ow c (plan.drop 3) ∗ KV O c (kvst 30))
      ⊢ iprop(((ow c (plan.drop 3) ∗ kvFin O c ∗ kP c (hd c (O c).k) ∗ vP c (hd c (O c).v)) -∗ wpc c (K ⟨kv (O c) c, vv (O c) c, ma, mb, iota .tc S256x512 32 [0] iota_S256x512_d0_w32, 256#32⟩) Q) -∗ wpc c (k0_part10 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c >>= K) Q) := by
  rw [k0_part10_eq_skeleton]
  unfold k0_part10_skel
  simp only [semSignalWord, semWaitWord, Prog.lift, Prog.bind_op, Prog.bind_ret, Prog.pure_eq_ret]
  iintro ⟨#HR, #HL, HO, HK⟩ Hk
  iapply (waitKV O c (kvst 30) (0, 7) rfl rfl rfl (plan.drop 3) pl_3_0) $$ [HK HO]
  · isplitr; · iexact HR
    isplitr; · iexact HL
    isplitl [HK]; · iexact HK
    iexact HO
  iintro ⟨HK, HO⟩
  iapply (waitKV O c (kvst 31) (1, 7) rfl rfl rfl (plan.drop 3) pl_3_0) $$ [HK HO]
  · isplitr; · iexact HR
    isplitr; · iexact HL
    isplitl [HK]; · iexact HK
    iexact HO
  iintro ⟨HK, HO⟩
  ihave HK := (show KV O c (Function.update (kvst 31) (1, 7) 2) ⊢ _ from KV_done O c) $$ HK
  icases HK with ⟨HKf, HKk, HKv⟩
  iapply (ldK c fullShare (hd c (O c).k)) $$ [HKk]
  · iexact HKk
  iintro HKk
  iapply (ldV c fullShare (hd c (O c).v)) $$ [HKv]
  · iexact HKv
  iintro HKv
  iapply Hk
  isplitl [HO]; · iexact HO
  isplitl [HKf]; · iexact HKf
  isplitl [HKk]; · iexact HKk
  iexact HKv

end Cert.KernelProof

end
-- ==== Proof.RunB.lean ====
/- # Parts of the body -/
module

public import proofs.«01_k».proof.Proof.States

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-- Part 11 of the body: values only. -/
theorem run11 {β : Type} (v134 : FVec F S1024x1024 .bf16) (v235 : FVec F S8x1024x128 .bf16) (v237 : FVec F S8x1024x128 .bf16) (v245 : IVec S256x512 1) (v254 : IVec S256x512 32) (c256_i32 : BitVec 32) {K : (Σ' (v261 : IVec S256x512 1) (v277 : FVec F S256x128 .bf16) (v293 : FVec F S256x128 .bf16) (v300 : FVec F S256x512 .f32) (v301 : FVec F S256x512 .bf16), FVec F S512x128 .bf16) → Prog (TpuEff nD τ sig (Elt F) Λ₀ .tc) β} :
    (k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v245 v254 c256_i32 >>= K) = K ⟨k0_pay7 v254 c256_i32, k0_pay8 v134 v235 v237 v245, k0_pay9 v134 v235 v237 v245, k0_pay10 v134 v235 v245, k0_pay11 v134 v235 v245, k0_pay12 v237⟩ := by
  rw [k0_part11_eq_skeleton]; rfl

/-- Part 12 of the body: values only. -/
theorem run12 {β : Type} (v134 : FVec F S1024x1024 .bf16) (v235 : FVec F S8x1024x128 .bf16) (v237 : FVec F S8x1024x128 .bf16) (v245 : IVec S256x512 1) (v300 : FVec F S256x512 .f32) (v301 : FVec F S256x512 .bf16) (v303 : FVec F S512x128 .bf16) {K : (Σ' (v309 : FVec F S256x128 .bf16) (v325 : FVec F S256x128 .bf16) (v341 : FVec F S256x128 .bf16) (v348 : FVec F S256x512 .f32) (v349 : FVec F S256x512 .bf16), FVec F S512x128 .bf16) → Prog (TpuEff nD τ sig (Elt F) Λ₀ .tc) β} :
    (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v245 v300 v301 v303 >>= K) = K ⟨k0_pay13 v300 v301 v303, k0_pay14 v134 v235 v237 v245, k0_pay15 v134 v235 v237 v245, k0_pay16 v134 v235 v245, k0_pay17 v134 v235 v245, k0_pay18 v237⟩ := by
  rw [k0_part12_eq_skeleton]; rfl

/-- Part 13 of the body. -/
theorem run13 {β : Type} {Q : β → sProp 𝕄} (v134 : FVec F S1024x1024 .bf16) (v137 : FVec F S1024x1024 .bf16) (v235 : FVec F S8x1024x128 .bf16) (v237 : FVec F S8x1024x128 .bf16) (v245 : IVec S256x512 1) (v277 : FVec F S256x128 .bf16) (v293 : FVec F S256x128 .bf16) (v309 : FVec F S256x128 .bf16) (v325 : FVec F S256x128 .bf16) (v341 : FVec F S256x128 .bf16) (v348 : FVec F S256x512 .f32) (v349 : FVec F S256x512 .bf16) (v351 : FVec F S512x128 .bf16) (f : FVec F S1024x1024 .f32) (hb : k0_pay19 v134 v137 v235 v237 v245 v277 v293 v309 v325 v341 v348 v349 v351 = band (O c) c 0) {K : (Σ' (v395 : FVec F S256x128 .bf16), FVec F S512x128 .bf16) → Prog (TpuEff nD τ sig (Elt F) Λ₀ .tc) β} :
    iprop(recs O ∗ levAts L lv ∗ accP c (accB (O c) c 0 f))
      ⊢ iprop(((accP c (accB (O c) c 1 f)) -∗ wpc c (K ⟨k0_pay20 v134, k0_pay21 v235⟩) Q) -∗ wpc c (k0_part13 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v137 v235 v237 v245 v277 v293 v309 v325 v341 v348 v349 v351 >>= K) Q) := by
  rw [k0_part13_eq_skeleton]
  unfold k0_part13_skel
  simp only [semSignalWord, semWaitWord, Prog.lift, Prog.bind_op, Prog.bind_ret, Prog.pure_eq_ret]
  iintro ⟨#HR, #HL, HA⟩ Hk
  iapply (ldA c (n := 256) 0 rfl (by decide) (accB (O c) c 0 f)) $$ [HA]
  · iexact HA
  iintro %v392 %hv392 HA
  iapply (stBand O c 0 rfl (by decide) f hb) $$ [HA]
  · iexact HA
  iintro HA
  iapply Hk
  iexact HA

/-- Part 14 of the body: values only. -/
theorem run14 {β : Type} (v134 : FVec F S1024x1024 .bf16) (v235 : FVec F S8x1024x128 .bf16) (v237 : FVec F S8x1024x128 .bf16) (v253 : IVec S256x512 1) (v395 : FVec F S256x128 .bf16) (v397 : FVec F S512x128 .bf16) {K : (Σ' (v410 : FVec F S256x128 .bf16) (v426 : FVec F S256x128 .bf16) (v442 : FVec F S256x128 .bf16) (v443 : FVec F S256x128 .bf16), FVec F S512x128 .bf16) → Prog (TpuEff nD τ sig (Elt F) Λ₀ .tc) β} :
    (k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v395 v397 >>= K) = K ⟨k0_pay22 v237 v253 v395 v397, k0_pay23 v134 v235 v237 v253, k0_pay24 v134 v235 v237 v253, k0_pay25 v134, k0_pay26 v235⟩ := by
  rw [k0_part14_eq_skeleton]; rfl

/-- Part 15 of the body: values only. -/
theorem run15 {β : Type} (v134 : FVec F S1024x1024 .bf16) (v235 : FVec F S8x1024x128 .bf16) (v237 : FVec F S8x1024x128 .bf16) (v253 : IVec S256x512 1) (v443 : FVec F S256x128 .bf16) (v445 : FVec F S512x128 .bf16) {K : (Σ' (v458 : FVec F S256x128 .bf16) (v474 : FVec F S256x128 .bf16) (v490 : FVec F S256x128 .bf16) (v491 : FVec F S256x128 .bf16), FVec F S512x128 .bf16) → Prog (TpuEff nD τ sig (Elt F) Λ₀ .tc) β} :
    (k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v443 v445 >>= K) = K ⟨k0_pay27 v237 v253 v443 v445, k0_pay28 v134 v235 v237 v253, k0_pay29 v134 v235 v237 v253, k0_pay30 v134, k0_pay31 v235⟩ := by
  rw [k0_part15_eq_skeleton]; rfl

/-- Part 16 of the body. -/
theorem run16 {β : Type} {Q : β → sProp 𝕄} (v2 : BitVec 32) (v134 : FVec F S1024x1024 .bf16) (v137 : FVec F S1024x1024 .bf16) (v235 : FVec F S8x1024x128 .bf16) (v237 : FVec F S8x1024x128 .bf16) (v253 : IVec S256x512 1) (v410 : FVec F S256x128 .bf16) (v426 : FVec F S256x128 .bf16) (v442 : FVec F S256x128 .bf16) (v458 : FVec F S256x128 .bf16) (v474 : FVec F S256x128 .bf16) (v490 : FVec F S256x128 .bf16) (v491 : FVec F S256x128 .bf16) (v493 : FVec F S512x128 .bf16) (f : FVec F S1024x1024 .f32) (hb : k0_pay32 v134 v137 v235 v237 v253 v410 v426 v442 v458 v474 v490 v491 v493 = band (O c) c 1) {K : (Σ' (c4_i32_364 : BitVec 32) (v528 : BitVec 32) (v533 : BitVec 32) (v535 : BitVec 32), BitVec 1) → Prog (TpuEff nD τ sig (Elt F) Λ₀ .tc) β} :
    iprop(recs O ∗ levAts L lv ∗ accP c (accB (O c) c 1 f))
      ⊢ iprop((∀ W0 W1 W2 W3 W4, (accP c (accB (O c) c 2 f)) -∗ wpc c (K ⟨W0, W1, W2, W3, W4⟩) Q) -∗ wpc c (k0_part16 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v2 v134 v137 v235 v237 v253 v410 v426 v442 v458 v474 v490 v491 v493 >>= K) Q) := by
  rw [k0_part16_eq_skeleton]
  unfold k0_part16_skel
  simp only [semSignalWord, semWaitWord, Prog.lift, Prog.bind_op, Prog.bind_ret, Prog.pure_eq_ret]
  iintro ⟨#HR, #HL, HA⟩ Hk
  iapply (ldA c (n := 256) 256 rfl (by decide) (accB (O c) c 1 f)) $$ [HA]
  · iexact HA
  iintro %v525 %hv525 HA
  iapply (stBand O c 1 rfl (by decide) f hb) $$ [HA]
  · iexact HA
  iintro HA
  iapply Hk $$ %_ %_ %_ %_ %_ [HA]
  iexact HA

/-- Part 17 of the body. -/
theorem run17 {β : Type} {Q : β → sProp 𝕄} (v2 : BitVec 32) (c4_i32_364 : BitVec 32) (v528 : BitVec 32) (v533 : BitVec 32) (v535 : BitVec 32) (v536 : BitVec 1) (f : FVec F S1024x1024 .f32) {K : (Σ' (v554 : BitVec 32) (v561 : BitVec 32), BitVec 32) → Prog (TpuEff nD τ sig (Elt F) Λ₀ .tc) β} :
    iprop(recs O ∗ levAts L lv ∗ accP c (accB (O c) c 2 f) ∗ X O c (xst 0))
      ⊢ iprop((∀ W0 W1 W2, (accP c (accB (O c) c 2 f) ∗ X O c (xst 1)) -∗ wpc c (K ⟨W0, W1, W2⟩) Q) -∗ wpc c (k0_part17 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 c4_i32_364 v528 v533 v535 v536 >>= K) Q) := by
  rw [k0_part17_eq_skeleton]
  unfold k0_part17_skel
  simp only [semSignalWord, semWaitWord, Prog.lift, Prog.bind_op, Prog.bind_ret, Prog.pure_eq_ret]
  iintro ⟨#HR, #HL, HA, HX⟩ Hk
  iapply (ldA c (n := 192) (so 0 c) (off2_0 c) (so_le 0 c) (accB (O c) c 2 f)) $$ [HA]
  · iexact HA
  iintro %v563 %hv563 HA
  iapply (ldT O c (n := 192) 0 0 rfl rfl (xst 0) rfl) $$ [HX]
  · iexact HX
  iintro %v565 HX
  iapply (stT O c (n := 192) 0 0 rfl rfl (xst 0) rfl (fun x y => (tx_apply _ _ x y).trans (tx_first O c 0 rfl 2 (so_b0 c) f v563 hv563 x y))) $$ [HX]
  · iexact HX
  iintro HX
  iapply Hk $$ %_ %_ %_ [HA HX]
  isplitl [HA]; · iexact HA
  iexact HX

/-- Part 18 of the body. -/
theorem run18 {β : Type} {Q : β → sProp 𝕄} (v134 : FVec F S1024x1024 .bf16) (v235 : FVec F S8x1024x128 .bf16) (v237 : FVec F S8x1024x128 .bf16) (v253 : IVec S256x512 1) (v554 : BitVec 32) (v568 : BitVec 32) {K : (Σ' (v580 : BitVec 32) (v596 : FVec F S256x128 .bf16), FVec F S256x128 .f32) → Prog (TpuEff nD τ sig (Elt F) Λ₀ .tc) β} :
    iprop(recs O ∗ levAts L lv ∗ ow c (plan.drop 3) ∗ X O c (xst 1))
      ⊢ iprop((∀ W0, (ow c (plan.drop 4) ∗ X O c (xst 2)) -∗ wpc c (K ⟨W0, k0_pay34 v134 v235 v237 v253, k0_pay35 v134 v235 v237 v253⟩) Q) -∗ wpc c (k0_part18 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v134 v235 v237 v253 v554 v568 >>= K) Q) := by
  rw [k0_part18_eq_skeleton]
  unfold k0_part18_skel
  simp only [semSignalWord, semWaitWord, Prog.lift, Prog.bind_op, Prog.bind_ret, Prog.pure_eq_ret]
  iintro ⟨#HR, #HL, HO, HX⟩ Hk
  iapply (sendX O c (n := 192) 0 0 rfl inb_S3x3x192x1024_S1x1x192x1024_0_0_0_0 squeezes_S1x1x192x1024_S192x1024 rfl rfl (Fin.ext (dev4_eq c)) rfl rfl rfl (xst 1) rfl (plan.drop 3) (plan.drop 4) rfl) $$ [HX HO]
  · isplitr; · iexact HR
    isplitl [HX]; · iexact HX
    iexact HO
  iintro ⟨HX, HO⟩
  iapply Hk $$ %_ [HO HX]
  isplitl [HO]; · iexact HO
  iexact HX

/-- Part 19 of the body: values only. -/
theorem run19 {β : Type} (v134 : FVec F S1024x1024 .bf16) (v235 : FVec F S8x1024x128 .bf16) (v237 : FVec F S8x1024x128 .bf16) (v253 : IVec S256x512 1) (v611 : FVec F S256x128 .f32) {K : (Σ' (v612 : FVec F S256x128 .bf16) (v628 : FVec F S256x128 .bf16) (v644 : FVec F S256x128 .bf16), FVec F S256x128 .f32) → Prog (TpuEff nD τ sig (Elt F) Λ₀ .tc) β} :
    (k0_part19 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v611 >>= K) = K ⟨k0_pay36 v611, k0_pay37 v134 v235 v237 v253, k0_pay38 v134 v235 v237 v253, k0_pay39 v134 v235 v237 v253⟩ := by
  rw [k0_part19_eq_skeleton]; rfl

/-- Part 20 of the body: values only. -/
theorem run20 {β : Type} (v134 : FVec F S1024x1024 .bf16) (v235 : FVec F S8x1024x128 .bf16) (v237 : FVec F S8x1024x128 .bf16) (v253 : IVec S256x512 1) (v659 : FVec F S256x128 .f32) {K : (Σ' (v660 : FVec F S256x128 .bf16) (v676 : FVec F S256x128 .bf16) (v692 : FVec F S256x128 .bf16), FVec F S256x128 .f32) → Prog (TpuEff nD τ sig (Elt F) Λ₀ .tc) β} :
    (k0_part20 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v659 >>= K) = K ⟨k0_pay40 v659, k0_pay41 v134 v235 v237 v253, k0_pay42 v134 v235 v237 v253, k0_pay43 v134 v235 v237 v253⟩ := by
  rw [k0_part20_eq_skeleton]; rfl

/-- Part 21 of the body. -/
theorem run21 {β : Type} {Q : β → sProp 𝕄} (v2 : BitVec 32) (v137 : FVec F S1024x1024 .bf16) (v596 : FVec F S256x128 .bf16) (v612 : FVec F S256x128 .bf16) (v628 : FVec F S256x128 .bf16) (v644 : FVec F S256x128 .bf16) (v660 : FVec F S256x128 .bf16) (v676 : FVec F S256x128 .bf16) (v692 : FVec F S256x128 .bf16) (v707 : FVec F S256x128 .f32) (f : FVec F S1024x1024 .f32) (hb : k0_pay44 v137 v596 v612 v628 v644 v660 v676 v692 v707 = band (O c) c 2) {K : (Σ' (v740 : BitVec 32) (v744 : BitVec 32) (c384_i32_453 : BitVec 32), BitVec 32) → Prog (TpuEff nD τ sig (Elt F) Λ₀ .tc) β} :
    iprop(recs O ∗ levAts L lv ∗ accP c (accB (O c) c 2 f))
      ⊢ iprop((∀ W0 W1 W2 W3, (accP c (accB (O c) c 3 f)) -∗ wpc c (K ⟨W0, W1, W2, W3⟩) Q) -∗ wpc c (k0_part21 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v2 v137 v596 v612 v628 v644 v660 v676 v692 v707 >>= K) Q) := by
  rw [k0_part21_eq_skeleton]
  unfold k0_part21_skel
  simp only [semSignalWord, semWaitWord, Prog.lift, Prog.bind_op, Prog.bind_ret, Prog.pure_eq_ret]
  iintro ⟨#HR, #HL, HA⟩ Hk
  iapply (ldA c (n := 256) 512 rfl (by decide) (accB (O c) c 2 f)) $$ [HA]
  · iexact HA
  iintro %v711 %hv711 HA
  iapply (stBand O c 2 rfl (by decide) f hb) $$ [HA]
  · iexact HA
  iintro HA
  iapply Hk $$ %_ %_ %_ %_ [HA]
  iexact HA

/-- Part 22 of the body. -/
theorem run22 {β : Type} {Q : β → sProp 𝕄} (v2 : BitVec 32) (v134 : FVec F S1024x1024 .bf16) (v235 : FVec F S8x1024x128 .bf16) (v237 : FVec F S8x1024x128 .bf16) (v261 : IVec S256x512 1) (v740 : BitVec 32) (v744 : BitVec 32) (c384_i32_453 : BitVec 32) (c0_i32_454 : BitVec 32) (f : FVec F S1024x1024 .f32) {K : (Σ' (v747 : BitVec 32) (v754 : BitVec 32) (v766 : BitVec 32) (v773 : FVec F S256x512 .f32), FVec F S256x128 .f32) → Prog (TpuEff nD τ sig (Elt F) Λ₀ .tc) β} :
    iprop(recs O ∗ levAts L lv ∗ accP c (accB (O c) c 3 f) ∗ X O c (xst 2) ∗ ow c (plan.drop 4))
      ⊢ iprop((∀ W0 W1 W2, (accP c (accB (O c) c 3 f) ∗ X O c (xst 4) ∗ ow c (plan.drop 5)) -∗ wpc c (K ⟨W0, W1, W2, k0_pay46 v134 v235 v261, k0_pay47 v134 v235 v237 v261⟩) Q) -∗ wpc c (k0_part22 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v134 v235 v237 v261 v740 v744 c384_i32_453 c0_i32_454 >>= K) Q) := by
  rw [k0_part22_eq_skeleton]
  unfold k0_part22_skel
  simp only [semSignalWord, semWaitWord, Prog.lift, Prog.bind_op, Prog.bind_ret, Prog.pure_eq_ret]
  iintro ⟨#HR, #HL, HA, HX, HO⟩ Hk
  iapply (ldA c (n := 192) (so 1 c) (off2_1 c) (so_le 1 c) (accB (O c) c 3 f)) $$ [HA]
  · iexact HA
  iintro %v749 %hv749 HA
  iapply (ldT O c (n := 192) 1 0 rfl rfl (xst 2) rfl) $$ [HX]
  · iexact HX
  iintro %v751 HX
  iapply (stT O c (n := 192) 1 0 rfl rfl (xst 2) rfl (fun x y => (tx_apply _ _ x y).trans (tx_first O c 1 rfl 3 (so_b1 c) f v749 hv749 x y))) $$ [HX]
  · iexact HX
  iintro HX
  iapply (sendX O c (n := 192) 1 0 rfl inb_S3x3x192x1024_S1x1x192x1024_1_0_0_0 squeezes_S1x1x192x1024_S192x1024 rfl rfl (Fin.ext (dev5_eq c)) rfl rfl rfl (xst 3) rfl (plan.drop 4) (plan.drop 5) rfl) $$ [HX HO]
  · isplitr; · iexact HR
    isplitl [HX]; · iexact HX
    iexact HO
  iintro ⟨HX, HO⟩
  iapply Hk $$ %_ %_ %_ [HA HX HO]
  isplitl [HA]; · iexact HA
  isplitl [HX]; · iexact HX
  iexact HO

/-- Part 23 of the body: values only. -/
theorem run23 {β : Type} (v134 : FVec F S1024x1024 .bf16) (v235 : FVec F S8x1024x128 .bf16) (v237 : FVec F S8x1024x128 .bf16) (v261 : IVec S256x512 1) (v773 : FVec F S256x512 .f32) (v777 : FVec F S256x128 .f32) {K : (Σ' (v782 : FVec F S256x128 .bf16) (v798 : FVec F S256x128 .bf16) (v814 : FVec F S256x128 .bf16) (v821 : FVec F S256x512 .f32), FVec F S256x128 .f32) → Prog (TpuEff nD τ sig (Elt F) Λ₀ .tc) β} :
    (k0_part23 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v261 v773 v777 >>= K) = K ⟨k0_pay48 v773 v777, k0_pay49 v134 v235 v237 v261, k0_pay50 v134 v235 v237 v261, k0_pay51 v134 v235 v261, k0_pay52 v134 v235 v237 v261⟩ := by
  rw [k0_part23_eq_skeleton]; rfl

/-- Part 24 of the body: values only. -/
theorem run24 {β : Type} (v134 : FVec F S1024x1024 .bf16) (v235 : FVec F S8x1024x128 .bf16) (v237 : FVec F S8x1024x128 .bf16) (v261 : IVec S256x512 1) (v821 : FVec F S256x512 .f32) (v825 : FVec F S256x128 .f32) {K : (Σ' (v830 : FVec F S256x128 .bf16) (v846 : FVec F S256x128 .bf16) (v862 : FVec F S256x128 .bf16) (v869 : FVec F S256x512 .f32), FVec F S256x128 .f32) → Prog (TpuEff nD τ sig (Elt F) Λ₀ .tc) β} :
    (k0_part24 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v261 v821 v825 >>= K) = K ⟨k0_pay53 v821 v825, k0_pay54 v134 v235 v237 v261, k0_pay55 v134 v235 v237 v261, k0_pay56 v134 v235 v261, k0_pay57 v134 v235 v237 v261⟩ := by
  rw [k0_part24_eq_skeleton]; rfl

/-- Part 25 of the body. -/
theorem run25 {β : Type} {Q : β → sProp 𝕄} (v2 : BitVec 32) (v134 : FVec F S1024x1024 .bf16) (v137 : FVec F S1024x1024 .bf16) (v235 : FVec F S8x1024x128 .bf16) (v237 : FVec F S8x1024x128 .bf16) (v261 : IVec S256x512 1) (v782 : FVec F S256x128 .bf16) (v798 : FVec F S256x128 .bf16) (v814 : FVec F S256x128 .bf16) (v830 : FVec F S256x128 .bf16) (v846 : FVec F S256x128 .bf16) (v862 : FVec F S256x128 .bf16) (v869 : FVec F S256x512 .f32) (v873 : FVec F S256x128 .f32) (f : FVec F S1024x1024 .f32) (hb : k0_pay58 v134 v137 v235 v237 v261 v782 v798 v814 v830 v846 v862 v869 v873 = band (O c) c 3) {K : (Σ' (v917 : BitVec 32), BitVec 32) → Prog (TpuEff nD τ sig (Elt F) Λ₀ .tc) β} :
    iprop(recs O ∗ levAts L lv ∗ accP c (accB (O c) c 3 f))
      ⊢ iprop((∀ W0 W1, (accP c (accB (O c) c 4 f)) -∗ wpc c (K ⟨W0, W1⟩) Q) -∗ wpc c (k0_part25 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v2 v134 v137 v235 v237 v261 v782 v798 v814 v830 v846 v862 v869 v873 >>= K) Q) := by
  rw [k0_part25_eq_skeleton]
  unfold k0_part25_skel
  simp only [semSignalWord, semWaitWord, Prog.lift, Prog.bind_op, Prog.bind_ret, Prog.pure_eq_ret]
  iintro ⟨#HR, #HL, HA⟩ Hk
  iapply (ldA c (n := 256) 768 rfl (by decide) (accB (O c) c 3 f)) $$ [HA]
  · iexact HA
  iintro %v897 %hv897 HA
  iapply (stBand O c 3 rfl (by decide) f hb) $$ [HA]
  · iexact HA
  iintro HA
  iapply Hk $$ %_ %_ [HA]
  iexact HA

/-- Part 26 of the body. -/
theorem run26 {β : Type} {Q : β → sProp 𝕄} (v2 : BitVec 32) (v917 : BitVec 32) (c2_i32_516 : BitVec 32) (f : FVec F S1024x1024 .f32) {K : (Σ' (v927 : BitVec 32) (v934 : BitVec 32), BitVec 32) → Prog (TpuEff nD τ sig (Elt F) Λ₀ .tc) β} :
    iprop(recs O ∗ levAts L lv ∗ accP c (accB (O c) c 4 f) ∗ X O c (xst 4))
      ⊢ iprop((∀ W0 W1 W2, (accP c (accB (O c) c 4 f) ∗ X O c (xst 5)) -∗ wpc c (K ⟨W0, W1, W2⟩) Q) -∗ wpc c (k0_part26 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v917 c2_i32_516 >>= K) Q) := by
  rw [k0_part26_eq_skeleton]
  unfold k0_part26_skel
  simp only [semSignalWord, semWaitWord, Prog.lift, Prog.bind_op, Prog.bind_ret, Prog.pure_eq_ret]
  iintro ⟨#HR, #HL, HA, HX⟩ Hk
  iapply (ldA c (n := 128) (so 2 c) (off3_ c) (so_le 2 c) (accB (O c) c 4 f)) $$ [HA]
  · iexact HA
  iintro %v936 %hv936 HA
  iapply (ldT O c (n := 128) 2 0 rfl rfl (xst 4) rfl) $$ [HX]
  · iexact HX
  iintro %v938 HX
  iapply (stT O c (n := 128) 2 0 rfl rfl (xst 4) rfl (fun x y => (tx_apply _ _ x y).trans (tx_first O c 2 rfl 4 (so_b2 c) f v936 hv936 x y))) $$ [HX]
  · iexact HX
  iintro HX
  iapply Hk $$ %_ %_ %_ [HA HX]
  isplitl [HA]; · iexact HA
  iexact HX

end Cert.KernelProof

end
-- ==== Proof.RunC.lean ====
/- # Parts of the body -/
module

public import proofs.«01_k».proof.Proof.States

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-- Part 27 of the body. -/
theorem run27 {β : Type} {Q : β → sProp 𝕄} (v561 : BitVec 32) (v568 : BitVec 32) (v754 : BitVec 32) (v927 : BitVec 32) {K : (BitVec 32) → Prog (TpuEff nD τ sig (Elt F) Λ₀ .tc) β} :
    iprop(recs O ∗ levAts L lv ∗ ow c (plan.drop 5) ∗ X O c (xst 5) ∗ accP c (AS O c (mst 0)))
      ⊢ iprop((∀ W0, (ow c (plan.drop 6) ∗ X O c (xst 7) ∗ accP c (AS O c (mst 1))) -∗ wpc c (K W0) Q) -∗ wpc c (k0_part27 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v561 v568 v754 v927 >>= K) Q) := by
  rw [k0_part27_eq_skeleton]
  unfold k0_part27_skel
  simp only [semSignalWord, semWaitWord, Prog.lift, Prog.bind_op, Prog.bind_ret, Prog.pure_eq_ret]
  iintro ⟨#HR, #HL, HO, HX, HA⟩ Hk
  iapply (sendX O c (n := 128) 2 0 rfl inb_S3x3x192x1024_S1x1x128x1024_2_0_0_0 squeezes_S1x1x128x1024_S128x1024 rfl rfl (Fin.ext (dev6_eq c)) rfl rfl rfl (xst 5) rfl (plan.drop 5) (plan.drop 6) rfl) $$ [HX HO]
  · isplitr; · iexact HR
    isplitl [HX]; · iexact HX
    iexact HO
  iintro ⟨HX, HO⟩
  iapply (waitR O c (xst 6) 0 0 rfl rfl rfl (plan.drop 6) pl_6_2) $$ [HX HO]
  · isplitr; · iexact HR
    isplitr; · iexact HL
    isplitl [HX]; · iexact HX
    iexact HO
  iintro ⟨HX, HO⟩
  iapply (ldA c (n := 192) (ko 0 c) (off4_0 c) (ko_le 0 c) (AS O c (mst 0))) $$ [HA]
  · iexact HA
  iintro %v963 %hv963 HA
  iapply (ldR O c (n := 192) 0 0 rfl rfl (xst 7) rfl) $$ [HX]
  · iexact HX
  iintro %v964 %hv964 HX
  iapply (ldA c (n := 192) (ko 0 c) (off4_0 c) (ko_le 0 c) (AS O c (mst 0))) $$ [HA]
  · iexact HA
  iintro %v969 %hv969 HA
  iapply (stU O c (m := 192) 0 0 rfl (off4_0 c) (mst 0) rfl v963 v964 hv963 hv964 (fun x y => upd_apply v963 v964 _ _ x y)) $$ [HA]
  · iexact HA
  iintro HA
  iapply Hk $$ %_ [HO HX HA]
  isplitl [HO]; · iexact HO
  isplitl [HX]; · iexact HX
  iexact HA

/-- Part 28 of the body. -/
theorem run28 {β : Type} {Q : β → sProp 𝕄} (v747 : BitVec 32) (v934 : BitVec 32) (v941 : BitVec 32) {K : (FVec F S128x1024 .f32) → Prog (TpuEff nD τ sig (Elt F) Λ₀ .tc) β} :
    iprop(recs O ∗ levAts L lv ∗ ow c (plan.drop 6) ∗ X O c (xst 7) ∗ accP c (AS O c (mst 1)))
      ⊢ iprop((∀ v999 : Idealize.ShloMosaic.Shape.Idx ⟨2, ![128, 1024]⟩ → F .f32, ⌜∀ x y, v999 (ix2 x y) = (AS O c (mst 2)) (sq (ko 2 c + x.val) y.val)⌝ -∗ ∀ v1000 : Idealize.ShloMosaic.Shape.Idx ⟨4, ![1, 1, 128, 1024]⟩ → F .bf16, ⌜∀ x y, v1000 (ix4 (0 : Fin 1) (0 : Fin 1) x y) = tv O 0 2 (pr 2 0 c) x.val y.val⌝ -∗ (ow c (plan.drop 6) ∗ X O c (xst 9) ∗ accP c (AS O c (mst 2))) -∗ wpc c (K (k0_pay62 v999 v1000)) Q) -∗ wpc c (k0_part28 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v747 v934 v941 >>= K) Q) := by
  rw [k0_part28_eq_skeleton]
  unfold k0_part28_skel
  simp only [semSignalWord, semWaitWord, Prog.lift, Prog.bind_op, Prog.bind_ret, Prog.pure_eq_ret]
  iintro ⟨#HR, #HL, HO, HX, HA⟩ Hk
  iapply (waitR O c (xst 7) 1 0 rfl rfl rfl (plan.drop 6) pl_6_2) $$ [HX HO]
  · isplitr; · iexact HR
    isplitr; · iexact HL
    isplitl [HX]; · iexact HX
    iexact HO
  iintro ⟨HX, HO⟩
  iapply (ldA c (n := 192) (ko 1 c) (off4_1 c) (ko_le 1 c) (AS O c (mst 1))) $$ [HA]
  · iexact HA
  iintro %v981 %hv981 HA
  iapply (ldR O c (n := 192) 1 0 rfl rfl (xst 8) rfl) $$ [HX]
  · iexact HX
  iintro %v982 %hv982 HX
  iapply (ldA c (n := 192) (ko 1 c) (off4_1 c) (ko_le 1 c) (AS O c (mst 1))) $$ [HA]
  · iexact HA
  iintro %v987 %hv987 HA
  iapply (stU O c (m := 192) 1 0 rfl (off4_1 c) (mst 1) rfl v981 v982 hv981 hv982 (fun x y => upd_apply v981 v982 _ _ x y)) $$ [HA]
  · iexact HA
  iintro HA
  iapply (waitR O c (xst 8) 2 0 rfl rfl rfl (plan.drop 6) pl_6_2) $$ [HX HO]
  · isplitr; · iexact HR
    isplitr; · iexact HL
    isplitl [HX]; · iexact HX
    iexact HO
  iintro ⟨HX, HO⟩
  iapply (ldA c (n := 128) (ko 2 c) (off5_ c) (ko_le 2 c) (AS O c (mst 2))) $$ [HA]
  · iexact HA
  iintro %v999 %hv999 HA
  iapply (ldR O c (n := 128) 2 0 rfl rfl (xst 9) rfl) $$ [HX]
  · iexact HX
  iintro %v1000 %hv1000 HX
  iapply Hk $$ %v999 %hv999 %v1000 %hv1000 [HO HX HA]
  isplitl [HO]; · iexact HO
  isplitl [HX]; · iexact HX
  iexact HA

/-- Part 29 of the body. -/
theorem run29 {β : Type} {Q : β → sProp 𝕄} (v2 : BitVec 32) (v580 : BitVec 32) (v766 : BitVec 32) (v999 : Idealize.ShloMosaic.Shape.Idx ⟨2, ![128, 1024]⟩ → F .f32) (hv999 : ∀ x y, v999 (ix2 x y) = (AS O c (mst 2)) (sq (ko 2 c + x.val) y.val)) (v1000 : Idealize.ShloMosaic.Shape.Idx ⟨4, ![1, 1, 128, 1024]⟩ → F .bf16) (hv1000 : ∀ x y, v1000 (ix4 (0 : Fin 1) (0 : Fin 1) x y) = tv O 0 2 (pr 2 0 c) x.val y.val) {K : (Σ' (v1008 : BitVec 32) (v1015 : BitVec 32) (v1026 : BitVec 32), BitVec 32) → Prog (TpuEff nD τ sig (Elt F) Λ₀ .tc) β} :
    iprop(recs O ∗ levAts L lv ∗ accP c (AS O c (mst 2)) ∗ X O c (xst 9) ∗ ow c (plan.drop 6))
      ⊢ iprop((∀ W0 W1 W2 W3, (accP c (AS O c (mst 3)) ∗ X O c (xst 12) ∗ ow c (plan.drop 7)) -∗ wpc c (K ⟨W0, W1, W2, W3⟩) Q) -∗ wpc c (k0_part29 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v580 v766 (k0_pay62 v999 v1000) >>= K) Q) := by
  rw [k0_part29_eq_skeleton]
  unfold k0_part29_skel
  simp only [semSignalWord, semWaitWord, Prog.lift, Prog.bind_op, Prog.bind_ret, Prog.pure_eq_ret]
  iintro ⟨#HR, #HL, HA, HX, HO⟩ Hk
  iapply (ldA c (n := 128) (ko 2 c) (off5_ c) (ko_le 2 c) (AS O c (mst 2))) $$ [HA]
  · iexact HA
  iintro %v1005 %hv1005 HA
  iapply (stU O c (m := 128) 2 0 rfl (off5_ c) (mst 2) rfl v999 v1000 hv999 hv1000 (fun x y => upd_apply v999 v1000 _ _ x y)) $$ [HA]
  · iexact HA
  iintro HA
  iapply (ldA c (n := 192) (ko 0 c) (off6_0 c) (ko_le 0 c) (AS O c (mst 3))) $$ [HA]
  · iexact HA
  iintro %v1010 %hv1010 HA
  iapply (ldT O c (n := 192) 0 1 rfl rfl (xst 9) rfl) $$ [HX]
  · iexact HX
  iintro %v1012 HX
  iapply (stT O c (n := 192) 0 1 rfl rfl (xst 9) rfl (fun x y => (tx_apply _ _ x y).trans (tx_later O c 0 rfl (mst 3) 1 (by decide) rfl v1010 hv1010 x y))) $$ [HX]
  · iexact HX
  iintro HX
  iapply (sendX O c (n := 192) 0 1 rfl inb_S3x3x192x1024_S1x1x192x1024_0_1_0_0 squeezes_S1x1x192x1024_S192x1024 rfl rfl (Fin.ext (dev7_eq c)) rfl rfl rfl (xst 10) rfl (plan.drop 6) (plan.drop 7) rfl) $$ [HX HO]
  · isplitr; · iexact HR
    isplitl [HX]; · iexact HX
    iexact HO
  iintro ⟨HX, HO⟩
  iapply (ldA c (n := 192) (ko 1 c) (off6_1 c) (ko_le 1 c) (AS O c (mst 3))) $$ [HA]
  · iexact HA
  iintro %v1028 %hv1028 HA
  iapply (ldT O c (n := 192) 1 1 rfl rfl (xst 11) rfl) $$ [HX]
  · iexact HX
  iintro %v1030 HX
  iapply (stT O c (n := 192) 1 1 rfl rfl (xst 11) rfl (fun x y => (tx_apply _ _ x y).trans (tx_later O c 1 rfl (mst 3) 1 (by decide) rfl v1028 hv1028 x y))) $$ [HX]
  · iexact HX
  iintro HX
  iapply Hk $$ %_ %_ %_ %_ [HA HX HO]
  isplitl [HA]; · iexact HA
  isplitl [HX]; · iexact HX
  iexact HO

/-- Part 30 of the body. -/
theorem run30 {β : Type} {Q : β → sProp 𝕄} (v2 : BitVec 32) (v953 : BitVec 32) (v1033 : BitVec 32) {K : (Σ' (v1044 : BitVec 32), BitVec 32) → Prog (TpuEff nD τ sig (Elt F) Λ₀ .tc) β} :
    iprop(recs O ∗ levAts L lv ∗ ow c (plan.drop 7) ∗ X O c (xst 12) ∗ accP c (AS O c (mst 3)))
      ⊢ iprop((∀ W0 W1, (ow c (plan.drop 8) ∗ X O c (xst 14) ∗ accP c (AS O c (mst 3))) -∗ wpc c (K ⟨W0, W1⟩) Q) -∗ wpc c (k0_part30 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v953 v1033 >>= K) Q) := by
  rw [k0_part30_eq_skeleton]
  unfold k0_part30_skel
  simp only [semSignalWord, semWaitWord, Prog.lift, Prog.bind_op, Prog.bind_ret, Prog.pure_eq_ret]
  iintro ⟨#HR, #HL, HO, HX, HA⟩ Hk
  iapply (sendX O c (n := 192) 1 1 rfl inb_S3x3x192x1024_S1x1x192x1024_1_1_0_0 squeezes_S1x1x192x1024_S192x1024 rfl rfl (Fin.ext (dev8_eq c)) rfl rfl rfl (xst 12) rfl (plan.drop 7) (plan.drop 8) rfl) $$ [HX HO]
  · isplitr; · iexact HR
    isplitl [HX]; · iexact HX
    iexact HO
  iintro ⟨HX, HO⟩
  iapply (ldA c (n := 128) (ko 2 c) (off7_ c) (ko_le 2 c) (AS O c (mst 3))) $$ [HA]
  · iexact HA
  iintro %v1046 %hv1046 HA
  iapply (ldT O c (n := 128) 2 1 rfl rfl (xst 13) rfl) $$ [HX]
  · iexact HX
  iintro %v1048 HX
  iapply (stT O c (n := 128) 2 1 rfl rfl (xst 13) rfl (fun x y => (tx_apply _ _ x y).trans (tx_later O c 2 rfl (mst 3) 1 (by decide) rfl v1046 hv1046 x y))) $$ [HX]
  · iexact HX
  iintro HX
  iapply Hk $$ %_ %_ [HO HX HA]
  isplitl [HO]; · iexact HO
  isplitl [HX]; · iexact HX
  iexact HA

/-- Part 31 of the body. -/
theorem run31 {β : Type} {Q : β → sProp 𝕄} (v1008 : BitVec 32) (v1015 : BitVec 32) (v1033 : BitVec 32) {K : (PUnit) → Prog (TpuEff nD τ sig (Elt F) Λ₀ .tc) β} :
    iprop(recs O ∗ levAts L lv ∗ ow c (plan.drop 8) ∗ X O c (xst 14) ∗ accP c (AS O c (mst 3)))
      ⊢ iprop(((ow c (plan.drop 9) ∗ X O c (xst 17) ∗ accP c (AS O c (mst 4))) -∗ wpc c (K ⟨⟩) Q) -∗ wpc c (k0_part31 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v1008 v1015 v1033 >>= K) Q) := by
  rw [k0_part31_eq_skeleton]
  unfold k0_part31_skel
  simp only [semSignalWord, semWaitWord, Prog.lift, Prog.bind_op, Prog.bind_ret, Prog.pure_eq_ret]
  iintro ⟨#HR, #HL, HO, HX, HA⟩ Hk
  iapply (sendX O c (n := 128) 2 1 rfl inb_S3x3x192x1024_S1x1x128x1024_2_1_0_0 squeezes_S1x1x128x1024_S128x1024 rfl rfl (Fin.ext (dev9_eq c)) rfl rfl rfl (xst 14) rfl (plan.drop 8) (plan.drop 9) rfl) $$ [HX HO]
  · isplitr; · iexact HR
    isplitl [HX]; · iexact HX
    iexact HO
  iintro ⟨HX, HO⟩
  iapply (waitR O c (xst 15) 0 1 rfl rfl rfl (plan.drop 9) pl_9_3) $$ [HX HO]
  · isplitr; · iexact HR
    isplitr; · iexact HL
    isplitl [HX]; · iexact HX
    iexact HO
  iintro ⟨HX, HO⟩
  iapply (ldA c (n := 192) (ko 0 c) (off6_0 c) (ko_le 0 c) (AS O c (mst 3))) $$ [HA]
  · iexact HA
  iintro %v1071 %hv1071 HA
  iapply (ldR O c (n := 192) 0 1 rfl rfl (xst 16) rfl) $$ [HX]
  · iexact HX
  iintro %v1072 %hv1072 HX
  iapply (ldA c (n := 192) (ko 0 c) (off6_0 c) (ko_le 0 c) (AS O c (mst 3))) $$ [HA]
  · iexact HA
  iintro %v1077 %hv1077 HA
  iapply (stU O c (m := 192) 0 1 rfl (off6_0 c) (mst 3) rfl v1071 v1072 hv1071 hv1072 (fun x y => upd_apply v1071 v1072 _ _ x y)) $$ [HA]
  · iexact HA
  iintro HA
  iapply (waitR O c (xst 16) 1 1 rfl rfl rfl (plan.drop 9) pl_9_3) $$ [HX HO]
  · isplitr; · iexact HR
    isplitr; · iexact HL
    isplitl [HX]; · iexact HX
    iexact HO
  iintro ⟨HX, HO⟩
  iapply Hk
  isplitl [HO]; · iexact HO
  isplitl [HX]; · iexact HX
  iexact HA

/-- Part 32 of the body. -/
theorem run32 {β : Type} {Q : β → sProp 𝕄} (v580 : BitVec 32) (v1026 : BitVec 32) (v1044 : BitVec 32) (v1051 : BitVec 32) {K : (Σ' (v1116 : BitVec 32), Vec F S192x1024 .f32) → Prog (TpuEff nD τ sig (Elt F) Λ₀ .tc) β} :
    iprop(recs O ∗ levAts L lv ∗ accP c (AS O c (mst 4)) ∗ X O c (xst 17) ∗ ow c (plan.drop 9))
      ⊢ iprop((∀ W0, ∀ v1118 : Idealize.ShloMosaic.Shape.Idx ⟨2, ![192, 1024]⟩ → F .f32, ⌜∀ x y, v1118 (ix2 x y) = (AS O c (mst 6)) (sq (ko 0 c + x.val) y.val)⌝ -∗ (accP c (AS O c (mst 6)) ∗ X O c (xst 18) ∗ ow c (plan.drop 9)) -∗ wpc c (K ⟨W0, v1118⟩) Q) -∗ wpc c (k0_part32 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v580 v1026 v1044 v1051 >>= K) Q) := by
  rw [k0_part32_eq_skeleton]
  unfold k0_part32_skel
  simp only [semSignalWord, semWaitWord, Prog.lift, Prog.bind_op, Prog.bind_ret, Prog.pure_eq_ret]
  iintro ⟨#HR, #HL, HA, HX, HO⟩ Hk
  iapply (ldA c (n := 192) (ko 1 c) (off6_1 c) (ko_le 1 c) (AS O c (mst 4))) $$ [HA]
  · iexact HA
  iintro %v1089 %hv1089 HA
  iapply (ldR O c (n := 192) 1 1 rfl rfl (xst 17) rfl) $$ [HX]
  · iexact HX
  iintro %v1090 %hv1090 HX
  iapply (ldA c (n := 192) (ko 1 c) (off6_1 c) (ko_le 1 c) (AS O c (mst 4))) $$ [HA]
  · iexact HA
  iintro %v1095 %hv1095 HA
  iapply (stU O c (m := 192) 1 1 rfl (off6_1 c) (mst 4) rfl v1089 v1090 hv1089 hv1090 (fun x y => upd_apply v1089 v1090 _ _ x y)) $$ [HA]
  · iexact HA
  iintro HA
  iapply (waitR O c (xst 17) 2 1 rfl rfl rfl (plan.drop 9) pl_9_3) $$ [HX HO]
  · isplitr; · iexact HR
    isplitr; · iexact HL
    isplitl [HX]; · iexact HX
    iexact HO
  iintro ⟨HX, HO⟩
  iapply (ldA c (n := 128) (ko 2 c) (off7_ c) (ko_le 2 c) (AS O c (mst 5))) $$ [HA]
  · iexact HA
  iintro %v1107 %hv1107 HA
  iapply (ldR O c (n := 128) 2 1 rfl rfl (xst 18) rfl) $$ [HX]
  · iexact HX
  iintro %v1108 %hv1108 HX
  iapply (ldA c (n := 128) (ko 2 c) (off7_ c) (ko_le 2 c) (AS O c (mst 5))) $$ [HA]
  · iexact HA
  iintro %v1113 %hv1113 HA
  iapply (stU O c (m := 128) 2 1 rfl (off7_ c) (mst 5) rfl v1107 v1108 hv1107 hv1108 (fun x y => upd_apply v1107 v1108 _ _ x y)) $$ [HA]
  · iexact HA
  iintro HA
  iapply (ldA c (n := 192) (ko 0 c) (off6_0 c) (ko_le 0 c) (AS O c (mst 6))) $$ [HA]
  · iexact HA
  iintro %v1118 %hv1118 HA
  iapply Hk $$ %_ %v1118 %hv1118 [HA HX HO]
  isplitl [HA]; · iexact HA
  isplitl [HX]; · iexact HX
  iexact HO

/-- Part 33 of the body. -/
theorem run33 {β : Type} {Q : β → sProp 𝕄} (v2 : BitVec 32) (v766 : BitVec 32) (v1118 : Idealize.ShloMosaic.Shape.Idx ⟨2, ![192, 1024]⟩ → F .f32) (hv1118 : ∀ x y, v1118 (ix2 x y) = (AS O c (mst 6)) (sq (ko 0 c + x.val) y.val)) {K : (Σ' (v1123 : BitVec 32) (v1134 : BitVec 32), BitVec 32) → Prog (TpuEff nD τ sig (Elt F) Λ₀ .tc) β} :
    iprop(recs O ∗ levAts L lv ∗ X O c (xst 18) ∗ ow c (plan.drop 9) ∗ accP c (AS O c (mst 6)))
      ⊢ iprop((∀ W0 W1 W2, (X O c (xst 21) ∗ ow c (plan.drop 10) ∗ accP c (AS O c (mst 6))) -∗ wpc c (K ⟨W0, W1, W2⟩) Q) -∗ wpc c (k0_part33 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v766 v1118 >>= K) Q) := by
  rw [k0_part33_eq_skeleton]
  unfold k0_part33_skel
  simp only [semSignalWord, semWaitWord, Prog.lift, Prog.bind_op, Prog.bind_ret, Prog.pure_eq_ret]
  iintro ⟨#HR, #HL, HX, HO, HA⟩ Hk
  iapply (ldT O c (n := 192) 0 2 rfl rfl (xst 18) rfl) $$ [HX]
  · iexact HX
  iintro %v1120 HX
  iapply (stT O c (n := 192) 0 2 rfl rfl (xst 18) rfl (fun x y => (tx_apply _ _ x y).trans (tx_later O c 0 rfl (mst 6) 2 (by decide) rfl v1118 hv1118 x y))) $$ [HX]
  · iexact HX
  iintro HX
  iapply (sendX O c (n := 192) 0 2 rfl inb_S3x3x192x1024_S1x1x192x1024_0_2_0_0 squeezes_S1x1x192x1024_S192x1024 rfl rfl (Fin.ext (dev10_eq c)) rfl rfl rfl (xst 19) rfl (plan.drop 9) (plan.drop 10) rfl) $$ [HX HO]
  · isplitr; · iexact HR
    isplitl [HX]; · iexact HX
    iexact HO
  iintro ⟨HX, HO⟩
  iapply (ldA c (n := 192) (ko 1 c) (off6_1 c) (ko_le 1 c) (AS O c (mst 6))) $$ [HA]
  · iexact HA
  iintro %v1136 %hv1136 HA
  iapply (ldT O c (n := 192) 1 2 rfl rfl (xst 20) rfl) $$ [HX]
  · iexact HX
  iintro %v1138 HX
  iapply (stT O c (n := 192) 1 2 rfl rfl (xst 20) rfl (fun x y => (tx_apply _ _ x y).trans (tx_later O c 1 rfl (mst 6) 2 (by decide) rfl v1136 hv1136 x y))) $$ [HX]
  · iexact HX
  iintro HX
  iapply Hk $$ %_ %_ %_ [HX HO HA]
  isplitl [HX]; · iexact HX
  isplitl [HO]; · iexact HO
  iexact HA

/-- Part 34 of the body. -/
theorem run34 {β : Type} {Q : β → sProp 𝕄} (v2 : BitVec 32) (v953 : BitVec 32) (v1123 : BitVec 32) {K : (Σ' (v1152 : BitVec 32) (v1159 : BitVec 32), BitVec 32) → Prog (TpuEff nD τ sig (Elt F) Λ₀ .tc) β} :
    iprop(recs O ∗ levAts L lv ∗ ow c (plan.drop 10) ∗ X O c (xst 21) ∗ accP c (AS O c (mst 6)))
      ⊢ iprop((∀ W0 W1 W2, (ow c (plan.drop 12) ∗ X O c (xst 24) ∗ accP c (AS O c (mst 6))) -∗ wpc c (K ⟨W0, W1, W2⟩) Q) -∗ wpc c (k0_part34 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v953 v1123 >>= K) Q) := by
  rw [k0_part34_eq_skeleton]
  unfold k0_part34_skel
  simp only [semSignalWord, semWaitWord, Prog.lift, Prog.bind_op, Prog.bind_ret, Prog.pure_eq_ret]
  iintro ⟨#HR, #HL, HO, HX, HA⟩ Hk
  iapply (sendX O c (n := 192) 1 2 rfl inb_S3x3x192x1024_S1x1x192x1024_1_2_0_0 squeezes_S1x1x192x1024_S192x1024 rfl rfl (Fin.ext (dev11_eq c)) rfl rfl rfl (xst 21) rfl (plan.drop 10) (plan.drop 11) rfl) $$ [HX HO]
  · isplitr; · iexact HR
    isplitl [HX]; · iexact HX
    iexact HO
  iintro ⟨HX, HO⟩
  iapply (ldA c (n := 128) (ko 2 c) (off7_ c) (ko_le 2 c) (AS O c (mst 6))) $$ [HA]
  · iexact HA
  iintro %v1154 %hv1154 HA
  iapply (ldT O c (n := 128) 2 2 rfl rfl (xst 22) rfl) $$ [HX]
  · iexact HX
  iintro %v1156 HX
  iapply (stT O c (n := 128) 2 2 rfl rfl (xst 22) rfl (fun x y => (tx_apply _ _ x y).trans (tx_later O c 2 rfl (mst 6) 2 (by decide) rfl v1154 hv1154 x y))) $$ [HX]
  · iexact HX
  iintro HX
  iapply (sendX O c (n := 128) 2 2 rfl inb_S3x3x192x1024_S1x1x128x1024_2_2_0_0 squeezes_S1x1x128x1024_S128x1024 rfl rfl (Fin.ext (dev12_eq c)) rfl rfl rfl (xst 23) rfl (plan.drop 11) (plan.drop 12) rfl) $$ [HX HO]
  · isplitr; · iexact HR
    isplitl [HX]; · iexact HX
    iexact HO
  iintro ⟨HX, HO⟩
  iapply Hk $$ %_ %_ %_ [HO HX HA]
  isplitl [HO]; · iexact HO
  isplitl [HX]; · iexact HX
  iexact HA

end Cert.KernelProof

end
-- ==== Proof.RunD.lean ====
/- # Parts of the body -/
module

public import proofs.«01_k».proof.Proof.States

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-- Part 35 of the body. -/
theorem run35 {β : Type} {Q : β → sProp 𝕄} (v1116 : BitVec 32) (v1134 : BitVec 32) (v1141 : BitVec 32) (v1170 : BitVec 32) {K : (Σ' (v1197 : Vec F S192x1024 .f32), FVec F S192x1024 .bf16) → Prog (TpuEff nD τ sig (Elt F) Λ₀ .tc) β} :
    iprop(recs O ∗ levAts L lv ∗ ow c (plan.drop 12) ∗ X O c (xst 24) ∗ accP c (AS O c (mst 6)))
      ⊢ iprop((∀ v1197 : Idealize.ShloMosaic.Shape.Idx ⟨2, ![192, 1024]⟩ → F .f32, ⌜∀ x y, v1197 (ix2 x y) = (AS O c (mst 7)) (sq (ko 1 c + x.val) y.val)⌝ -∗ ∀ v1198 : Idealize.ShloMosaic.Shape.Idx ⟨4, ![1, 1, 192, 1024]⟩ → F .bf16, ⌜∀ x y, v1198 (ix4 (0 : Fin 1) (0 : Fin 1) x y) = tv O 2 1 (pr 1 2 c) x.val y.val⌝ -∗ (ow c (plan.drop 12) ∗ X O c (xst 26) ∗ accP c (AS O c (mst 7))) -∗ wpc c (K ⟨v1197, k0_pay74 v1198⟩) Q) -∗ wpc c (k0_part35 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v1116 v1134 v1141 v1170 >>= K) Q) := by
  rw [k0_part35_eq_skeleton]
  unfold k0_part35_skel
  simp only [semSignalWord, semWaitWord, Prog.lift, Prog.bind_op, Prog.bind_ret, Prog.pure_eq_ret]
  iintro ⟨#HR, #HL, HO, HX, HA⟩ Hk
  iapply (waitR O c (xst 24) 0 2 rfl rfl rfl (plan.drop 12) pl_12_4) $$ [HX HO]
  · isplitr; · iexact HR
    isplitr; · iexact HL
    isplitl [HX]; · iexact HX
    iexact HO
  iintro ⟨HX, HO⟩
  iapply (ldA c (n := 192) (ko 0 c) (off6_0 c) (ko_le 0 c) (AS O c (mst 6))) $$ [HA]
  · iexact HA
  iintro %v1179 %hv1179 HA
  iapply (ldR O c (n := 192) 0 2 rfl rfl (xst 25) rfl) $$ [HX]
  · iexact HX
  iintro %v1180 %hv1180 HX
  iapply (ldA c (n := 192) (ko 0 c) (off6_0 c) (ko_le 0 c) (AS O c (mst 6))) $$ [HA]
  · iexact HA
  iintro %v1185 %hv1185 HA
  iapply (stU O c (m := 192) 0 2 rfl (off6_0 c) (mst 6) rfl v1179 v1180 hv1179 hv1180 (fun x y => upd_apply v1179 v1180 _ _ x y)) $$ [HA]
  · iexact HA
  iintro HA
  iapply (waitR O c (xst 25) 1 2 rfl rfl rfl (plan.drop 12) pl_12_4) $$ [HX HO]
  · isplitr; · iexact HR
    isplitr; · iexact HL
    isplitl [HX]; · iexact HX
    iexact HO
  iintro ⟨HX, HO⟩
  iapply (ldA c (n := 192) (ko 1 c) (off6_1 c) (ko_le 1 c) (AS O c (mst 7))) $$ [HA]
  · iexact HA
  iintro %v1197 %hv1197 HA
  iapply (ldR O c (n := 192) 1 2 rfl rfl (xst 26) rfl) $$ [HX]
  · iexact HX
  iintro %v1198 %hv1198 HX
  iapply Hk $$ %v1197 %hv1197 %v1198 %hv1198 [HO HX HA]
  isplitl [HO]; · iexact HO
  isplitl [HX]; · iexact HX
  iexact HA

/-- Part 36 of the body. -/
theorem run36 {β : Type} {Q : β → sProp 𝕄} (v2 : BitVec 32) (v580 : BitVec 32) (v1134 : BitVec 32) (v1152 : BitVec 32) (v1159 : BitVec 32) (v1197 : Idealize.ShloMosaic.Shape.Idx ⟨2, ![192, 1024]⟩ → F .f32) (hv1197 : ∀ x y, v1197 (ix2 x y) = (AS O c (mst 7)) (sq (ko 1 c + x.val) y.val)) (v1198 : Idealize.ShloMosaic.Shape.Idx ⟨4, ![1, 1, 192, 1024]⟩ → F .bf16) (hv1198 : ∀ x y, v1198 (ix4 (0 : Fin 1) (0 : Fin 1) x y) = tv O 2 1 (pr 1 2 c) x.val y.val) {K : (BitVec 32) → Prog (TpuEff nD τ sig (Elt F) Λ₀ .tc) β} :
    iprop(recs O ∗ levAts L lv ∗ accP c (AS O c (mst 7)) ∗ ow c (plan.drop 12) ∗ X O c (xst 26) ∗ GA O c (gst 0))
      ⊢ iprop((∀ W0, (accP c (AS O c (mst 9)) ∗ ow c (plan.drop 12) ∗ X O c (xst 27) ∗ GA O c (gst 1)) -∗ wpc c (K W0) Q) -∗ wpc c (k0_part36 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v580 v1134 v1152 v1159 v1197 (k0_pay74 v1198) >>= K) Q) := by
  rw [k0_part36_eq_skeleton]
  unfold k0_part36_skel
  simp only [semSignalWord, semWaitWord, Prog.lift, Prog.bind_op, Prog.bind_ret, Prog.pure_eq_ret]
  iintro ⟨#HR, #HL, HA, HO, HX, HG⟩ Hk
  iapply (ldA c (n := 192) (ko 1 c) (off6_1 c) (ko_le 1 c) (AS O c (mst 7))) $$ [HA]
  · iexact HA
  iintro %v1203 %hv1203 HA
  iapply (stU O c (m := 192) 1 2 rfl (off6_1 c) (mst 7) rfl v1197 v1198 hv1197 hv1198 (fun x y => upd_apply v1197 v1198 _ _ x y)) $$ [HA]
  · iexact HA
  iintro HA
  iapply (waitR O c (xst 26) 2 2 rfl rfl rfl (plan.drop 12) pl_12_4) $$ [HX HO]
  · isplitr; · iexact HR
    isplitr; · iexact HL
    isplitl [HX]; · iexact HX
    iexact HO
  iintro ⟨HX, HO⟩
  iapply (ldA c (n := 128) (ko 2 c) (off7_ c) (ko_le 2 c) (AS O c (mst 8))) $$ [HA]
  · iexact HA
  iintro %v1215 %hv1215 HA
  iapply (ldR O c (n := 128) 2 2 rfl rfl (xst 27) rfl) $$ [HX]
  · iexact HX
  iintro %v1216 %hv1216 HX
  iapply (ldA c (n := 128) (ko 2 c) (off7_ c) (ko_le 2 c) (AS O c (mst 8))) $$ [HA]
  · iexact HA
  iintro %v1221 %hv1221 HA
  iapply (stU O c (m := 128) 2 2 rfl (off7_ c) (mst 8) rfl v1215 v1216 hv1215 hv1216 (fun x y => upd_apply v1215 v1216 _ _ x y)) $$ [HA]
  · iexact HA
  iintro HA
  iapply (ldA c (n := 192) (ko 0 c) (off6_0 c) (ko_le 0 c) (AS O c (mst 9))) $$ [HA]
  · iexact HA
  iintro %v1226 %hv1226 HA
  iapply (ldG O c (n := 192) 0 rfl (off6_0 c) (gst 0) rfl) $$ [HG]
  · iexact HG
  iintro %v1229 HG
  iapply (stG O c (n := 192) 0 rfl (off6_0 c) (gst 0) rfl (fun x y => (ag_apply _ _ x y).trans (congrArg nar ((hv1226 x y).trans (AS_keep O c (mst 9) 0 _ _ x.isLt y.isLt))))) $$ [HG]
  · iexact HG
  iintro HG
  iapply Hk $$ %_ [HA HO HX HG]
  isplitl [HA]; · iexact HA
  isplitl [HO]; · iexact HO
  isplitl [HX]; · iexact HX
  iexact HG

/-- Part 37 of the body. -/
theorem run37 {β : Type} {Q : β → sProp 𝕄} (v2 : BitVec 32) (v766 : BitVec 32) (v953 : BitVec 32) (v1232 : BitVec 32) {K : (Σ' (v1249 : BitVec 32), BitVec 32) → Prog (TpuEff nD τ sig (Elt F) Λ₀ .tc) β} :
    iprop(recs O ∗ levAts L lv ∗ ow c (plan.drop 12) ∗ GA O c (gst 1) ∗ accP c (AS O c (mst 9)))
      ⊢ iprop((∀ W0 W1, (ow c (plan.drop 14) ∗ GA O c (gst 5) ∗ accP c (AS O c (mst 9))) -∗ wpc c (K ⟨W0, W1⟩) Q) -∗ wpc c (k0_part37 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v2 v766 v953 v1232 >>= K) Q) := by
  rw [k0_part37_eq_skeleton]
  unfold k0_part37_skel
  simp only [semSignalWord, semWaitWord, Prog.lift, Prog.bind_op, Prog.bind_ret, Prog.pure_eq_ret]
  iintro ⟨#HR, #HL, HO, HG, HA⟩ Hk
  iapply (sendG O c (n := 192) 0 rfl (off8_0 c) (k0_off8_inb c 0) rfl rfl (Fin.ext (dev13_eq c)) rfl rfl rfl (gst 1) rfl (plan.drop 12) (plan.drop 13) rfl) $$ [HG HO]
  · isplitr; · iexact HR
    isplitl [HG]; · iexact HG
    iexact HO
  iintro ⟨HG, HO⟩
  iapply (ldA c (n := 192) (ko 1 c) (off6_1 c) (ko_le 1 c) (AS O c (mst 9))) $$ [HA]
  · iexact HA
  iintro %v1243 %hv1243 HA
  iapply (ldG O c (n := 192) 1 rfl (off6_1 c) (gst 2) rfl) $$ [HG]
  · iexact HG
  iintro %v1246 HG
  iapply (stG O c (n := 192) 1 rfl (off6_1 c) (gst 2) rfl (fun x y => (ag_apply _ _ x y).trans (congrArg nar ((hv1243 x y).trans (AS_keep O c (mst 9) 1 _ _ x.isLt y.isLt))))) $$ [HG]
  · iexact HG
  iintro HG
  iapply (sendG O c (n := 192) 1 rfl (off8_1 c) (k0_off8_inb c 1) rfl rfl (Fin.ext (dev14_eq c)) rfl rfl rfl (gst 3) rfl (plan.drop 13) (plan.drop 14) rfl) $$ [HG HO]
  · isplitr; · iexact HR
    isplitl [HG]; · iexact HG
    iexact HO
  iintro ⟨HG, HO⟩
  iapply (ldA c (n := 128) (ko 2 c) (off7_ c) (ko_le 2 c) (AS O c (mst 9))) $$ [HA]
  · iexact HA
  iintro %v1260 %hv1260 HA
  iapply (ldG O c (n := 128) 2 rfl (off7_ c) (gst 4) rfl) $$ [HG]
  · iexact HG
  iintro %v1263 HG
  iapply (stG O c (n := 128) 2 rfl (off7_ c) (gst 4) rfl (fun x y => (ag_apply _ _ x y).trans (congrArg nar ((hv1260 x y).trans (AS_keep O c (mst 9) 2 _ _ x.isLt y.isLt))))) $$ [HG]
  · iexact HG
  iintro HG
  iapply Hk $$ %_ %_ [HO HG HA]
  isplitl [HO]; · iexact HO
  isplitl [HG]; · iexact HG
  iexact HA

/-- Part 38 of the body. -/
theorem run38 {β : Type} {Q : β → sProp 𝕄} (v1232 : BitVec 32) (v1249 : BitVec 32) (v1266 : BitVec 32) (f : FVec F S1x1024x1024 .f32) {K : (Σ' (v1294 : FVec F S1024x1024 .f32), Vec F S1x1024x1024 .f32) → Prog (TpuEff nD τ sig (Elt F) Λ₀ .tc) β} :
    iprop(recs O ∗ levAts L lv ∗ ow c (plan.drop 14) ∗ GA O c (gst 5) ∗ oP c f)
      ⊢ iprop(((ow c (plan.drop 15) ∗ GA O c (gst 9) ∗ oP c f) -∗ wpc c (K ⟨k0_pay80 (AG O c), f⟩) Q) -∗ wpc c (k0_part38 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v1232 v1249 v1266 >>= K) Q) := by
  rw [k0_part38_eq_skeleton]
  unfold k0_part38_skel
  simp only [semSignalWord, semWaitWord, Prog.lift, Prog.bind_op, Prog.bind_ret, Prog.pure_eq_ret]
  iintro ⟨#HR, #HL, HO, HG, Hout⟩ Hk
  iapply (sendG O c (n := 128) 2 rfl (off9_ c) (k0_off9_inb c) rfl rfl (Fin.ext (dev15_eq c)) rfl rfl rfl (gst 5) rfl (plan.drop 14) (plan.drop 15) rfl) $$ [HG HO]
  · isplitr; · iexact HR
    isplitl [HG]; · iexact HG
    iexact HO
  iintro ⟨HG, HO⟩
  iapply (waitGr O c (gst 6) 0 rfl rfl rfl (plan.drop 15) pl_15_5) $$ [HG HO]
  · isplitr; · iexact HR
    isplitr; · iexact HL
    isplitl [HG]; · iexact HG
    iexact HO
  iintro ⟨HG, HO⟩
  iapply (waitGr O c (gst 7) 1 rfl rfl rfl (plan.drop 15) pl_15_5) $$ [HG HO]
  · isplitr; · iexact HR
    isplitr; · iexact HL
    isplitl [HG]; · iexact HG
    iexact HO
  iintro ⟨HG, HO⟩
  iapply (waitGr O c (gst 8) 2 rfl rfl rfl (plan.drop 15) pl_15_5) $$ [HG HO]
  · isplitr; · iexact HR
    isplitr; · iexact HL
    isplitl [HG]; · iexact HG
    iexact HO
  iintro ⟨HG, HO⟩
  ihave HW := (show GA O c (Function.update (gst 8) 2 3) ⊢ _ from GA_done O c) $$ HG
  icases HW with ⟨HW, HG⟩
  iapply (ldAG c fullShare.right (AG O c)) $$ [HW]
  · iexact HW
  iintro HW
  ihave HG := HG $$ HW
  iapply (ldOut c fullShare f) $$ [Hout]
  · iexact Hout
  iintro Hout
  iapply Hk
  isplitl [HO]; · iexact HO
  isplitl [HG]; · iexact HG
  iexact Hout

/-- Part 39 of the body. -/
theorem run39 {β : Type} {Q : β → sProp 𝕄} (v1295 : Vec F S1x1024x1024 .f32) (f : FVec F S1x1024x1024 .f32) {K : (PUnit) → Prog (TpuEff nD τ sig (Elt F) Λ₀ .tc) β} :
    iprop(recs O ∗ levAts L lv ∗ oP c f ∗ ow c (plan.drop 15) ∗ X O c (xst 27))
      ⊢ iprop(((oP c (OUT O c) ∗ ow c (plan.drop 15) ∗ X O c (xst 30)) -∗ wpc c (K ⟨⟩) Q) -∗ wpc c (k0_part39 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 (k0_pay80 (AG O c)) v1295 >>= K) Q) := by
  rw [k0_part39_eq_skeleton]
  unfold k0_part39_skel
  simp only [semSignalWord, semWaitWord, Prog.lift, Prog.bind_op, Prog.bind_ret, Prog.pure_eq_ret]
  iintro ⟨#HR, #HL, Hout, HO, HX⟩ Hk
  iapply (stOut c f) $$ [Hout]
  · iexact Hout
  iintro Hout
  iapply (waitS O c (xst 27) 0 0 rfl rfl rfl (plan.drop 15) pl_15_0) $$ [HX HO]
  · isplitr; · iexact HR
    isplitr; · iexact HL
    isplitl [HX]; · iexact HX
    iexact HO
  iintro ⟨HX, HO⟩
  iapply (waitS O c (xst 28) 1 0 rfl rfl rfl (plan.drop 15) pl_15_0) $$ [HX HO]
  · isplitr; · iexact HR
    isplitr; · iexact HL
    isplitl [HX]; · iexact HX
    iexact HO
  iintro ⟨HX, HO⟩
  iapply (waitS O c (xst 29) 2 0 rfl rfl rfl (plan.drop 15) pl_15_0) $$ [HX HO]
  · isplitr; · iexact HR
    isplitr; · iexact HL
    isplitl [HX]; · iexact HX
    iexact HO
  iintro ⟨HX, HO⟩
  iapply Hk
  isplitl [Hout]; · iexact Hout
  isplitl [HO]; · iexact HO
  iexact HX

/-- Part 40 of the body. -/
theorem run40 {β : Type} {Q : β → sProp 𝕄}  {K : (PUnit) → Prog (TpuEff nD τ sig (Elt F) Λ₀ .tc) β} :
    iprop(recs O ∗ levAts L lv ∗ ow c (plan.drop 15) ∗ X O c (xst 30))
      ⊢ iprop(((ow c (plan.drop 15) ∗ X O c (xst 33)) -∗ wpc c (K ⟨⟩) Q) -∗ wpc c (k0_part40 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8  >>= K) Q) := by
  rw [k0_part40_eq_skeleton]
  unfold k0_part40_skel
  simp only [semSignalWord, semWaitWord, Prog.lift, Prog.bind_op, Prog.bind_ret, Prog.pure_eq_ret]
  iintro ⟨#HR, #HL, HO, HX⟩ Hk
  iapply (waitS O c (xst 30) 0 1 rfl rfl rfl (plan.drop 15) pl_15_0) $$ [HX HO]
  · isplitr; · iexact HR
    isplitr; · iexact HL
    isplitl [HX]; · iexact HX
    iexact HO
  iintro ⟨HX, HO⟩
  iapply (waitS O c (xst 31) 1 1 rfl rfl rfl (plan.drop 15) pl_15_0) $$ [HX HO]
  · isplitr; · iexact HR
    isplitr; · iexact HL
    isplitl [HX]; · iexact HX
    iexact HO
  iintro ⟨HX, HO⟩
  iapply (waitS O c (xst 32) 2 1 rfl rfl rfl (plan.drop 15) pl_15_0) $$ [HX HO]
  · isplitr; · iexact HR
    isplitr; · iexact HL
    isplitl [HX]; · iexact HX
    iexact HO
  iintro ⟨HX, HO⟩
  iapply Hk
  isplitl [HO]; · iexact HO
  iexact HX

/-- Part 41 of the body. -/
theorem run41 {β : Type} {Q : β → sProp 𝕄}  {K : (PUnit) → Prog (TpuEff nD τ sig (Elt F) Λ₀ .tc) β} :
    iprop(recs O ∗ levAts L lv ∗ ow c (plan.drop 15) ∗ X O c (xst 33) ∗ GA O c (gst 9))
      ⊢ iprop(((ow c (plan.drop 15) ∗ X O c (xst 36) ∗ GA O c (gst 10)) -∗ wpc c (K ⟨⟩) Q) -∗ wpc c (k0_part41 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c >>= K) Q) := by
  rw [k0_part41_eq_skeleton]
  unfold k0_part41_skel
  simp only [semSignalWord, semWaitWord, Prog.lift, Prog.bind_op, Prog.bind_ret, Prog.pure_eq_ret]
  iintro ⟨#HR, #HL, HO, HX, HG⟩ Hk
  iapply (waitS O c (xst 33) 0 2 rfl rfl rfl (plan.drop 15) pl_15_0) $$ [HX HO]
  · isplitr; · iexact HR
    isplitr; · iexact HL
    isplitl [HX]; · iexact HX
    iexact HO
  iintro ⟨HX, HO⟩
  iapply (waitS O c (xst 34) 1 2 rfl rfl rfl (plan.drop 15) pl_15_0) $$ [HX HO]
  · isplitr; · iexact HR
    isplitr; · iexact HL
    isplitl [HX]; · iexact HX
    iexact HO
  iintro ⟨HX, HO⟩
  iapply (waitS O c (xst 35) 2 2 rfl rfl rfl (plan.drop 15) pl_15_0) $$ [HX HO]
  · isplitr; · iexact HR
    isplitr; · iexact HL
    isplitl [HX]; · iexact HX
    iexact HO
  iintro ⟨HX, HO⟩
  iapply (waitGs O c (gst 9) 0 rfl rfl rfl (plan.drop 15) pl_15_0) $$ [HG HO]
  · isplitr; · iexact HR
    isplitr; · iexact HL
    isplitl [HG]; · iexact HG
    iexact HO
  iintro ⟨HG, HO⟩
  iapply Hk
  isplitl [HO]; · iexact HO
  isplitl [HX]; · iexact HX
  iexact HG

end Cert.KernelProof

end
-- ==== Proof.BodyRun.lean ====
/- # The body of a device -/
module

public import proofs.«01_k».proof.Proof.RunA
public import proofs.«01_k».proof.Proof.RunB
public import proofs.«01_k».proof.Proof.RunC
public import proofs.«01_k».proof.Proof.RunD

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-- A stretch of the first band that only computes: it goes on with the values it computed. -/
theorem pure11 {β : Type} {Q : β → sProp 𝕄} {K : (Σ' (v261 : IVec S256x512 1) (v277 : FVec F S256x128 .bf16) (v293 : FVec F S256x128 .bf16) (v300 : FVec F S256x512 .f32) (v301 : FVec F S256x512 .bf16), FVec F S512x128 .bf16) → Prog (TpuEff nD τ sig (Elt F) Λ₀ .tc) β} (v134 : FVec F S1024x1024 .bf16) (v235 : FVec F S8x1024x128 .bf16) (v237 : FVec F S8x1024x128 .bf16) (v245 : IVec S256x512 1) (v254 : IVec S256x512 32) (c256_i32 : BitVec 32) :
    wpc c (K ⟨k0_pay7 v254 c256_i32, k0_pay8 v134 v235 v237 v245, k0_pay9 v134 v235 v237 v245, k0_pay10 v134 v235 v245, k0_pay11 v134 v235 v245, k0_pay12 v237⟩) Q ⊢ wpc c (k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v245 v254 c256_i32 >>= K) Q := by
  rw [run11]

/-- A stretch of the first band that only computes: it goes on with the values it computed. -/
theorem pure12 {β : Type} {Q : β → sProp 𝕄} {K : (Σ' (v309 : FVec F S256x128 .bf16) (v325 : FVec F S256x128 .bf16) (v341 : FVec F S256x128 .bf16) (v348 : FVec F S256x512 .f32) (v349 : FVec F S256x512 .bf16), FVec F S512x128 .bf16) → Prog (TpuEff nD τ sig (Elt F) Λ₀ .tc) β} (v134 : FVec F S1024x1024 .bf16) (v235 : FVec F S8x1024x128 .bf16) (v237 : FVec F S8x1024x128 .bf16) (v245 : IVec S256x512 1) (v300 : FVec F S256x512 .f32) (v301 : FVec F S256x512 .bf16) (v303 : FVec F S512x128 .bf16) :
    wpc c (K ⟨k0_pay13 v300 v301 v303, k0_pay14 v134 v235 v237 v245, k0_pay15 v134 v235 v237 v245, k0_pay16 v134 v235 v245, k0_pay17 v134 v235 v245, k0_pay18 v237⟩) Q ⊢ wpc c (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v245 v300 v301 v303 >>= K) Q := by
  rw [run12]

/-- A stretch of the second band that only computes: it goes on with the values it computed. -/
theorem pure14 {β : Type} {Q : β → sProp 𝕄} {K : (Σ' (v410 : FVec F S256x128 .bf16) (v426 : FVec F S256x128 .bf16) (v442 : FVec F S256x128 .bf16) (v443 : FVec F S256x128 .bf16), FVec F S512x128 .bf16) → Prog (TpuEff nD τ sig (Elt F) Λ₀ .tc) β} (v134 : FVec F S1024x1024 .bf16) (v235 : FVec F S8x1024x128 .bf16) (v237 : FVec F S8x1024x128 .bf16) (v253 : IVec S256x512 1) (v395 : FVec F S256x128 .bf16) (v397 : FVec F S512x128 .bf16) :
    wpc c (K ⟨k0_pay22 v237 v253 v395 v397, k0_pay23 v134 v235 v237 v253, k0_pay24 v134 v235 v237 v253, k0_pay25 v134, k0_pay26 v235⟩) Q ⊢ wpc c (k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v395 v397 >>= K) Q := by
  rw [run14]

/-- A stretch of the second band that only computes: it goes on with the values it computed. -/
theorem pure15 {β : Type} {Q : β → sProp 𝕄} {K : (Σ' (v458 : FVec F S256x128 .bf16) (v474 : FVec F S256x128 .bf16) (v490 : FVec F S256x128 .bf16) (v491 : FVec F S256x128 .bf16), FVec F S512x128 .bf16) → Prog (TpuEff nD τ sig (Elt F) Λ₀ .tc) β} (v134 : FVec F S1024x1024 .bf16) (v235 : FVec F S8x1024x128 .bf16) (v237 : FVec F S8x1024x128 .bf16) (v253 : IVec S256x512 1) (v443 : FVec F S256x128 .bf16) (v445 : FVec F S512x128 .bf16) :
    wpc c (K ⟨k0_pay27 v237 v253 v443 v445, k0_pay28 v134 v235 v237 v253, k0_pay29 v134 v235 v237 v253, k0_pay30 v134, k0_pay31 v235⟩) Q ⊢ wpc c (k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v443 v445 >>= K) Q := by
  rw [run15]

/-- A stretch of the third band that only computes: it goes on with the values it computed. -/
theorem pure19 {β : Type} {Q : β → sProp 𝕄} {K : (Σ' (v612 : FVec F S256x128 .bf16) (v628 : FVec F S256x128 .bf16) (v644 : FVec F S256x128 .bf16), FVec F S256x128 .f32) → Prog (TpuEff nD τ sig (Elt F) Λ₀ .tc) β} (v134 : FVec F S1024x1024 .bf16) (v235 : FVec F S8x1024x128 .bf16) (v237 : FVec F S8x1024x128 .bf16) (v253 : IVec S256x512 1) (v611 : FVec F S256x128 .f32) :
    wpc c (K ⟨k0_pay36 v611, k0_pay37 v134 v235 v237 v253, k0_pay38 v134 v235 v237 v253, k0_pay39 v134 v235 v237 v253⟩) Q ⊢ wpc c (k0_part19 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v611 >>= K) Q := by
  rw [run19]

/-- A stretch of the third band that only computes: it goes on with the values it computed. -/
theorem pure20 {β : Type} {Q : β → sProp 𝕄} {K : (Σ' (v660 : FVec F S256x128 .bf16) (v676 : FVec F S256x128 .bf16) (v692 : FVec F S256x128 .bf16), FVec F S256x128 .f32) → Prog (TpuEff nD τ sig (Elt F) Λ₀ .tc) β} (v134 : FVec F S1024x1024 .bf16) (v235 : FVec F S8x1024x128 .bf16) (v237 : FVec F S8x1024x128 .bf16) (v253 : IVec S256x512 1) (v659 : FVec F S256x128 .f32) :
    wpc c (K ⟨k0_pay40 v659, k0_pay41 v134 v235 v237 v253, k0_pay42 v134 v235 v237 v253, k0_pay43 v134 v235 v237 v253⟩) Q ⊢ wpc c (k0_part20 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v253 v659 >>= K) Q := by
  rw [run20]

/-- A stretch of the fourth band that only computes: it goes on with the values it computed. -/
theorem pure23 {β : Type} {Q : β → sProp 𝕄} {K : (Σ' (v782 : FVec F S256x128 .bf16) (v798 : FVec F S256x128 .bf16) (v814 : FVec F S256x128 .bf16) (v821 : FVec F S256x512 .f32), FVec F S256x128 .f32) → Prog (TpuEff nD τ sig (Elt F) Λ₀ .tc) β} (v134 : FVec F S1024x1024 .bf16) (v235 : FVec F S8x1024x128 .bf16) (v237 : FVec F S8x1024x128 .bf16) (v261 : IVec S256x512 1) (v773 : FVec F S256x512 .f32) (v777 : FVec F S256x128 .f32) :
    wpc c (K ⟨k0_pay48 v773 v777, k0_pay49 v134 v235 v237 v261, k0_pay50 v134 v235 v237 v261, k0_pay51 v134 v235 v261, k0_pay52 v134 v235 v237 v261⟩) Q ⊢ wpc c (k0_part23 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v261 v773 v777 >>= K) Q := by
  rw [run23]

/-- A stretch of the fourth band that only computes: it goes on with the values it computed. -/
theorem pure24 {β : Type} {Q : β → sProp 𝕄} {K : (Σ' (v830 : FVec F S256x128 .bf16) (v846 : FVec F S256x128 .bf16) (v862 : FVec F S256x128 .bf16) (v869 : FVec F S256x512 .f32), FVec F S256x128 .f32) → Prog (TpuEff nD τ sig (Elt F) Λ₀ .tc) β} (v134 : FVec F S1024x1024 .bf16) (v235 : FVec F S8x1024x128 .bf16) (v237 : FVec F S8x1024x128 .bf16) (v261 : IVec S256x512 1) (v821 : FVec F S256x512 .f32) (v825 : FVec F S256x128 .f32) :
    wpc c (K ⟨k0_pay53 v821 v825, k0_pay54 v134 v235 v237 v261, k0_pay55 v134 v235 v237 v261, k0_pay56 v134 v235 v261, k0_pay57 v134 v235 v237 v261⟩) Q ⊢ wpc c (k0_part24 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v134 v235 v237 v261 v821 v825 >>= K) Q := by
  rw [run24]

/-- What a device holds when its kernel starts; -/
def bodyIn (fo : FVec F S1x1024x1024 .f32) (fa : FVec F S1024x1024 .f32) : sProp 𝕄 :=
  iprop(recs O ∗ levAts L lv ∗ xP c (O c).x ∗ qP c (O c).wq ∗ wP c (O c).wo ∗ oP c fo ∗ accP c fa ∗ KV O c (fun _ => 0) ∗ XG0 (F := F) c
    ∗ barT (F := F) c 0 ∗ barT (F := F) c 1 ∗ barT (F := F) c 2 ∗ cred (tallyAt (barC c) () 3) ∗ atPos ER (barC c) 0 ∅ 0 ∗ ow c plan)
/-- and when it ends. -/
def bodyOut : sProp 𝕄 :=
  iprop(xP c (O c).x ∗ qP c (O c).wq ∗ wP c (O c).wo ∗ oP c (OUT O c) ∗ accP c (AS O c (fun _ => 3)) ∗ kvFin O c ∗ kP c (hd c (O c).k) ∗ vP c (hd c (O c).v)
    ∗ X O c (fun _ => 4) ∗ GA O c (fun _ => 4) ∗ fin O c (.reg barS) ∗ ow c [])

/-- After the last waits every gathering is done. -/
theorem gst_all : Function.update (Function.update (gst 10) 1 4) 2 4 = fun _ => 4 := by funext p; revert p; decide

set_option maxHeartbeats 1600000 in
/-- A device's kernel, run. -/
theorem run_body {Q : PUnit → sProp 𝕄} (fo : FVec F S1x1024x1024 .f32) (fa : FVec F S1024x1024 .f32) :
    bodyIn O c fo fa ⊢ iprop((bodyOut O c -∗ Q ⟨⟩) -∗ wpc c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Q) := by
  rw [cc0_body_eq_skeleton]
  unfold cc0_body_skel bodyIn
  iintro ⟨#HR, #HL, Hx, Hq, Hw, Hout, HA, HK, HXG, Hb0, Hb1, Hb2, Hbc, Hba, HO⟩ Hk
  iapply (run1 O c ) $$ [HK]
  · isplitr; · iexact HR
    isplitr; · iexact HL
    iexact HK
  iintro %w0 HK
  iapply (run2 O c w0) $$ [HK]
  · isplitr; · iexact HR
    isplitr; · iexact HL
    iexact HK
  iintro HK
  iapply (run3 O c w0) $$ [HK]
  · isplitr; · iexact HR
    isplitr; · iexact HL
    iexact HK
  iintro HK
  iapply (run4 O c w0) $$ [HK]
  · isplitr; · iexact HR
    isplitr; · iexact HL
    iexact HK
  iintro HK
  iapply (run5 O c w0) $$ [HK HO Hb0 Hb1]
  · isplitr; · iexact HR
    isplitr; · iexact HL
    isplitl [HK]; · iexact HK
    isplitl [HO]; · iexact HO
    isplitl [Hb0]; · iexact Hb0
    iexact Hb1
  iintro %w1 ⟨HK, HO⟩
  iapply (run6 O c w1) $$ [HO Hb2 Hbc Hba HXG Hx Hq Hw HK]
  · isplitr; · iexact HR
    isplitr; · iexact HL
    isplitl [HO]; · iexact HO
    isplitl [Hb2]; · iexact Hb2
    isplitl [Hbc]; · iexact Hbc
    isplitl [Hba]; · iexact Hba
    isplitl [HXG]; · iexact HXG
    isplitl [Hx]; · iexact Hx
    isplitl [Hq]; · iexact Hq
    isplitl [Hw]; · iexact Hw
    iexact HK
  iintro ⟨HO, Hx, Hq, Hw, HK, HX, HG, Hbf⟩
  iapply (run7 O c ) $$ [HO HK]
  · isplitr; · iexact HR
    isplitr; · iexact HL
    isplitl [HO]; · iexact HO
    iexact HK
  iintro ⟨HO, HK⟩
  iapply (run8 O c ) $$ [HO HK]
  · isplitr; · iexact HR
    isplitr; · iexact HL
    isplitl [HO]; · iexact HO
    iexact HK
  iintro ⟨HO, HK⟩
  iapply (run9 O c ) $$ [HO HK]
  · isplitr; · iexact HR
    isplitr; · iexact HL
    isplitl [HO]; · iexact HO
    iexact HK
  iintro ⟨HO, HK⟩
  iapply (run10 O c ) $$ [HO HK]
  · isplitr; · iexact HR
    isplitr; · iexact HL
    isplitl [HO]; · iexact HO
    iexact HK
  iintro ⟨HO, HKf, HKk, HKv⟩
  iapply (pure11 c (K := _) (qv (O c)) (kv (O c) c) (vv (O c) c) ma (iota .tc S256x512 32 [0] iota_S256x512_d0_w32) 256#32)
  iapply (pure12 c (K := _) (qv (O c)) (kv (O c) c) (vv (O c) c) ma (k0_pay10 (qv (O c)) (kv (O c) c) ma) (k0_pay11 (qv (O c)) (kv (O c) c) ma) (k0_pay12 (vv (O c) c)))
  iapply (run13 O c (qv (O c)) (wv (O c)) (kv (O c) c) (vv (O c) c) ma (k0_pay8 (qv (O c)) (kv (O c) c) (vv (O c) c) ma) (k0_pay9 (qv (O c)) (kv (O c) c) (vv (O c) c) ma) (k0_pay13 (k0_pay10 (qv (O c)) (kv (O c) c) ma) (k0_pay11 (qv (O c)) (kv (O c) c) ma) (k0_pay12 (vv (O c) c))) (k0_pay14 (qv (O c)) (kv (O c) c) (vv (O c) c) ma) (k0_pay15 (qv (O c)) (kv (O c) c) (vv (O c) c) ma) (k0_pay16 (qv (O c)) (kv (O c) c) ma) (k0_pay17 (qv (O c)) (kv (O c) c) ma) (k0_pay18 (vv (O c) c)) fa rfl) $$ [HA]
  · isplitr; · iexact HR
    isplitr; · iexact HL
    iexact HA
  iintro HA
  iapply (pure14 c (K := _) (qv (O c)) (kv (O c) c) (vv (O c) c) mb (k0_pay20 (qv (O c))) (k0_pay21 (kv (O c) c)))
  iapply (pure15 c (K := _) (qv (O c)) (kv (O c) c) (vv (O c) c) mb (k0_pay25 (qv (O c))) (k0_pay26 (kv (O c) c)))
  iapply (run16 O c w0 (qv (O c)) (wv (O c)) (kv (O c) c) (vv (O c) c) mb (k0_pay22 (vv (O c) c) mb (k0_pay20 (qv (O c))) (k0_pay21 (kv (O c) c))) (k0_pay23 (qv (O c)) (kv (O c) c) (vv (O c) c) mb) (k0_pay24 (qv (O c)) (kv (O c) c) (vv (O c) c) mb) (k0_pay27 (vv (O c) c) mb (k0_pay25 (qv (O c))) (k0_pay26 (kv (O c) c))) (k0_pay28 (qv (O c)) (kv (O c) c) (vv (O c) c) mb) (k0_pay29 (qv (O c)) (kv (O c) c) (vv (O c) c) mb) (k0_pay30 (qv (O c))) (k0_pay31 (kv (O c) c)) fa rfl) $$ [HA]
  · isplitr; · iexact HR
    isplitr; · iexact HL
    iexact HA
  iintro %w2 %w3 %w4 %w5 %w6 HA
  iapply (run17 O c w0 w2 w3 w4 w5 w6 fa) $$ [HA HX]
  · isplitr; · iexact HR
    isplitr; · iexact HL
    isplitl [HA]; · iexact HA
    iexact HX
  iintro %w7 %w8 %w9 ⟨HA, HX⟩
  iapply (run18 O c (qv (O c)) (kv (O c) c) (vv (O c) c) mb w7 w9) $$ [HO HX]
  · isplitr; · iexact HR
    isplitr; · iexact HL
    isplitl [HO]; · iexact HO
    iexact HX
  iintro %w10 ⟨HO, HX⟩
  iapply (pure19 c (K := _) (qv (O c)) (kv (O c) c) (vv (O c) c) mb (k0_pay35 (qv (O c)) (kv (O c) c) (vv (O c) c) mb))
  iapply (pure20 c (K := _) (qv (O c)) (kv (O c) c) (vv (O c) c) mb (k0_pay39 (qv (O c)) (kv (O c) c) (vv (O c) c) mb))
  iapply (run21 O c w0 (wv (O c)) (k0_pay34 (qv (O c)) (kv (O c) c) (vv (O c) c) mb) (k0_pay36 (k0_pay35 (qv (O c)) (kv (O c) c) (vv (O c) c) mb)) (k0_pay37 (qv (O c)) (kv (O c) c) (vv (O c) c) mb) (k0_pay38 (qv (O c)) (kv (O c) c) (vv (O c) c) mb) (k0_pay40 (k0_pay39 (qv (O c)) (kv (O c) c) (vv (O c) c) mb)) (k0_pay41 (qv (O c)) (kv (O c) c) (vv (O c) c) mb) (k0_pay42 (qv (O c)) (kv (O c) c) (vv (O c) c) mb) (k0_pay43 (qv (O c)) (kv (O c) c) (vv (O c) c) mb) fa rfl) $$ [HA]
  · isplitr; · iexact HR
    isplitr; · iexact HL
    iexact HA
  iintro %w11 %w12 %w13 %w14 HA
  iapply (run22 O c w0 (qv (O c)) (kv (O c) c) (vv (O c) c) (k0_pay7 (iota .tc S256x512 32 [0] iota_S256x512_d0_w32) 256#32) w11 w12 w13 w14 fa) $$ [HA HX HO]
  · isplitr; · iexact HR
    isplitr; · iexact HL
    isplitl [HA]; · iexact HA
    isplitl [HX]; · iexact HX
    iexact HO
  iintro %w15 %w16 %w17 ⟨HA, HX, HO⟩
  iapply (pure23 c (K := _) (qv (O c)) (kv (O c) c) (vv (O c) c) (k0_pay7 (iota .tc S256x512 32 [0] iota_S256x512_d0_w32) 256#32) (k0_pay46 (qv (O c)) (kv (O c) c) (k0_pay7 (iota .tc S256x512 32 [0] iota_S256x512_d0_w32) 256#32)) (k0_pay47 (qv (O c)) (kv (O c) c) (vv (O c) c) (k0_pay7 (iota .tc S256x512 32 [0] iota_S256x512_d0_w32) 256#32)))
  iapply (pure24 c (K := _) (qv (O c)) (kv (O c) c) (vv (O c) c) (k0_pay7 (iota .tc S256x512 32 [0] iota_S256x512_d0_w32) 256#32) (k0_pay51 (qv (O c)) (kv (O c) c) (k0_pay7 (iota .tc S256x512 32 [0] iota_S256x512_d0_w32) 256#32)) (k0_pay52 (qv (O c)) (kv (O c) c) (vv (O c) c) (k0_pay7 (iota .tc S256x512 32 [0] iota_S256x512_d0_w32) 256#32)))
  iapply (run25 O c w0 (qv (O c)) (wv (O c)) (kv (O c) c) (vv (O c) c) (k0_pay7 (iota .tc S256x512 32 [0] iota_S256x512_d0_w32) 256#32) (k0_pay48 (k0_pay46 (qv (O c)) (kv (O c) c) (k0_pay7 (iota .tc S256x512 32 [0] iota_S256x512_d0_w32) 256#32)) (k0_pay47 (qv (O c)) (kv (O c) c) (vv (O c) c) (k0_pay7 (iota .tc S256x512 32 [0] iota_S256x512_d0_w32) 256#32))) (k0_pay49 (qv (O c)) (kv (O c) c) (vv (O c) c) (k0_pay7 (iota .tc S256x512 32 [0] iota_S256x512_d0_w32) 256#32)) (k0_pay50 (qv (O c)) (kv (O c) c) (vv (O c) c) (k0_pay7 (iota .tc S256x512 32 [0] iota_S256x512_d0_w32) 256#32)) (k0_pay53 (k0_pay51 (qv (O c)) (kv (O c) c) (k0_pay7 (iota .tc S256x512 32 [0] iota_S256x512_d0_w32) 256#32)) (k0_pay52 (qv (O c)) (kv (O c) c) (vv (O c) c) (k0_pay7 (iota .tc S256x512 32 [0] iota_S256x512_d0_w32) 256#32))) (k0_pay54 (qv (O c)) (kv (O c) c) (vv (O c) c) (k0_pay7 (iota .tc S256x512 32 [0] iota_S256x512_d0_w32) 256#32)) (k0_pay55 (qv (O c)) (kv (O c) c) (vv (O c) c) (k0_pay7 (iota .tc S256x512 32 [0] iota_S256x512_d0_w32) 256#32)) (k0_pay56 (qv (O c)) (kv (O c) c) (k0_pay7 (iota .tc S256x512 32 [0] iota_S256x512_d0_w32) 256#32)) (k0_pay57 (qv (O c)) (kv (O c) c) (vv (O c) c) (k0_pay7 (iota .tc S256x512 32 [0] iota_S256x512_d0_w32) 256#32)) fa rfl) $$ [HA]
  · isplitr; · iexact HR
    isplitr; · iexact HL
    iexact HA
  iintro %w18 %w19 HA
  iapply (run26 O c w0 w18 w19 fa) $$ [HA HX]
  · isplitr; · iexact HR
    isplitr; · iexact HL
    isplitl [HA]; · iexact HA
    iexact HX
  iintro %w20 %w21 %w22 ⟨HA, HX⟩
  ihave HA := (Entails.of_eq (congrArg (accP c) ((accB_4 O c fa).trans (AS_zero O c).symm))) $$ HA
  iapply (run27 O c w8 w9 w16 w20) $$ [HO HX HA]
  · isplitr; · iexact HR
    isplitr; · iexact HL
    isplitl [HO]; · iexact HO
    isplitl [HX]; · iexact HX
    iexact HA
  iintro %w23 ⟨HO, HX, HA⟩
  iapply (run28 O c w15 w21 w22) $$ [HO HX HA]
  · isplitr; · iexact HR
    isplitr; · iexact HL
    isplitl [HO]; · iexact HO
    isplitl [HX]; · iexact HX
    iexact HA
  iintro %v999 %hv999 %v1000 %hv1000 ⟨HO, HX, HA⟩
  iapply (run29 O c w0 w10 w17 v999 hv999 v1000 hv1000) $$ [HA HX HO]
  · isplitr; · iexact HR
    isplitr; · iexact HL
    isplitl [HA]; · iexact HA
    isplitl [HX]; · iexact HX
    iexact HO
  iintro %w24 %w25 %w26 %w27 ⟨HA, HX, HO⟩
  iapply (run30 O c w0 w23 w27) $$ [HO HX HA]
  · isplitr; · iexact HR
    isplitr; · iexact HL
    isplitl [HO]; · iexact HO
    isplitl [HX]; · iexact HX
    iexact HA
  iintro %w28 %w29 ⟨HO, HX, HA⟩
  iapply (run31 O c w24 w25 w27) $$ [HO HX HA]
  · isplitr; · iexact HR
    isplitr; · iexact HL
    isplitl [HO]; · iexact HO
    isplitl [HX]; · iexact HX
    iexact HA
  iintro ⟨HO, HX, HA⟩
  iapply (run32 O c w10 w26 w28 w29) $$ [HA HX HO]
  · isplitr; · iexact HR
    isplitr; · iexact HL
    isplitl [HA]; · iexact HA
    isplitl [HX]; · iexact HX
    iexact HO
  iintro %w30 %v1118 %hv1118 ⟨HA, HX, HO⟩
  iapply (run33 O c w0 w17 v1118 hv1118) $$ [HX HO HA]
  · isplitr; · iexact HR
    isplitr; · iexact HL
    isplitl [HX]; · iexact HX
    isplitl [HO]; · iexact HO
    iexact HA
  iintro %w31 %w32 %w33 ⟨HX, HO, HA⟩
  iapply (run34 O c w0 w23 w31) $$ [HO HX HA]
  · isplitr; · iexact HR
    isplitr; · iexact HL
    isplitl [HO]; · iexact HO
    isplitl [HX]; · iexact HX
    iexact HA
  iintro %w34 %w35 %w36 ⟨HO, HX, HA⟩
  iapply (run35 O c w30 w32 w33 w36) $$ [HO HX HA]
  · isplitr; · iexact HR
    isplitr; · iexact HL
    isplitl [HO]; · iexact HO
    isplitl [HX]; · iexact HX
    iexact HA
  iintro %v1197 %hv1197 %v1198 %hv1198 ⟨HO, HX, HA⟩
  iapply (run36 O c w0 w10 w32 w34 w35 v1197 hv1197 v1198 hv1198) $$ [HA HO HX HG]
  · isplitr; · iexact HR
    isplitr; · iexact HL
    isplitl [HA]; · iexact HA
    isplitl [HO]; · iexact HO
    isplitl [HX]; · iexact HX
    iexact HG
  iintro %w37 ⟨HA, HO, HX, HG⟩
  iapply (run37 O c w0 w17 w23 w37) $$ [HO HG HA]
  · isplitr; · iexact HR
    isplitr; · iexact HL
    isplitl [HO]; · iexact HO
    isplitl [HG]; · iexact HG
    iexact HA
  iintro %w38 %w39 ⟨HO, HG, HA⟩
  iapply (run38 O c w37 w38 w39 fo) $$ [HO HG Hout]
  · isplitr; · iexact HR
    isplitr; · iexact HL
    isplitl [HO]; · iexact HO
    isplitl [HG]; · iexact HG
    iexact Hout
  iintro ⟨HO, HG, Hout⟩
  iapply (run39 O c fo fo) $$ [Hout HO HX]
  · isplitr; · iexact HR
    isplitr; · iexact HL
    isplitl [Hout]; · iexact Hout
    isplitl [HO]; · iexact HO
    iexact HX
  iintro ⟨Hout, HO, HX⟩
  iapply (run40 O c ) $$ [HO HX]
  · isplitr; · iexact HR
    isplitr; · iexact HL
    isplitl [HO]; · iexact HO
    iexact HX
  iintro ⟨HO, HX⟩
  iapply (run41 O c ) $$ [HO HX HG]
  · isplitr; · iexact HR
    isplitr; · iexact HL
    isplitl [HO]; · iexact HO
    isplitl [HX]; · iexact HX
    iexact HG
  iintro ⟨HO, HX, HG⟩
  simp only [Prog.lift, Prog.bind_op, Prog.bind_ret, Prog.pure_eq_ret]
  iapply (waitGs O c (gst 10) 1 rfl rfl rfl (plan.drop 15) pl_15_0) $$ [HG HO]
  · isplitr; · iexact HR
    isplitr; · iexact HL
    isplitl [HG]; · iexact HG
    iexact HO
  iintro ⟨HG, HO⟩
  iapply (waitGs O c (Function.update (gst 10) 1 4) 2 rfl rfl rfl (plan.drop 15) pl_15_0) $$ [HG HO]
  · isplitr; · iexact HR
    isplitr; · iexact HL
    isplitl [HG]; · iexact HG
    iexact HO
  iintro ⟨HG, HO⟩
  rw [show (wpc c (Prog.ret PUnit.unit) Q : sProp 𝕄) = iprop(|={Set.univ}=> Q ⟨⟩) from by unfold wpc; rw [wp_ret]]
  imodintro
  iapply Hk
  unfold bodyOut
  rw [gst_all, mst_all, xst_all]
  isplitl [Hx]; · iexact Hx
  isplitl [Hq]; · iexact Hq
  isplitl [Hw]; · iexact Hw
  isplitl [Hout]; · iexact Hout
  isplitl [HA]; · iexact HA
  isplitl [HKf]; · iexact HKf
  isplitl [HKk]; · iexact HKk
  isplitl [HKv]; · iexact HKv
  isplitl [HX]; · iexact HX
  isplitl [HG]; · iexact HG
  isplitl [Hbf]; · iexact Hbf
  iexact HO

end Cert.KernelProof

end
-- ==== Proof.Pieces.lean ====
/- # What a device starts from and ends with, cut into the pieces the body takes -/
module

public import proofs.«01_k».proof.Proof.BodyRun
public import Idealize.ShloMosaic.Lib.Ring
public import Idealize.ShloMosaic.Lib.Transfers

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (O : Dev nD → Ops F) (c : Dev nD)

/-! ## The cells of a device, by use -/

def kKv (kh : Fin 2 × Fin 8) : Fin 53 := ⟨8 * kh.1.val + kh.2.val, by have := kh.1.isLt; have := kh.2.isLt; omega⟩
def kS (pr' : Fin 3 × Fin 3) : Fin 53 := ⟨16 + 6 * pr'.1.val + pr'.2.val, by have := pr'.1.isLt; have := pr'.2.isLt; omega⟩
def kR (pr' : Fin 3 × Fin 3) : Fin 53 := ⟨34 + 6 * pr'.1.val + pr'.2.val, by have := pr'.1.isLt; have := pr'.2.isLt; omega⟩
def kGs (p : Fin 3) : Fin 53 := ⟨19 + 6 * p.val, by have := p.isLt; omega⟩
def kGr (p : Fin 3) : Fin 53 := ⟨37 + 6 * p.val, by have := p.isLt; omega⟩
/-- The semaphores the kernel leaves alone. -/
def kN (pj : Fin 6 × Fin 2) : Fin 53 := ⟨20 + 6 * pj.1.val + pj.2.val, by have := pj.1.isLt; have := pj.2.isLt; omega⟩

/-- The same cells, listed use by use. -/
def cOf : Unit ⊕ (Fin 2 × Fin 8) ⊕ (Fin 3 × Fin 3) ⊕ (Fin 3 × Fin 3) ⊕ Fin 3 ⊕ Fin 3 ⊕ (Fin 6 × Fin 2) → Fin 53
  | .inl _ => 52
  | .inr (.inl x) => kKv x
  | .inr (.inr (.inl x)) => kS x
  | .inr (.inr (.inr (.inl x))) => kR x
  | .inr (.inr (.inr (.inr (.inl x)))) => kGs x
  | .inr (.inr (.inr (.inr (.inr (.inl x))))) => kGr x
  | .inr (.inr (.inr (.inr (.inr (.inr x))))) => kN x
/-- The list of cells by use names every cell once. -/
theorem cOf_bij : Function.Bijective cOf := by decide +kernel

/-- A conjunction over two kinds is the conjunction over each. -/
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := by
  classical
  have h : (Finset.univ : Finset (A ⊕ B)) = Finset.univ.map Function.Embedding.inl ∪ Finset.univ.map Function.Embedding.inr := by
    ext x; rcases x with x | x <;> simp
  rw [h, bigSep_union (by rw [Finset.disjoint_left]; simp), bigSep_map, bigSep_map]
  rfl

/-- A conjunction over the cells, use by use. -/
theorem cells_split (Φ : Fin 53 → sProp 𝕄) :
    bigSep Finset.univ Φ = iprop(Φ 52 ∗ (bigSep Finset.univ fun x => Φ (kKv x)) ∗ (bigSep Finset.univ fun x => Φ (kS x)) ∗ (bigSep Finset.univ fun x => Φ (kR x))
      ∗ (bigSep Finset.univ fun x => Φ (kGs x)) ∗ (bigSep Finset.univ fun x => Φ (kGr x)) ∗ bigSep Finset.univ fun x => Φ (kN x)) := by
  rw [bigSep_univ_equiv (Equiv.ofBijective cOf cOf_bij) Φ]
  simp only [bigSep_sum]
  rw [bigSep_univ_eq_bigSepL [()] (by decide) (by decide), bigSepL_singleton]
  rfl

/-- The cell of a head's copy has that copy's semaphore. -/
theorem k_kv (kh : Fin 2 × Fin 8) : csem (kKv kh) = .dma (kvS kh.1 kh.2) := by revert kh; decide +kernel
/-- The cell of an exchange's send has its semaphore. -/
theorem k_s (x : Fin 3 × Fin 3) : csem (kS x) = .dma (sS x.1 x.2) := by revert x; decide +kernel
/-- The cell of an exchange's receipt has its semaphore. -/
theorem k_r (x : Fin 3 × Fin 3) : csem (kR x) = .dma (rS x.1 x.2) := by revert x; decide +kernel
/-- The cell of a gathering's send has its semaphore. -/
theorem k_gs (p : Fin 3) : csem (kGs p) = .dma (gsS p) := by revert p; decide +kernel
/-- The cell of a gathering's receipt has its semaphore. -/
theorem k_gr (p : Fin 3) : csem (kGr p) = .dma (grS p) := by revert p; decide +kernel
/-- A semaphore the kernel leaves alone. -/
def nS (x : Fin 6 × Fin 2) : DmaSem sig := ⟨24 + 6 * x.1.val + x.2.val, by have := x.1.isLt; have := x.2.isLt; show _ < 56; omega⟩
/-- The remaining cells have the remaining semaphores. -/
theorem k_n (x : Fin 6 × Fin 2) : csem (kN x) = .dma (nS x) := by revert x; decide +kernel
/-- The kernel does not use the remaining semaphores. -/
theorem use_n (x : Fin 6 × Fin 2) : use (nS x).val = .none := by revert x; decide +kernel

/-! ## The cells closed -/

/-- A cell with no round to come gives its counter back at zero. -/
theorem close (sm : SemLoc sig) : iprop(rec1 O ((c : Thread nD τ), sm) ∗ fin O c sm) ⊢ |={Set.univ}=> (semVal ((c : Thread nD τ), sm) 0 : sProp 𝕄) := by
  unfold rec1 fin
  iintro ⟨⟨⟨%κ, #HI⟩, -⟩, ⟨%R, %hR, Hat⟩⟩
  imod (Rounds.cell_close ER (Rd O) (Set.mem_univ κ) (fun h => h) (R := R) hR) $$ [Hat] with H
  · isplitr; · iexact HI
    iexact Hat
  imodintro
  iexact H

/-- All of a device's cells do. -/
theorem closeAll : iprop(recs O ∗ bigSep Finset.univ fun k : Fin 53 => fin O c (csem k)) ⊢ |={Set.univ}=> (bigSep Finset.univ fun k : Fin 53 => semVal (kcell (c, k)) 0 : sProp 𝕄) := by
  refine BIBase.Entails.trans ?_ (bigSep_fupd _ _)
  refine (sep_mono_left (BI.bigSep_of_persistent (Finset.univ : Finset (Fin 53)) (recs O))).trans ?_
  rw [← bigSep_sep']
  exact bigSep_mono fun k _ => (sep_mono_left (recs_at O (c, k))).trans (close O c (csem k))

/-- All the cells of a device, none with a round to come. -/
theorem fins : iprop(fin O c (.reg barS) ∗ kvFin O c ∗ (bigSep Finset.univ fun x : Fin 3 × Fin 3 => fin O c (.dma (sS x.1 x.2))) ∗ (bigSep Finset.univ fun x : Fin 3 × Fin 3 => fin O c (.dma (rS x.1 x.2)))
      ∗ (bigSep Finset.univ fun p : Fin 3 => fin O c (.dma (gsS p))) ∗ (bigSep Finset.univ fun p : Fin 3 => fin O c (.dma (grS p)))
      ∗ bigSep Finset.univ fun x : Fin 6 × Fin 2 => fin O c (.dma (nS x)))
    ⊢ bigSep Finset.univ fun k : Fin 53 => fin O c (csem k) := by
  rw [cells_split]
  simp only [k_kv, k_s, k_r, k_gs, k_gr, k_n]
  exact Entails.rfl

/-- A cell that the kernel leaves alone has no round to come. -/
theorem fin_n (x : Fin 6 × Fin 2) : (atPos ER (dmaC c (nS x)) 0 ∅ 0 : sProp 𝕄) ⊢ fin O c (.dma (nS x)) := by
  unfold fin
  iintro H
  iexists 0
  isplitr
  · ipureintro; exact fun r _ => duties_none O c _ (use_n x) r
  iexact H

/-! ## The slots of the exchanges in their buffers -/

/-- The rows of a slot that the exchange does not use. -/
def zSet (p r : Fin 3) : Finset S3x3x192x1024.Idx := Finset.univ.filter fun i => (i 0).val = p.val ∧ (i 1).val = r.val ∧ ¬(i 2).val < hp p
def eBlk (x : (Fin 3 × Fin 3) × Fin 2) : Finset S3x3x192x1024.Idx := if x.2 = 0 then eSet x.1.1 x.1.2 else zSet x.1.1 x.1.2
/-- Which rows are in a slot's used rows, and which in its unused ones. -/
theorem eBlk_mem (x : (Fin 3 × Fin 3) × Fin 2) (i : S3x3x192x1024.Idx) : i ∈ eBlk x ↔ ((i 0).val = x.1.1.val ∧ (i 1).val = x.1.2.val ∧ (x.2 = 0 ↔ (i 2).val < hp x.1.1)) := by
  unfold eBlk
  split
  · rename_i h; unfold eSet; rw [Finset.mem_filter]; simp [h]
  · rename_i h; unfold zSet; rw [Finset.mem_filter]; simp [h]
/-- Different pieces of the slots share no row. -/
theorem eBlk_disj (x y : (Fin 3 × Fin 3) × Fin 2) (h : x ≠ y) : Disjoint (eBlk x) (eBlk y) :=
  Finset.disjoint_left.mpr fun i hi hi' => h (by
    rw [eBlk_mem] at hi hi'
    obtain ⟨⟨p, r⟩, j⟩ := x
    obtain ⟨⟨p', r'⟩, j'⟩ := y
    have e1 : p = p' := Fin.ext (hi.1.symm.trans hi'.1)
    have e2 : r = r' := Fin.ext (hi.2.1.symm.trans hi'.2.1)
    subst e1 e2
    have e3 : j = 0 ↔ j' = 0 := hi.2.2.trans hi'.2.2.symm
    have : j = j' := by clear hi hi' h; revert j j'; decide
    subst this; rfl)
/-- The pieces of the slots are the whole buffer. -/
theorem eBlk_cover : (Finset.univ.biUnion eBlk : Finset S3x3x192x1024.Idx) = Finset.univ := by
  ext i
  simp only [Finset.mem_biUnion, Finset.mem_univ, true_and, iff_true]
  refine ⟨((i 0, i 1), if (i 2).val < hp (i 0) then 0 else 1), (eBlk_mem _ _).mpr ⟨rfl, rfl, ?_⟩⟩
  dsimp only
  split <;> rename_i h <;> simp [h]

def rRest : sProp 𝕄 := bigSep Finset.univ fun x : Fin 3 × Fin 3 => iprop(∃ f : FVec F S3x3x192x1024 .bf16, ((c : Thread nD τ).loc cc0_scratch3) ↦[zSet x.1 x.2]{fullShare} f)
/-- The receive buffer, cut into its slots and the rows left aside. -/
theorem r_split (f : FVec F S3x3x192x1024 .bf16) :
    (((c : Thread nD τ).loc cc0_scratch3) ↦{fullShare} f : sProp 𝕄) ⊢ iprop((bigSep Finset.univ fun x : Fin 3 × Fin 3 => iprop(∃ f, rPts (F := F) c x.1 x.2 f)) ∗ rRest (F := F) c) := by
  have h := Ring.pointsTo_blocks (Val := Elt F) (Ix := Unit) (Name := ℕ) (U := UU) (Lvl := ℕ) (ℓ := (c : Thread nD τ).loc cc0_scratch3) eBlk eBlk_disj eBlk_cover (q := fullShare) f
  rw [h, bigSep_univ_prod]
  unfold rRest
  rw [← bigSep_sep']
  refine bigSep_mono fun x _ => ?_
  rw [bigSep_univ_eq_bigSepL [(0 : Fin 2), 1] (by decide) (by decide), bigSepL_cons_cons, bigSepL_singleton]
  unfold rPts
  show (iprop((((c : Thread nD τ).loc cc0_scratch3) ↦[eSet x.1 x.2]{fullShare} f) ∗ (((c : Thread nD τ).loc cc0_scratch3) ↦[zSet x.1 x.2]{fullShare} f)) : sProp 𝕄) ⊢ _
  iintro ⟨H1, H2⟩
  isplitl [H1]
  · iexists f; iexact H1
  iexists f; iexact H2
/-- The receive buffer, put together again. -/
theorem r_join (f : FVec F S3x3x192x1024 .bf16) :
    iprop((bigSep Finset.univ fun x : Fin 3 × Fin 3 => rPts (F := F) c x.1 x.2 f) ∗ rRest (F := F) c)
      ⊢ (iprop(∃ f : FVec F S3x3x192x1024 .bf16, ((c : Thread nD τ).loc cc0_scratch3) ↦{fullShare} f) : sProp 𝕄) := by
  have h := Ring.pointsTo_blocks_join_exists (Val := Elt F) (Ix := Unit) (Name := ℕ) (U := UU) (Lvl := ℕ) (ℓ := (c : Thread nD τ).loc cc0_scratch3) eBlk eBlk_disj eBlk_cover (q := fullShare) f
  refine BIBase.Entails.trans ?_ h
  rw [bigSep_univ_prod (fun x : (Fin 3 × Fin 3) × Fin 2 => iprop(∃ f : Buf (Elt F) ((c : Thread nD τ).loc cc0_scratch3), ((c : Thread nD τ).loc cc0_scratch3) ↦[eBlk x]{fullShare} f))]
  unfold rRest
  rw [← bigSep_sep']
  refine bigSep_mono fun x _ => ?_
  rw [bigSep_univ_eq_bigSepL [(0 : Fin 2), 1] (by decide) (by decide), bigSepL_cons_cons, bigSepL_singleton]
  unfold rPts
  show _ ⊢ (iprop((∃ f : FVec F S3x3x192x1024 .bf16, ((c : Thread nD τ).loc cc0_scratch3) ↦[eSet x.1 x.2]{fullShare} f) ∗ (∃ f : FVec F S3x3x192x1024 .bf16, ((c : Thread nD τ).loc cc0_scratch3) ↦[zSet x.1 x.2]{fullShare} f)) : sProp 𝕄)
  iintro ⟨H1, H2⟩
  isplitl [H1]
  · iexists f; iexact H1
  iexact H2

def tRest : sProp 𝕄 := bigSep Finset.univ fun x : Fin 3 × Fin 3 => iprop(∃ f : FVec F S3x3x192x1024 .bf16, ((c : Thread nD τ).loc cc0_scratch4) ↦[zSet x.1 x.2]{fullShare} f)
/-- The transmit buffer, cut into its slots and the rows left aside. -/
theorem t_split (f : FVec F S3x3x192x1024 .bf16) :
    (((c : Thread nD τ).loc cc0_scratch4) ↦{fullShare} f : sProp 𝕄) ⊢ iprop((bigSep Finset.univ fun x : Fin 3 × Fin 3 => iprop(∃ f, tPts (F := F) c x.1 x.2 f)) ∗ tRest (F := F) c) := by
  have h := Ring.pointsTo_blocks (Val := Elt F) (Ix := Unit) (Name := ℕ) (U := UU) (Lvl := ℕ) (ℓ := (c : Thread nD τ).loc cc0_scratch4) eBlk eBlk_disj eBlk_cover (q := fullShare) f
  rw [h, bigSep_univ_prod]
  unfold tRest
  rw [← bigSep_sep']
  refine bigSep_mono fun x _ => ?_
  rw [bigSep_univ_eq_bigSepL [(0 : Fin 2), 1] (by decide) (by decide), bigSepL_cons_cons, bigSepL_singleton]
  unfold tPts
  show (iprop((((c : Thread nD τ).loc cc0_scratch4) ↦[eSet x.1 x.2]{fullShare} f) ∗ (((c : Thread nD τ).loc cc0_scratch4) ↦[zSet x.1 x.2]{fullShare} f)) : sProp 𝕄) ⊢ _
  iintro ⟨H1, H2⟩
  isplitl [H1]
  · iexists f; iexact H1
  iexists f; iexact H2
/-- The transmit buffer, put together again. -/
theorem t_join (f : FVec F S3x3x192x1024 .bf16) :
    iprop((bigSep Finset.univ fun x : Fin 3 × Fin 3 => tPts (F := F) c x.1 x.2 f) ∗ tRest (F := F) c)
      ⊢ (iprop(∃ f : FVec F S3x3x192x1024 .bf16, ((c : Thread nD τ).loc cc0_scratch4) ↦{fullShare} f) : sProp 𝕄) := by
  have h := Ring.pointsTo_blocks_join_exists (Val := Elt F) (Ix := Unit) (Name := ℕ) (U := UU) (Lvl := ℕ) (ℓ := (c : Thread nD τ).loc cc0_scratch4) eBlk eBlk_disj eBlk_cover (q := fullShare) f
  refine BIBase.Entails.trans ?_ h
  rw [bigSep_univ_prod (fun x : (Fin 3 × Fin 3) × Fin 2 => iprop(∃ f : Buf (Elt F) ((c : Thread nD τ).loc cc0_scratch4), ((c : Thread nD τ).loc cc0_scratch4) ↦[eBlk x]{fullShare} f))]
  unfold tRest
  rw [← bigSep_sep']
  refine bigSep_mono fun x _ => ?_
  rw [bigSep_univ_eq_bigSepL [(0 : Fin 2), 1] (by decide) (by decide), bigSepL_cons_cons, bigSepL_singleton]
  unfold tPts
  show _ ⊢ (iprop((∃ f : FVec F S3x3x192x1024 .bf16, ((c : Thread nD τ).loc cc0_scratch4) ↦[eSet x.1 x.2]{fullShare} f) ∗ (∃ f : FVec F S3x3x192x1024 .bf16, ((c : Thread nD τ).loc cc0_scratch4) ↦[zSet x.1 x.2]{fullShare} f)) : sProp 𝕄)
  iintro ⟨H1, H2⟩
  isplitl [H1]
  · iexists f; iexact H1
  iexact H2

/-- The exchanges and the gathering done: the cells, the slots, the buffer gathered into. -/
theorem X_end : X O c (fun _ => 4) ⊢ iprop((bigSep Finset.univ fun x : Fin 3 × Fin 3 => fin O c (.dma (sS x.1 x.2))) ∗ (bigSep Finset.univ fun x : Fin 3 × Fin 3 => tPts c x.1 x.2 (TX O c))
    ∗ (bigSep Finset.univ fun x : Fin 3 × Fin 3 => fin O c (.dma (rS x.1 x.2))) ∗ (bigSep Finset.univ fun x : Fin 3 × Fin 3 => rPts c x.1 x.2 (RS O c))) := by
  unfold X
  rw [← bigSep_sep', ← bigSep_sep', ← bigSep_sep']
  exact bigSep_mono fun x _ => Entails.of_eq (xSlot_4 O c x.1 x.2)
/-- The gatherings done: their cells closed, and the buffer whole. -/
theorem GA_end : GA O c (fun _ => 4) ⊢ iprop((bigSep Finset.univ fun p : Fin 3 => fin O c (.dma (gsS p))) ∗ (bigSep Finset.univ fun p : Fin 3 => fin O c (.dma (grS p)))
    ∗ (((c : Thread nD τ).loc cc0_scratch5) ↦{fullShare} (AG O c))) := by
  rw [GA_list, g_blocks c fullShare (AG O c), gSlot_4, gSlot_4, gSlot_4]
  simp only [bigSep_univ_eq_bigSepL [(0 : Fin 3), 1, 2] (by decide) (by decide), bigSepL_cons_cons, bigSepL_singleton]
  show _ ⊢ iprop((fin O c (.dma (gsS 0)) ∗ fin O c (.dma (gsS 1)) ∗ fin O c (.dma (gsS 2))) ∗ (fin O c (.dma (grS 0)) ∗ fin O c (.dma (grS 1)) ∗ fin O c (.dma (grS 2))) ∗ _)
  iintro ⟨⟨A1, A2, A3, A4, A5⟩, ⟨B1, B2, B3, B4, B5⟩, ⟨C1, C2, C3, C4, C5⟩⟩
  ihave A := (g_half c (ko 0 c) (hp 0) (AG O c)).2 $$ [A2 A3]
  · iframe A2 A3
  ihave B := (g_half c (ko 1 c) (hp 1) (AG O c)).2 $$ [B2 B3]
  · iframe B2 B3
  ihave C := (g_half c (ko 2 c) (hp 2) (AG O c)).2 $$ [C2 C3]
  · iframe C2 C3
  iframe A1 B1 C1 A4 B4 C4 A A5 B B5 C C5

end Cert.KernelProof

end
-- ==== Proof.Launch.lean ====
/- # The launch: from a device's buffers and semaphores to the body and back, and the run of the mesh -/
module

public import proofs.«01_k».proof.Proof.Pieces
public import proofs.«01_k».proof.Proof.Gen.KernelIdeal.Points
public import Idealize.ShloMosaic.Lib.Pipeline.CollectiveSegs

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The launch's machine: memory `m`, every counter at zero. -/
abbrev s₀ : MemSt nD τ sig (Elt F) := ⟨m, fun _ => 0, ρ⟩

/-- A device's operands. -/
def OO (c : Dev nD) : Ops F where
  x := (win0_0.blk (0 : Fin 1)).view.read (Elt F) (m ((c : Thread nD τ).loc main_arg0))
  wq := (win0_1.blk (0 : Fin 1)).view.read (Elt F) (m ((c : Thread nD τ).loc main_arg1))
  k := m ((c : Thread nD τ).loc main_arg2)
  v := m ((c : Thread nD τ).loc main_arg3)
  wo := (win0_2.blk (0 : Fin 1)).view.read (Elt F) (m ((c : Thread nD τ).loc main_arg4))

/-! ## What a device starts from -/

/-- The tokens a device pays with. -/
def payToks (c : Dev nD) : sProp 𝕄 :=
  iprop((bigSep Finset.univ fun d : Fin 3 => dutyTok ER (barC (px d c)) 0 d)
    ∗ (bigSep Finset.univ fun kh : Fin 2 × Fin 8 => dutyTok ER (dmaC c (kvS kh.1 kh.2)) 0 0)
    ∗ (bigSep Finset.univ fun x : Fin 3 × Fin 3 => dutyTok ER (dmaC c (sS x.1 x.2)) 0 0)
    ∗ (bigSep Finset.univ fun x : Fin 3 × Fin 3 => dutyTok ER (dmaC (pr x.1 x.2 c) (rS x.1 x.2)) 0 0)
    ∗ (bigSep Finset.univ fun p : Fin 3 => dutyTok ER (dmaC c (gsS p)) 0 0)
    ∗ (bigSep Finset.univ fun p : Fin 3 => dutyTok ER (dmaC (pr p 0 c) (grS p)) 0 0))

def ats (c : Dev nD) : sProp 𝕄 := bigSep Finset.univ fun k : Fin 53 => atPos ER (kcell (c, k)) 0 ∅ 0

/-- The credit a device is launched with: its waits at the barrier and for what it receives. -/
def crs (c : Dev nD) : sProp 𝕄 :=
  iprop(cred (tallyAt (barC c) () 3) ∗ (bigSep Finset.univ fun x : Fin 3 × Fin 3 => cred (tallyAt (dmaC c (rS x.1 x.2)) () (ne x.1)))
    ∗ bigSep Finset.univ fun p : Fin 3 => cred (tallyAt (dmaC c (grS p)) () (ne p)))

/-- A share of the operand of keys for each of its copies, and of values. -/
def srcs (c : Dev nD) : sProp 𝕄 :=
  iprop((bigSep Finset.univ fun h : Fin 8 => iprop(∃ q, ((c : Thread nD τ).loc main_arg2) ↦{q} (OO m c).k))
    ∗ bigSep Finset.univ fun h : Fin 8 => iprop(∃ q, ((c : Thread nD τ).loc main_arg3) ↦{q} (OO m c).v))

def start (c : Dev nD) : sProp 𝕄 :=
  iprop(recs (OO m) ∗ levAts L lv ∗ ats c ∗ payToks c ∗ crs c ∗ srcs m c)

/-- The scratch buffers, each whole at some contents. -/
def scr (c : Dev nD) : sProp 𝕄 :=
  iprop((∃ f : FVec F S1024x1024 .f32, accP c f) ∗ (∃ f : FVec F S8x1024x128 .f32, kP c f) ∗ (∃ f : FVec F S8x1024x128 .f32, vP c f)
    ∗ (∃ f : FVec F S3x3x192x1024 .bf16, ((c : Thread nD τ).loc cc0_scratch3) ↦{fullShare} f)
    ∗ (∃ f : FVec F S3x3x192x1024 .bf16, ((c : Thread nD τ).loc cc0_scratch4) ↦{fullShare} f)
    ∗ (∃ f : FVec F S1024x1024 .bf16, ((c : Thread nD τ).loc cc0_scratch5) ↦{fullShare} f))

def Φ₀ (c : Dev nD) : sProp 𝕄 := iprop(start m c ∗ scr (F := F) c)
/-- After the body: the scratch buffers, and every semaphore of the kernel at zero. -/
def Φ₁ (c : Dev nD) : sProp 𝕄 := iprop(scr (F := F) c ∗ bigSep Finset.univ fun k : Fin 53 => semVal (kcell (c, k)) 0)

/-- A conjunction over two. -/
theorem bs2 (Φ : Fin 2 → sProp 𝕄) : bigSep Finset.univ Φ = iprop(Φ 0 ∗ Φ 1) := bigSep_univ_eq_bigSepL [0, 1] (by decide) (by decide) Φ
/-- A conjunction over three. -/
theorem bs3 (Φ : Fin 3 → sProp 𝕄) : bigSep Finset.univ Φ = iprop(Φ 0 ∗ Φ 1 ∗ Φ 2) := bigSep_univ_eq_bigSepL [0, 1, 2] (by decide) (by decide) Φ

/-- The body's slots, from the pieces. -/
theorem KV_start (c : Dev nD) : iprop((bigSep Finset.univ fun kh : Fin 2 × Fin 8 => dutyTok ER (dmaC c (kvS kh.1 kh.2)) 0 0)
      ∗ (bigSep Finset.univ fun kh : Fin 2 × Fin 8 => atPos ER (dmaC c (kvS kh.1 kh.2)) 0 ∅ 0) ∗ (∃ f : FVec F S8x1024x128 .f32, kP c f) ∗ (∃ f : FVec F S8x1024x128 .f32, vP c f)
      ∗ srcs m c) ⊢ KV (OO m) c (fun _ => 0) := by
  unfold KV srcs kP vP
  iintro ⟨H1, H2, ⟨%fk, H3⟩, ⟨%fv, H4⟩, H5, H6⟩
  ihave H3 := (Entails.of_eq (k_blocks c fk)) $$ H3
  ihave H4 := (Entails.of_eq (v_blocks c fv)) $$ H4
  iapply (show iprop((bigSep Finset.univ fun kh : Fin 2 × Fin 8 => dutyTok ER (dmaC c (kvS kh.1 kh.2)) 0 0)
      ∗ (bigSep Finset.univ fun kh : Fin 2 × Fin 8 => atPos ER (dmaC c (kvS kh.1 kh.2)) 0 ∅ 0) ∗ ((bigSep Finset.univ fun h : Fin 8 => kPts c h fk) ∗ (bigSep Finset.univ fun h : Fin 8 => vPts c h fv))
      ∗ ((bigSep Finset.univ fun h : Fin 8 => iprop(∃ q, ((c : Thread nD τ).loc main_arg2) ↦{q} (OO m c).k))
    ∗ bigSep Finset.univ fun h : Fin 8 => iprop(∃ q, ((c : Thread nD τ).loc main_arg3) ↦{q} (OO m c).v))) ⊢ bigSep Finset.univ fun kh : Fin 2 × Fin 8 => kvSlot (OO m) c kh 0 from by
    simp only [bigSep_univ_prod, bs2]
    refine BIBase.Entails.trans (Q := iprop((bigSep Finset.univ fun h : Fin 8 => iprop(dutyTok ER (dmaC c (kvS 0 h)) 0 0 ∗ atPos ER (dmaC c (kvS 0 h)) 0 ∅ 0 ∗ kPts c h fk ∗ (∃ q, ((c : Thread nD τ).loc main_arg2) ↦{q} (OO m c).k)))
      ∗ (bigSep Finset.univ fun h : Fin 8 => iprop(dutyTok ER (dmaC c (kvS 1 h)) 0 0 ∗ atPos ER (dmaC c (kvS 1 h)) 0 ∅ 0 ∗ vPts c h fv ∗ (∃ q, ((c : Thread nD τ).loc main_arg3) ↦{q} (OO m c).v))))) ?_ ?_
    · simp only [bigSep_sep']
      iintro ⟨⟨A1, B1⟩, ⟨A2, B2⟩, ⟨A3, B3⟩, ⟨A4, B4⟩⟩
      iframe A1 A2 A3 A4 B1 B2 B3 B4
    · refine BIBase.Entails.trans (sep_mono_left (bigSep_mono fun h _ => ?_)) (sep_mono_right (bigSep_mono fun h _ => ?_))
      · rw [kvSlot_k0]
        show (_ : sProp 𝕄) ⊢ (_ : sProp 𝕄)
        iintro ⟨A1, A2, A3, A4⟩
        iframe A1 A2 A4
        iexists fk; iexact A3
      · rw [kvSlot_v0]
        show (_ : sProp 𝕄) ⊢ (_ : sProp 𝕄)
        iintro ⟨A1, A2, A3, A4⟩
        iframe A1 A2 A4
        iexists fv; iexact A3)
  isplitl [H1]; · iexact H1
  isplitl [H2]; · iexact H2
  isplitl [H3 H4]
  · isplitl [H3] <;> iassumption
  isplitl [H5] <;> iassumption

/-- The exchanges as they are before the handshake, from the tokens, positions, credits and transmit slots. -/
theorem x0s (c : Dev nD) : iprop((bigSep Finset.univ fun x : Fin 3 × Fin 3 => dutyTok ER (dmaC c (sS x.1 x.2)) 0 0)
    ∗ (bigSep Finset.univ fun x : Fin 3 × Fin 3 => dutyTok ER (dmaC (pr x.1 x.2 c) (rS x.1 x.2)) 0 0)
    ∗ (bigSep Finset.univ fun x : Fin 3 × Fin 3 => iprop(∃ f, tPts (F := F) c x.1 x.2 f))
    ∗ (bigSep Finset.univ fun x : Fin 3 × Fin 3 => atPos ER (dmaC c (sS x.1 x.2)) 0 ∅ 0) ∗ (bigSep Finset.univ fun x : Fin 3 × Fin 3 => atPos ER (dmaC c (rS x.1 x.2)) 0 ∅ 0)
    ∗ (bigSep Finset.univ fun x : Fin 3 × Fin 3 => cred (tallyAt (dmaC c (rS x.1 x.2)) () (ne x.1))))
    ⊢ (bigSep Finset.univ fun p : Fin 3 => bigSep Finset.univ fun r : Fin 3 => x0 (F := F) c p r) := by
  rw [← bigSep_univ_prod (fun x : Fin 3 × Fin 3 => x0 (F := F) c x.1 x.2)]
  unfold x0
  simp only [bigSep_sep']
  exact Entails.rfl

/-- The gatherings as they are before the handshake, from the tokens, positions, credits and kept halves. -/
theorem g0s (c : Dev nD) : iprop((bigSep Finset.univ fun p : Fin 3 => dutyTok ER (dmaC c (gsS p)) 0 0)
    ∗ (bigSep Finset.univ fun p : Fin 3 => dutyTok ER (dmaC (pr p 0 c) (grS p)) 0 0)
    ∗ (bigSep Finset.univ fun p : Fin 3 => iprop(∃ f, gPts (F := F) c (ko p c) (hp p) fullShare f))
    ∗ (bigSep Finset.univ fun p : Fin 3 => atPos ER (dmaC c (gsS p)) 0 ∅ 0) ∗ (bigSep Finset.univ fun p : Fin 3 => atPos ER (dmaC c (grS p)) 0 ∅ 0)
    ∗ (bigSep Finset.univ fun p : Fin 3 => cred (tallyAt (dmaC c (grS p)) () (ne p))))
    ⊢ (bigSep Finset.univ fun p : Fin 3 => g0 (F := F) c p) := by
  unfold g0
  simp only [bigSep_sep']
  exact Entails.rfl

/-- What a device hands its partner at a mask: its own slots. -/
theorem barPay_own (c : Dev nD) (d : Fin 3) : (barPay (F := F) (px d c) d : sProp 𝕄) = iprop((∃ f, rPts (F := F) c 0 (rd 0 d) f) ∗ (∃ f, rPts (F := F) c 1 (rd 1 d) f) ∗ (∃ f, rPts (F := F) c 2 (rd 2 d) f)
    ∗ (∃ f, gPts (F := F) c (so (pa d) c) (hp (pa d)) fullShare f)) := by
  unfold barPay; rw [px_px]

/-- The three signals of the handshake, from the tokens and the device's own slots and halves. -/
theorem bars (c : Dev nD) : iprop((bigSep Finset.univ fun d : Fin 3 => dutyTok ER (barC (px d c)) 0 d)
    ∗ (bigSep Finset.univ fun x : Fin 3 × Fin 3 => iprop(∃ f, rPts (F := F) c x.1 x.2 f))
    ∗ (bigSep Finset.univ fun p : Fin 3 => iprop(∃ f, gPts (F := F) c (so p c) (hp p) fullShare f)))
    ⊢ iprop(barT (F := F) c 0 ∗ barT (F := F) c 1 ∗ barT (F := F) c 2) := by
  unfold barT
  rw [barPay_own, barPay_own, barPay_own]
  simp only [bigSep_univ_prod, bs3]
  rw [show rd 0 0 = 2 from rfl, show rd 1 0 = 1 from rfl, show rd 2 0 = 0 from rfl, show rd 0 1 = 1 from rfl, show rd 1 1 = 0 from rfl, show rd 2 1 = 2 from rfl,
    show rd 0 2 = 0 from rfl, show rd 1 2 = 2 from rfl, show rd 2 2 = 1 from rfl, show pa 0 = 2 from rfl, show pa 1 = 1 from rfl, show pa 2 = 0 from rfl]
  iintro ⟨⟨T0, T1, T2⟩, ⟨⟨R00, R01, R02⟩, ⟨R10, R11, R12⟩, ⟨R20, R21, R22⟩⟩, ⟨G0, G1, G2⟩⟩
  iframe T0 T1 T2 R00 R01 R02 R10 R11 R12 R20 R21 R22 G0 G1 G2

/-- The buffer gathered into, cut into the halves kept and the halves to be filled by partners. -/
theorem g_split (c : Dev nD) (f : FVec F S1024x1024 .bf16) : (((c : Thread nD τ).loc cc0_scratch5) ↦{fullShare} f : sProp 𝕄)
    ⊢ iprop((bigSep Finset.univ fun p : Fin 3 => iprop(∃ f, gPts (F := F) c (ko p c) (hp p) fullShare f)) ∗ (bigSep Finset.univ fun p : Fin 3 => iprop(∃ f, gPts (F := F) c (so p c) (hp p) fullShare f))) := by
  rw [g_blocks]
  simp only [bs3]
  iintro ⟨⟨A1, A2⟩, ⟨B1, B2⟩, ⟨C1, C2⟩⟩
  isplitl [A1 B1 C1]
  · isplitl [A1]; · iexists f; iexact A1
    isplitl [B1]; · iexists f; iexact B1
    iexists f; iexact C1
  · isplitl [A2]; · iexists f; iexact A2
    isplitl [B2]; · iexists f; iexact B2
    iexists f; iexact C2

/-- A device's positions, use by use of its semaphores. -/
theorem ats_split (c : Dev nD) : (ats (F := F) c : sProp 𝕄) = iprop(atPos ER (barC c) 0 ∅ 0 ∗ (bigSep Finset.univ fun x : Fin 2 × Fin 8 => atPos ER (dmaC c (kvS x.1 x.2)) 0 ∅ 0) ∗ (bigSep Finset.univ fun x : Fin 3 × Fin 3 => atPos ER (dmaC c (sS x.1 x.2)) 0 ∅ 0) ∗ (bigSep Finset.univ fun x : Fin 3 × Fin 3 => atPos ER (dmaC c (rS x.1 x.2)) 0 ∅ 0)
      ∗ (bigSep Finset.univ fun p : Fin 3 => atPos ER (dmaC c (gsS p)) 0 ∅ 0) ∗ (bigSep Finset.univ fun p : Fin 3 => atPos ER (dmaC c (grS p)) 0 ∅ 0) ∗ bigSep Finset.univ fun x : Fin 6 × Fin 2 => atPos ER (dmaC c (nS x)) 0 ∅ 0) := by
  unfold ats
  rw [cells_split]
  simp only [kcell, k_kv, k_s, k_r, k_gs, k_gr, k_n]
  rfl

/-- What the body leaves aside. -/
def aside (c : Dev nD) : sProp 𝕄 := iprop(rRest (F := F) c ∗ tRest (F := F) c ∗ bigSep Finset.univ fun x : Fin 6 × Fin 2 => fin (OO m) c (.dma (nS x)))

/-- From what a device starts with to what the body runs from. -/
theorem enter (c : Dev nD) (fo : FVec F S1x1024x1024 .f32) : iprop(Φ₀ m c ∗ xP c (OO m c).x ∗ qP c (OO m c).wq ∗ wP c (OO m c).wo ∗ oP c fo ∗ ow c plan)
    ⊢ iprop(∃ fa, bodyIn (OO m) c fo fa ∗ aside m c ∗ recs (OO m)) := by
  unfold Φ₀ start scr crs payToks bodyIn XG0
  rw [ats_split]
  iintro ⟨⟨⟨#HR, #HL, ⟨A0, A1, A2, A3, A4, A5, A6⟩, ⟨T0, T1, T2, T3, T4, T5⟩, ⟨C0, C1, C2⟩, HS⟩, ⟨⟨%fa, Ha⟩, Hk, Hv, ⟨%fr, Hr⟩, ⟨%ft, Ht⟩, ⟨%fg, Hg⟩⟩⟩, Hx, Hq, Hw, Ho, HO⟩
  ihave Hr := (r_split c fr) $$ Hr
  ihave Ht := (t_split c ft) $$ Ht
  ihave Hg := (g_split c fg) $$ Hg
  icases Hr with ⟨Hr, Hr'⟩
  icases Ht with ⟨Ht, Ht'⟩
  icases Hg with ⟨Hg, Hg'⟩
  ihave Hkv := (KV_start m c) $$ [T1 A1 Hk Hv HS]
  · iframe T1 A1 Hk Hv HS
  ihave HX := (x0s (F := F) c) $$ [T2 T3 Ht A2 A3 C1]
  · iframe T2 T3 Ht A2 A3 C1
  ihave HG := (g0s (F := F) c) $$ [T4 T5 Hg A4 A5 C2]
  · iframe T4 T5 Hg A4 A5 C2
  ihave HB := (bars (F := F) c) $$ [T0 Hr Hg']
  · iframe T0 Hr Hg'
  icases HB with ⟨HB0, HB1, HB2⟩
  iexists fa
  isplitr [A6 Hr' Ht']
  · iframe HR HL Hx Hq Hw Ho Ha Hkv HX HG HB0 HB1 HB2 C0 A0 HO
  isplitr []
  · unfold aside
    iframe Hr' Ht'
    iapply (show (bigSep Finset.univ fun x : Fin 6 × Fin 2 => (atPos ER (dmaC c (nS x)) 0 ∅ 0 : sProp 𝕄)) ⊢ bigSep Finset.univ fun x : Fin 6 × Fin 2 => fin (OO m) c (.dma (nS x)) from bigSep_mono fun x _ => fin_n (OO m) c x)
    iexact A6
  iexact HR

/-- From what the body leaves to what a device ends with: scratch, windows and counters at zero. -/
theorem leave (c : Dev nD) : iprop(recs (OO m) ∗ aside m c ∗ bodyOut (OO m) c)
    ⊢ |={Set.univ}=> iprop(Φ₁ (F := F) c ∗ xP c (OO m c).x ∗ qP c (OO m c).wq ∗ wP c (OO m c).wo ∗ oP c (OUT (OO m) c) ∗ ow c []) := by
  unfold aside bodyOut Φ₁ scr
  iintro ⟨#HR, ⟨Hr', Ht', Hn⟩, Hx, Hq, Hw, Ho, Ha, Hkf, Hk, Hv, HX, HG, Hb, HO⟩
  ihave HX := (X_end (OO m) c) $$ HX
  icases HX with ⟨Hsf, Ht, Hrf, Hr⟩
  ihave HG := (GA_end (OO m) c) $$ HG
  icases HG with ⟨Hgs, Hgr, Hg⟩
  ihave Hr := (r_join c (RS (OO m) c)) $$ [Hr Hr']
  · iframe Hr Hr'
  ihave Ht := (t_join c (TX (OO m) c)) $$ [Ht Ht']
  · iframe Ht Ht'
  ihave Hf := (fins (OO m) c) $$ [Hb Hkf Hsf Hrf Hgs Hgr Hn]
  · iframe Hb Hkf Hsf Hrf Hgs Hgr Hn
  imod (closeAll (OO m) c) $$ [Hf] with Hz
  · isplitr; · iexact HR
    iexact Hf
  imodintro
  iframe Hx Hq Hw Ho HO Hz Hr Ht
  isplitl [Ha]; · iexists _; iexact Ha
  isplitl [Hk]; · iexists _; iexact Hk
  isplitl [Hv]; · iexists _; iexact Hv
  iexists _; iexact Hg

/-! ## The pipeline's proof data and the body's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (OO m c).x
    | ⟨1, _⟩ => (OO m c).wq
    | ⟨2, _⟩ => (OO m c).wo
    | ⟨3, _⟩ => OUT (OO m) c
  Φ t := match t with
    | ⟨0, _⟩ => Φ₀ m c
    | ⟨_ + 1, _⟩ => Φ₁ (F := F) c
  q _ := fullShare
  owed t := match t with
    | ⟨0, _⟩ => oweL c plan
    | ⟨_ + 1, _⟩ => 0

/-- Owning a whole buffer through a reference is owning it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def pre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def post (c : Dev nD) : sProp 𝕄 :=
  iprop(Φ₁ (F := F) c ∗ (dats m ρ 0 c).owesAt () t₀.succ ∗ stg c cc0_stg0_0 (OO m c).x ∗ stg c cc0_stg1_0 (OO m c).wq ∗ stg c cc0_stg2_0 (OO m c).wo
    ∗ stg c cc0_stg3_0 (OUT (OO m) c))

/-- The body finds the activations in its first window. -/
theorem before_0 (c : Dev nD) (d) : (dats m ρ 0 c).before (0 : Fin 4) t₀ d = (OO m c).x := by
  unfold Dat.before; rw [if_pos (fetch0_0 t₀)]; rfl
/-- The body finds the query weights in its second window. -/
theorem before_1 (c : Dev nD) (d) : (dats m ρ 0 c).before (1 : Fin 4) t₀ d = (OO m c).wq := by
  unfold Dat.before; rw [if_pos (fetch0_1 t₀)]; rfl
/-- The body finds the output weights in its third window. -/
theorem before_2 (c : Dev nD) (d) : (dats m ρ 0 c).before (2 : Fin 4) t₀ d = (OO m c).wo := by
  unfold Dat.before; rw [if_pos (fetch0_2 t₀)]; rfl

/-- The body, run at the kernel's own references, takes what precedes it to what follows it. -/
theorem sound (c : Dev nD) : pre m ρ c ⊢ wpc c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => post m ρ c) := by
  unfold pre
  iintro ⟨HΦ, Ho, ⟨%d0, %g0, %h0, H0⟩, ⟨%d1, %g1, %h1, H1⟩, ⟨%d2, %g2, %h2, H2⟩, ⟨%d3, %g3, %h3, H3⟩⟩
  have e0 := h0.trans (before_0 m ρ c d0)
  have e1 := h1.trans (before_1 m ρ c d1)
  have e2 := h2.trans (before_2 m ρ c d2)
  subst e0 e1 e2
  unfold Dat.owesAt Pipeline.owesWithin
  icases Ho with ⟨%W, %hW, HO⟩
  ihave H := (enter m c g3) $$ [HΦ H0 H1 H2 H3 HO]
  · iframe HΦ H0 H1 H2 H3
    unfold ow; iexists W; iexact HO
  icases H with ⟨%fa, HB, HA, #HR⟩
  ihave HW := (run_body (OO m) c (Q := fun _ => iprop(|={Set.univ}=> post m ρ c)) g3 fa) $$ HB
  iapply (wp_fupd frame (wpE (defs₀ (F := F)) 𝒱₀ (c : Thread nD τ) none) Set.univ _ _)
  iapply HW
  iintro HB
  imod (leave m c) $$ [HA HB] with ⟨HΦ, Hx, Hq, Hw, Ho, HO⟩
  · iframe HR HA HB
  imodintro
  unfold post Dat.owesAt Pipeline.owesWithin
  rw [show (dats m ρ 0 c).owed t₀.succ = 0 from rfl]
  iframe HΦ
  isplitl [HO]
  · unfold ow
    icases HO with ⟨%W', HO⟩
    iexists W'
    isplitr; · ipureintro; exact fun _ _ => Or.inl trivial
    iexact HO
  isplitl [Hx]; · iexists _; isplitr; · (ipureintro; rfl)
                  iexact Hx
  isplitl [Hq]; · iexists _; isplitr; · (ipureintro; rfl)
                  iexact Hq
  isplitl [Hw]; · iexists _; isplitr; · (ipureintro; rfl)
                  iexact Hw
  iexists _; isplitr; · (ipureintro; rfl)
  iexact Ho

set_option maxRecDepth 8000 in
/-- The body meets the pipeline's obligation. -/
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_whole_eq]
  show pre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => post m ρ c)
  exact sound m ρ c

end Cert.KernelProof

end
-- ==== Proof.RunMain.lean ====
/- # The run of the mesh -/
module

public import proofs.«01_k».proof.Proof.Launch

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and their tokens -/

/-- The kernel's own semaphores. -/
abbrev osem (k : Fin 52) : SemLoc sig := .dma ⟨4 + k.val, by have := k.isLt; show _ < 56; omega⟩

/-- The kernel's own semaphores are distinct, and none belongs to a window. -/
theorem ownSemFacts : Pipeline.OwnSemFacts cfg0.spec osem := by decide +kernel

/-- Different cells of a device have different semaphores. -/
theorem csem_inj : Function.Injective csem := by decide +kernel
/-- Different cells have different semaphores or devices. -/
theorem kcell_inj : Function.Injective (kcell : Dev nD × Fin 53 → GSem nD τ sig) := by
  rintro ⟨c, k⟩ ⟨c', k'⟩ h
  have h1 : c = c' := congrArg (fun g : GSem nD τ sig => g.1.1) h
  have h2 : k = k' := csem_inj (congrArg Prod.snd h)
  rw [h1, h2]
def cells : Finset (GSem nD τ sig) := Finset.univ.map ⟨kcell, kcell_inj⟩

abbrev tokOf (x : (Dev nD × Fin 53) × Fin 3) : GSem nD τ sig × ℕ × Fin 3 := (kcell x.1, 0, x.2)
/-- Different tokens belong to different cells or partners. -/
theorem tokOf_inj : Function.Injective tokOf := by
  rintro ⟨ck, d⟩ ⟨ck', d'⟩ h
  have h1 : ck = ck' := kcell_inj (congrArg Prod.fst h)
  have h2 : d = d' := congrArg (fun x : GSem nD τ sig × ℕ × Fin 3 => x.2.2) h
  rw [h1, h2]
def tokens : Finset (GSem nD τ sig × ℕ × Fin 3) := Finset.univ.map ⟨tokOf, tokOf_inj⟩

def u₀ : UU :=
  (initOf (Pipeline.cells cfgs cellOf_inj) (Pipeline.launchToks cfgs cellOf_inj), initOf cells tokens)

def toks (c : Dev nD) : sProp 𝕄 := bigSep Finset.univ fun k : Fin 53 => bigSep Finset.univ fun d : Fin 3 => dutyTok ER (kcell (c, k)) 0 d

/-- What the launch deals device `c`: its cells' states, its positions, its cells' tokens. -/
def G (c : Dev nD) : sProp 𝕄 :=
  iprop((bigSep Finset.univ fun k : Fin 53 => roundState ER (Rd (OO m)) (kcell (c, k)) 0)
    ∗ (bigSep Finset.univ fun k : Fin 53 => iprop(atPos ER (kcell (c, k)) 0 ∅ 0 ∗ reached ER (kcell (c, k)) 0)) ∗ toks (F := F) c)
/-- What is made of it: every cell's record, the device's positions and the tokens it pays with. -/
def G' (c : Dev nD) : sProp 𝕄 := iprop(recs (OO m) ∗ ats (F := F) c ∗ payToks (F := F) c)

/-- The launch's ghost state gives every device its cells, positions and tokens. -/
theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Fin 53 => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks (F := F) c := by
    unfold tokens; rw [bigSep_map, bigSep_univ_prod, bigSep_univ_prod]; rfl
  iintro HX
  imod (Rounds.fund ER (Rd (OO m)) cells tokens) $$ HX with ⟨Hst, Hr, Hat, Htok⟩
  imodintro
  ihave Hst' := (Entails.of_eq (hX fun g => roundState ER (Rd (OO m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own counters at zero, one by one. -/
theorem ownSems0_eq (c : Dev nD) : (Pipeline.ownSems0 (Ix := Unit) (Name := ℕ) (U := UU) (Lvl := ℕ) (Val := Elt F) (τ := τ) osem c : sProp 𝕄)
    = bigSep Finset.univ fun k : Fin 52 => semVal ((c : Thread nD τ), osem k) 0 := rfl
/-- The one counter outside the kernel's own: the barrier's, at zero. -/
theorem unscopedSems0_eq (c : Dev nD) : (unscopedSems0 c : sProp 𝕄) = semVal (barC c) 0 := by
  unfold unscopedSems0; rw [bigSep_eq_bigSepL_of_eq [SemLoc.reg barS] (by decide) (by decide)]; rfl

def k53 : Fin 52 ⊕ Unit → Fin 53
  | .inl k => ⟨k.val, by have := k.isLt; omega⟩
  | .inr _ => 52
/-- The kernel's own semaphores and the barrier's are all the cells. -/
theorem k53_bij : Function.Bijective k53 := by decide +kernel
/-- The first 52 cells are the kernel's own semaphores. -/
theorem k53_l (k : Fin 52) : csem (k53 (.inl k)) = osem k := by revert k; decide +kernel
/-- All of a device's counters at zero are its own semaphores' and the barrier's. -/
theorem sems_eq (c : Dev nD) : (bigSep Finset.univ fun k : Fin 53 => semVal (kcell (c, k)) 0 : sProp 𝕄)
    = iprop(Pipeline.ownSems0 (Ix := Unit) (Name := ℕ) (U := UU) (Lvl := ℕ) (Val := Elt F) (τ := τ) osem c ∗ unscopedSems0 c) := by
  rw [ownSems0_eq, unscopedSems0_eq, bigSep_univ_equiv (Equiv.ofBijective k53 k53_bij), bigSep_sum, bigSep_univ_eq_bigSepL [()] (by decide) (by decide), bigSepL_singleton]
  simp only [Equiv.ofBijective_apply, kcell, k53_l]
  rfl

/-- A device's counters at zero become its cells' invariants, with its positions and tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (OO m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems_eq (F := F) c).symm) $$ [Hos Hus]
  · isplitl [Hos] <;> iassumption
  imod (show iprop((bigSep Finset.univ fun k : Fin 53 => semVal (kcell (c, k)) 0) ∗ bigSep Finset.univ fun k : Fin 53 => roundState ER (Rd (OO m)) (kcell (c, k)) 0)
      ⊢ (|={Set.univ}=> bigSep Finset.univ fun k => iprop(∃ κ : ℕ, cellInv ER (Rd (OO m)) κ (kcell (c, k))) : sProp 𝕄) from by
        rw [← bigSep_sep']
        exact (bigSep_mono fun k _ => (Rounds.body_intro ER (Rd (OO m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt over the mesh -/

/-- Dealing by partners: what is for a device's partner, over all devices, is what is for the device. -/
theorem deal {J : Type} [Fintype J] (e : J → Dev nD → Dev nD) (he : ∀ x, Function.Involutive (e x)) (Φ : Dev nD → J → sProp 𝕄) :
    (bigSep Finset.univ fun c : Dev nD => bigSep Finset.univ fun x : J => Φ c x) = bigSep Finset.univ fun c : Dev nD => bigSep Finset.univ fun x : J => Φ (e x c) x := by
  rw [← bigSep_univ_prod (fun y : Dev nD × J => Φ y.1 y.2), ← bigSep_univ_prod (fun y : Dev nD × J => Φ (e y.2 y.1) y.2),
    bigSep_univ_equiv (⟨fun y => (e y.2 y.1, y.2), fun y => (e y.2 y.1, y.2), fun y => by simp [he y.2 y.1], fun y => by simp [he y.2 y.1]⟩ : Dev nD × J ≃ Dev nD × J)]
  rfl

/-- Taking the partner twice gives the device. -/
theorem px_inv (k : Fin 3) : Function.Involutive (px k) := px_px k

/-- The tokens of a device's own cells. -/
def ownToks (c : Dev nD) : sProp 𝕄 :=
  iprop((bigSep Finset.univ fun d : Fin 3 => dutyTok ER (barC c) 0 d)
    ∗ (bigSep Finset.univ fun kh : Fin 2 × Fin 8 => dutyTok ER (dmaC c (kvS kh.1 kh.2)) 0 0)
    ∗ (bigSep Finset.univ fun x : Fin 3 × Fin 3 => dutyTok ER (dmaC c (sS x.1 x.2)) 0 0)
    ∗ (bigSep Finset.univ fun x : Fin 3 × Fin 3 => dutyTok ER (dmaC c (rS x.1 x.2)) 0 0)
    ∗ (bigSep Finset.univ fun p : Fin 3 => dutyTok ER (dmaC c (gsS p)) 0 0)
    ∗ (bigSep Finset.univ fun p : Fin 3 => dutyTok ER (dmaC c (grS p)) 0 0))

/-- Of a copy's tokens only one is needed. -/
theorem tok0 (c : Dev nD) (k : Fin 53) (q : DmaSem sig) (h : csem k = .dma q) :
    (bigSep Finset.univ fun d : Fin 3 => (dutyTok ER (kcell (c, k)) 0 d : sProp 𝕄)) ⊢ dutyTok ER (dmaC c q) 0 0 := by
  rw [kcell, h]
  exact bigSep_elim (Finset.mem_univ (0 : Fin 3))

/-- The tokens of a device's own cells, use by use. -/
theorem toks_own (c : Dev nD) : toks (F := F) c ⊢ ownToks c := by
  unfold toks ownToks
  rw [cells_split]
  iintro ⟨H0, H1, H2, H3, H4, H5, -⟩
  isplitl [H0]; · iexact H0
  isplitl [H1]; · iapply (show (bigSep Finset.univ fun x : Fin 2 × Fin 8 => bigSep Finset.univ fun d : Fin 3 => (dutyTok ER (kcell (c, kKv x)) 0 d : sProp 𝕄)) ⊢ (bigSep Finset.univ fun kh : Fin 2 × Fin 8 => dutyTok ER (dmaC c (kvS kh.1 kh.2)) 0 0) from bigSep_mono fun x _ => tok0 c _ _ (k_kv x)); iexact H1
  isplitl [H2]; · iapply (show (bigSep Finset.univ fun x : Fin 3 × Fin 3 => bigSep Finset.univ fun d : Fin 3 => (dutyTok ER (kcell (c, kS x)) 0 d : sProp 𝕄)) ⊢ (bigSep Finset.univ fun x : Fin 3 × Fin 3 => dutyTok ER (dmaC c (sS x.1 x.2)) 0 0) from bigSep_mono fun x _ => tok0 c _ _ (k_s x)); iexact H2
  isplitl [H3]; · iapply (show (bigSep Finset.univ fun x : Fin 3 × Fin 3 => bigSep Finset.univ fun d : Fin 3 => (dutyTok ER (kcell (c, kR x)) 0 d : sProp 𝕄)) ⊢ (bigSep Finset.univ fun x : Fin 3 × Fin 3 => dutyTok ER (dmaC c (rS x.1 x.2)) 0 0) from bigSep_mono fun x _ => tok0 c _ _ (k_r x)); iexact H3
  isplitl [H4]; · iapply (show (bigSep Finset.univ fun p : Fin 3 => bigSep Finset.univ fun d : Fin 3 => (dutyTok ER (kcell (c, kGs p)) 0 d : sProp 𝕄)) ⊢ (bigSep Finset.univ fun p : Fin 3 => dutyTok ER (dmaC c (gsS p)) 0 0) from bigSep_mono fun x _ => tok0 c _ _ (k_gs x)); iexact H4
  iapply (show (bigSep Finset.univ fun p : Fin 3 => bigSep Finset.univ fun d : Fin 3 => (dutyTok ER (kcell (c, kGr p)) 0 d : sProp 𝕄)) ⊢ (bigSep Finset.univ fun p : Fin 3 => dutyTok ER (dmaC c (grS p)) 0 0) from bigSep_mono fun x _ => tok0 c _ _ (k_gr x)); iexact H5

/-- Over all devices, the tokens of the own cells are the tokens that the devices pay with. -/
theorem own_pay : (bigSep Finset.univ fun c : Dev nD => (ownToks c : sProp 𝕄)) = bigSep Finset.univ fun c : Dev nD => payToks c := by
  unfold ownToks payToks
  simp only [bigSep_sep']
  rw [deal (fun d c => px d c) px_inv (fun c d => (dutyTok ER (barC c) 0 d : sProp 𝕄)),
    deal (fun x c => pr x.1 x.2 c) (fun x => px_inv _) (fun (c : Dev nD) (x : Fin 3 × Fin 3) => (dutyTok ER (dmaC c (rS x.1 x.2)) 0 0 : sProp 𝕄)),
    deal (fun p c => pr p 0 c) (fun p => px_inv _) (fun (c : Dev nD) (p : Fin 3) => (dutyTok ER (dmaC c (grS p)) 0 0 : sProp 𝕄))]

/-- The cells' records are shared by all devices, and the tokens go to those that pay with them. -/
theorem regroup :
    (bigSep Finset.univ fun c : Dev nD => iprop((bigSep Finset.univ fun k => iprop(∃ κ : ℕ, cellInv ER (Rd (OO m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 53 => iprop(∃ κ : ℕ, cellInv ER (Rd (OO m)) κ (kcell ck))),
    bigSep_congr (s := Finset.univ) (fun (c : Dev nD) _ => bigSep_sep' Finset.univ (fun k : Fin 53 => (atPos ER (kcell (c, k)) 0 ∅ 0 : sProp 𝕄)) (fun k => reached ER (kcell (c, k)) 0)),
    bigSep_sep', ← bigSep_univ_prod (fun ck : Dev nD × Fin 53 => (reached ER (kcell ck) 0 : sProp 𝕄))]
  iintro ⟨HI, ⟨Hat, HR⟩, Htok⟩
  ihave HRec := (Entails.of_eq (bigSep_sep' (Finset.univ : Finset (Dev nD × Fin 53)) (fun ck => (iprop(∃ κ : ℕ, cellInv ER (Rd (OO m)) κ (kcell ck)) : sProp 𝕄)) (fun ck => reached ER (kcell ck) 0)).symm) $$ [HI HR]
  · isplitl [HI] <;> iassumption
  ihave HRec := (show (bigSep Finset.univ fun ck : Dev nD × Fin 53 => iprop((∃ κ : ℕ, cellInv ER (Rd (OO m)) κ (kcell ck)) ∗ reached ER (kcell ck) 0) : sProp 𝕄) ⊢ recs (OO m) from by unfold recs rec1; exact Entails.rfl) $$ HRec
  ihave HRs := (BI.bigSep_of_persistent (Finset.univ : Finset (Dev nD)) (recs (OO m))) $$ HRec
  ihave Htk := (show (bigSep Finset.univ fun c : Dev nD => (toks c : sProp 𝕄)) ⊢ bigSep Finset.univ fun c : Dev nD => payToks c from
    (bigSep_mono fun c _ => toks_own c).trans (Entails.of_eq own_pay)) $$ Htok
  unfold G'
  simp only [bigSep_sep']
  isplitl [HRs]; · iexact HRs
  isplitl [Hat]; · unfold ats; iexact Hat
  iexact Htk

/-- From the counters at zero on all devices to what every device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

def cnt (sm : SemLoc sig) : List (Fin 3 × SemLoc sig × ℕ) → ℕ
  | [] => 0
  | x :: l => cnt sm l + if x.2.1 = sm then x.2.2 else 0

/-- What all devices owe to one cell is what one plan pays onto its semaphore. -/
theorem sum_owe (c : Dev nD) (sm : SemLoc sig) : ∀ l : List (Fin 3 × SemLoc sig × ℕ), (∑ d : Dev nD, oweL d l ((c : Thread nD τ), sm) ()) = cnt sm l
  | [] => Finset.sum_const_zero
  | x :: l => by
    unfold cnt
    rw [← sum_owe c sm l, ← show (∑ d : Dev nD, if d = px x.1 c then (if x.2.1 = sm then x.2.2 else 0) else 0) = (if x.2.1 = sm then x.2.2 else 0) from by
      rw [Finset.sum_ite_eq' Finset.univ (px x.1 c) fun _ => _, if_pos (Finset.mem_univ _)], ← Finset.sum_add_distrib]
    refine Finset.sum_congr rfl fun d _ => ?_
    show (oweL d l + tallyAt ((px x.1 d : Thread nD τ), x.2.1) () x.2.2) ((c : Thread nD τ), sm) () = _
    rw [Pi.add_apply, Finsupp.add_apply, tallyAt_apply]
    congr 1
    by_cases h1 : d = px x.1 c
    · subst h1
      rw [px_px, if_pos rfl]
      by_cases h2 : x.2.1 = sm
      · rw [if_pos h2, if_pos ⟨by rw [h2], rfl⟩]
      · rw [if_neg h2, if_neg fun h => h2 (congrArg Prod.snd h.1).symm]
    · rw [if_neg h1, if_neg fun h => h1 (by
        have e : c = px x.1 d := congrArg (fun g : GSem nD τ sig => g.1.1) h.1
        rw [e, px_px])]

/-- The semaphores a device waits on for others: the barrier's, the exchanges', the gatherings'. -/
def wsem : Unit ⊕ (Fin 3 × Fin 3) ⊕ Fin 3 → SemLoc sig
  | .inl _ => .reg barS
  | .inr (.inl x) => .dma (rS x.1 x.2)
  | .inr (.inr p) => .dma (grS p)
/-- The semaphores that a device waits on for others are distinct. -/
theorem wsem_inj : Function.Injective wsem := by decide +kernel

/-- A plan pays three units to the barrier. -/
theorem cnt_bar : cnt (.reg barS) plan = 3 := by
  unfold plan; simp (decide := true) only [cnt, if_true, if_false]
/-- A plan pays each exchange's receipt once. -/
theorem cnt_r (x : Fin 3 × Fin 3) : cnt (.dma (rS x.1 x.2)) plan = ne x.1 := by
  obtain ⟨p, r⟩ := x
  unfold plan
  fin_cases p <;> fin_cases r <;> simp (decide := true) [cnt]
/-- A plan pays each gathering's receipt once. -/
theorem cnt_gr (p : Fin 3) : cnt (.dma (grS p)) plan = ne p := by
  unfold plan
  fin_cases p <;> simp (decide := true) [cnt]

/-- The credit that the launch gives a cell is what the plans pay to it. -/
theorem launch_at (c : Dev nD) (sm : SemLoc sig) : tallyOn ((c : Thread nD τ), sm) (launchCredit (Pipeline.owing fun c => oweL c plan) 0 ((c : Thread nD τ), sm))
    = (tallyAt ((c : Thread nD τ), sm) () (cnt sm plan) : CellTallies nD τ sig Unit) := by
  unfold tallyAt; refine congrArg _ (Finsupp.ext fun u => ?_); cases u
  rw [Pipeline.launchCredit_owing, Finsupp.single_eq_same]
  exact sum_owe c sm plan

/-- The launch's credit of a device, cell by cell. -/
theorem creds (c : Dev nD) : (Pipeline.launchCred (fun c => oweL c plan) c : sProp 𝕄) ⊢ crs c := by
  unfold Pipeline.launchCred crs
  refine (bigSep_subset (Finset.subset_univ (Finset.univ.map ⟨wsem, wsem_inj⟩))).trans ?_
  rw [bigSep_map, bigSep_sum, bigSep_sum, bigSep_univ_eq_bigSepL [()] (by decide) (by decide), bigSepL_singleton]
  simp only [Function.Embedding.coeFn_mk, launch_at, wsem, cnt_bar, cnt_r, cnt_gr]
  show (_ : sProp 𝕄) ⊢ (_ : sProp 𝕄)
  iintro H; iexact H

/-! ## Into the launch and out of it -/

/-- What of the operands of keys and values stays aside, whole. -/
def keep (c : Dev nD) : sProp 𝕄 :=
  iprop((((c : Thread nD τ).loc main_arg2) ↦{fullShare.right} (OO m c).k) ∗ (((c : Thread nD τ).loc main_arg3) ↦{fullShare.right} (OO m c).v))

/-- A buffer, whole, gives half to be kept and a share for each of eight copies. -/
theorem shares {ℓ : Loc nD τ sig} (f : Buf (Elt F) ℓ) : (ℓ ↦{fullShare} f : sProp 𝕄) ⊢ iprop((ℓ ↦{fullShare.right} f) ∗ bigSep Finset.univ fun _ : Fin 8 => iprop(∃ q, ℓ ↦{q} f)) := by
  iintro H
  ihave H := (pointsTo_share (PosShare.mem_left_op_right fullShare)).1 $$ H
  icases H with ⟨H1, H2⟩
  ihave H1 := (Transfers.pointsTo_toks_split fullShare.left 8) $$ H1
  icases H1 with ⟨-, H1⟩
  isplitl [H2]; · iexact H2
  iapply (show (bigSep Finset.univ (fun i : Fin 8 => (ℓ ↦{Transfers.shareTok fullShare.left 8 i} f : sProp 𝕄))) ⊢ bigSep Finset.univ fun _ : Fin 8 => iprop(∃ q, ℓ ↦{q} f) from
    bigSep_mono fun i _ => by
      show (_ : sProp 𝕄) ⊢ (_ : sProp 𝕄)
      iintro H; iexists _; iexact H)
  iexact H1

/-- What the launch leaves a device gives what the body starts with, and half of the keys and the values is kept. -/
theorem start_intro (c : Dev nD) :
    iprop(Pipeline.unscopedRestP Pipeline.Prefetch.none cfg0.spec c (fun b => m ((c : Thread nD τ).loc b)) ∗ levAts L lv
        ∗ Pipeline.launchCred (fun c => oweL c plan) c ∗ prngReg c (ρ c) ∗ G' m c)
      ⊢ |={Set.univ}=> iprop(start m c ∗ keep m c) := by
  rw [Pipeline.unscopedRestP_none, unscopedRest0_eq]
  iintro ⟨⟨Hk, Hv⟩, Hlev, Hcr, -, HG⟩
  ihave Hc := (creds (F := F) c) $$ Hcr
  ihave Hk := (shares (F := F) (m ((c : Thread nD τ).loc main_arg2))) $$ Hk
  ihave Hv := (shares (F := F) (m ((c : Thread nD τ).loc main_arg3))) $$ Hv
  icases Hk with ⟨Hk, Hks⟩
  icases Hv with ⟨Hv, Hvs⟩
  unfold start G' keep srcs
  icases HG with ⟨H1, H2, H3⟩
  imodintro
  isplitr [Hk Hv]
  · isplitl [H1]; · iexact H1
    isplitl [Hlev]; · iexact Hlev
    isplitl [H2]; · iexact H2
    isplitl [H3]; · iexact H3
    isplitl [Hc]; · iexact Hc
    isplitl [Hks]; · iexact Hks
    iexact Hvs
  · isplitl [Hk]; · iexact Hk
    iexact Hv

/-- With the scratch buffers, that is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- The state after the body gives the counters at zero and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scr
  rw [sems_eq]
  iintro ⟨Hr, Ho, Hu⟩
  isplitl [Hu]; · iexact Hu
  isplitl [Ho]; · iexact Ho
  iexact Hr

/-- The windows' own waits are below everything that is owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ plan (by fin_cases w <;> fin_cases s <;> decide +kernel)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

/-- What a final state holds: the windows' arrays as the body left them, the keys and the values as they were, every counter
    at zero. -/
def QC : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3))
  ∧ r.2.sem = fun _ => 0

/-- A buffer that is held with some contents has those contents in the memory. -/
theorem read1 (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  have h := pointsTo_read_all' (Val := Elt F) (Ix := Unit) (Name := ℕ) (U := UU) (Lvl := ℕ) (Finset.univ : Finset Unit) (fun _ => ℓ) (fun _ => f) s' (fun _ => q)
  rw [bigSep_univ_eq_bigSepL [()] (by decide) (by decide), bigSepL_singleton] at h
  iintro H
  ihave H := h $$ H
  icases H with ⟨%ha, H⟩
  isplitr; · ipureintro; exact ha () (Finset.mem_univ _)
  iexact H

set_option maxRecDepth 8000 in
/-- From any memory with zero counters, for any float values: every weakly fair execution of the eight devices' program
    terminates with nothing faulting, and every final state is as `QC` states. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := fun c => oweL c plan) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := keep m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      unfold keep
      iintro ⟨Hu, ⟨Hk, Hv⟩, HSI⟩
      ihave H := (read1 _ _ _ s') $$ [Hk HSI]
      · isplitl [Hk] <;> iassumption
      icases H with ⟨%hk, HSI⟩
      ihave H := (read1 _ _ _ s') $$ [Hv HSI]
      · isplitl [Hv] <;> iassumption
      icases H with ⟨%hv, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hk, hv⟩
      iexact HSI)
    (hQ := fun _ h hs => ⟨fun c => ⟨(h c).1, (h c).2.2.2⟩, sem_eq_zero hs fun c => (h c).2.2.1⟩)

end Cert.KernelProof

end
-- ==== Proof.Frames.lean ====
/- # What the run leaves in the arrays -/
module

public import proofs.«01_k».proof.Proof.RunMain

@[expose] public section

noncomputable section

namespace Cert.KernelProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The activations end as they were. -/
theorem final_x (c : Dev nD) : finalA m ρ c 0 = m ((c : Thread nD τ).loc main_arg0) := (dats m ρ 0 c).arrAt_in 0 rfl _
/-- The query weights end as they were. -/
theorem final_wq (c : Dev nD) : finalA m ρ c 1 = m ((c : Thread nD τ).loc main_arg1) := (dats m ρ 0 c).arrAt_in 1 rfl _
/-- The output weights end as they were. -/
theorem final_wo (c : Dev nD) : finalA m ρ c 2 = m ((c : Thread nD τ).loc main_arg4) := (dats m ρ 0 c).arrAt_in 2 rfl _

/-- Every run leaves each device's arguments as they were, its result as the body left it, and every counter at zero. -/
theorem run_all : θ_run defs (onTc (τ := τ) (main (F := F))) (s₀ m ρ) (fun r =>
    (∀ c : Dev nD, r.2.mem ((c.tc : Thread nD τ).loc main_v1) = finalA m ρ c 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c).1 3, ((h.1 c).1 0).trans (final_x m ρ c), ((h.1 c).1 1).trans (final_wq m ρ c),
    (h.1 c).2.1, (h.1 c).2.2, ((h.1 c).1 2).trans (final_wo m ρ c)⟩, h.2⟩) (run_main m ρ)

end Cert.KernelProof

end
-- ==== Proof.Same.lean ====
module

public import proofs.«01_k».proof.Proof.Frames
public import proofs.«01_k».proof.Proof.Gen.Kernel
public import proofs.«01_k».proof.Defs

@[expose] public section

noncomputable section

namespace Cert.Same

open Idealize.ShloMosaic Idealize.SL.Sem

/-- At the machine's own floats a named constant is the word printed beside its name. -/
instance bitsNamed : Named Bits where
  named _ _ {φ} bits := FloatOps.ofBits φ bits

set_option maxRecDepth 20000 in
/-- The kernel's body at those floats is its idealization's, whose mask is then the word the kernel has. -/
theorem body : Cert.Kernel.cc0_body (F := Bits) = Cert.KernelIdeal.cc0_body (F := Bits) := rfl
set_option maxRecDepth 20000 in
/-- The two programs' body tables agree. -/
theorem defs₀_eq : Cert.Kernel.defs₀ (F := Bits) = Cert.KernelIdeal.defs₀ (F := Bits) := by
  funext p ℓ a
  cases p with
  | tc =>
    obtain ⟨_ | _, h⟩ := ℓ
    · obtain ⟨t, s⟩ := a
      exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body _) _) _) _) _) _) _) _) _) _) _) _) _) _) _) _) _) _) _) _) _) _) _) _) _) _) _
    · exact absurd h (Nat.not_lt.2 (Nat.le_add_left _ _))
  | scScalar _ => rfl
  | scVector _ _ => rfl
set_option maxRecDepth 20000 in
/-- The two programs' body tables agree. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq
/-- The kernel's `main` calls the one region, as its idealization's does. -/
theorem main_eq : Cert.Kernel.main (F := Bits) = Cert.KernelIdeal.main (F := Bits) := rfl

open Cert.Kernel in
/-- The kernel itself: every run ends with its arguments as they were and every counter at zero. -/
theorem run_kernel (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact (θ_run Cert.KernelIdeal.defs _ _).mono (fun r h => ⟨fun c => (h.1 c).2, h.2⟩) (Cert.KernelProof.run_all (F := Bits) m g)

end Cert.Same

end
-- ==== Proof.Heads.lean ====
/- # The bands, head by head

Every band of a device's partial product is eight attention heads side by side times the output weights. -/
module

public import proofs.«01_k».proof.Proof.Contents

@[expose] public section

set_option maxRecDepth 16384

noncomputable section

namespace Cert.KernelProof

open Cert.KernelIdeal Cert.KernelIdeal.Gen
open Idealize.ShloMosaic Idealize.ShloMosaic.TcCoe

variable {F : FTy → Type} [FloatOps F] [Named F]

/-- The exponentials of a head's masked scores: the queries of 256 rows from `r0` of the 128 columns from `c0`, against the
    512 keys from `s0` of head `h`. -/
def expG (r0 c0 h s0 : ℕ) (hq : S1024x1024.Slices ![r0, c0] S256x128) (hk : S8x1024x128.Slices ![h, s0, 0] S1x512x128)
    (q : FVec F S1024x1024 .bf16) (k : FVec F S8x1024x128 .bf16) (mk : IVec S256x512 1) : FVec F S256x512 .f32 :=
  exp (select mk
    (matmul dot_S256x128_S512x128_S256x512_1_1_0_0_n_n none (extractStridedSlice S256x128 ![r0, c0] q hq)
      (shapeCast S512x128 (extractStridedSlice S1x512x128 ![h, s0, 0] k hk) shapeCasts_S1x512x128_S512x128)
      (constant S256x512 .f32 0x00000000#32))
    (broadcast S256x512 (Named.named κ "mask" 0xCE6E6B28#32)))

/-- A head's result: the exponentials times the values, over the sum of the exponentials. -/
def headG (r0 c0 h s0 : ℕ) (hq : S1024x1024.Slices ![r0, c0] S256x128) (hk : S8x1024x128.Slices ![h, s0, 0] S1x512x128)
    (q : FVec F S1024x1024 .bf16) (k v : FVec F S8x1024x128 .bf16) (mk : IVec S256x512 1) : FVec F S256x128 .bf16 :=
  truncf .bf16
    (divf
      (matmul dot_S256x512_S512x128_S256x128_1_0_0_1_n_n none
        (truncf .bf16 (expG r0 c0 h s0 hq hk q k mk) bitsLt_bf16_f32)
        (shapeCast S512x128 (extractStridedSlice S1x512x128 ![h, s0, 0] v hk) shapeCasts_S1x512x128_S512x128)
        (constant S256x128 .f32 0x00000000#32))
      (broadcastTo S256x128
        (shapeCast S256x1
          (multiReduction .add [1] S256 (expG r0 c0 h s0 hq hk q k mk) 0x00000000#32 reduces_S256x512_S256 (.inl rfl) rfl)
          shapeCasts_S256_S256x1)
        broadcasts_S256x1_S256x128))
    bitsLt_bf16_f32

/-- Eight heads side by side, times the output weights. -/
def catG (h0 h1 h2 h3 h4 h5 h6 h7 : FVec F S256x128 .bf16) (w : FVec F S1024x1024 .bf16) : FVec F S256x1024 .f32 :=
  shapeCast S256x1024
    (matmul dot_S256x1024_S1024x1024_S256x1024_1_0_0_1_n_n none
      (concatenate S256x1024 1
        [⟨S256x128, h0⟩, ⟨S256x128, h1⟩, ⟨S256x128, h2⟩, ⟨S256x128, h3⟩, ⟨S256x128, h4⟩, ⟨S256x128, h5⟩, ⟨S256x128, h6⟩,
          ⟨S256x128, h7⟩]
        concatenates_S256x128_S256x128_S256x128_S256x128_S256x128_S256x128_S256x128_S256x128_S256x1024_d1)
      w (constant S256x1024 .f32 0x00000000#32))
    shapeCasts_S256x1024_S256x1024

/-- Band 0 is its eight heads times the output weights. -/
theorem band0_heads (q w : FVec F S1024x1024 .bf16) (k v : FVec F S8x1024x128 .bf16) : band0 q w k v =
    catG
      (headG 0 0 0 0 slices_S1024x1024_o0_0_S256x128 slices_S8x1024x128_o0_0_0_S1x512x128 q k v ma)
      (headG 0 128 1 0 slices_S1024x1024_o0_128_S256x128 slices_S8x1024x128_o1_0_0_S1x512x128 q k v ma)
      (headG 0 256 2 0 slices_S1024x1024_o0_256_S256x128 slices_S8x1024x128_o2_0_0_S1x512x128 q k v ma)
      (headG 0 384 3 0 slices_S1024x1024_o0_384_S256x128 slices_S8x1024x128_o3_0_0_S1x512x128 q k v ma)
      (headG 0 512 4 0 slices_S1024x1024_o0_512_S256x128 slices_S8x1024x128_o4_0_0_S1x512x128 q k v ma)
      (headG 0 640 5 0 slices_S1024x1024_o0_640_S256x128 slices_S8x1024x128_o5_0_0_S1x512x128 q k v ma)
      (headG 0 768 6 0 slices_S1024x1024_o0_768_S256x128 slices_S8x1024x128_o6_0_0_S1x512x128 q k v ma)
      (headG 0 896 7 0 slices_S1024x1024_o0_896_S256x128 slices_S8x1024x128_o7_0_0_S1x512x128 q k v ma) w := rfl

/-- Band 1 is its eight heads times the output weights. -/
theorem band1_heads (q w : FVec F S1024x1024 .bf16) (k v : FVec F S8x1024x128 .bf16) : band1 q w k v =
    catG
      (headG 256 0 0 128 slices_S1024x1024_o256_0_S256x128 slices_S8x1024x128_o0_128_0_S1x512x128 q k v mb)
      (headG 256 128 1 128 slices_S1024x1024_o256_128_S256x128 slices_S8x1024x128_o1_128_0_S1x512x128 q k v mb)
      (headG 256 256 2 128 slices_S1024x1024_o256_256_S256x128 slices_S8x1024x128_o2_128_0_S1x512x128 q k v mb)
      (headG 256 384 3 128 slices_S1024x1024_o256_384_S256x128 slices_S8x1024x128_o3_128_0_S1x512x128 q k v mb)
      (headG 256 512 4 128 slices_S1024x1024_o256_512_S256x128 slices_S8x1024x128_o4_128_0_S1x512x128 q k v mb)
      (headG 256 640 5 128 slices_S1024x1024_o256_640_S256x128 slices_S8x1024x128_o5_128_0_S1x512x128 q k v mb)
      (headG 256 768 6 128 slices_S1024x1024_o256_768_S256x128 slices_S8x1024x128_o6_128_0_S1x512x128 q k v mb)
      (headG 256 896 7 128 slices_S1024x1024_o256_896_S256x128 slices_S8x1024x128_o7_128_0_S1x512x128 q k v mb) w := rfl

/-- Band 2 is its eight heads times the output weights. -/
theorem band2_heads (q w : FVec F S1024x1024 .bf16) (k v : FVec F S8x1024x128 .bf16) : band2 q w k v =
    catG
      (headG 512 0 0 384 slices_S1024x1024_o512_0_S256x128 slices_S8x1024x128_o0_384_0_S1x512x128 q k v mb)
      (headG 512 128 1 384 slices_S1024x1024_o512_128_S256x128 slices_S8x1024x128_o1_384_0_S1x512x128 q k v mb)
      (headG 512 256 2 384 slices_S1024x1024_o512_256_S256x128 slices_S8x1024x128_o2_384_0_S1x512x128 q k v mb)
      (headG 512 384 3 384 slices_S1024x1024_o512_384_S256x128 slices_S8x1024x128_o3_384_0_S1x512x128 q k v mb)
      (headG 512 512 4 384 slices_S1024x1024_o512_512_S256x128 slices_S8x1024x128_o4_384_0_S1x512x128 q k v mb)
      (headG 512 640 5 384 slices_S1024x1024_o512_640_S256x128 slices_S8x1024x128_o5_384_0_S1x512x128 q k v mb)
      (headG 512 768 6 384 slices_S1024x1024_o512_768_S256x128 slices_S8x1024x128_o6_384_0_S1x512x128 q k v mb)
      (headG 512 896 7 384 slices_S1024x1024_o512_896_S256x128 slices_S8x1024x128_o7_384_0_S1x512x128 q k v mb) w := rfl

/-- Band 3 is its eight heads times the output weights. -/
theorem band3_heads (q w : FVec F S1024x1024 .bf16) (k v : FVec F S8x1024x128 .bf16) : band3 q w k v =
    catG
      (headG 768 0 0 512 slices_S1024x1024_o768_0_S256x128 slices_S8x1024x128_o0_512_0_S1x512x128 q k v mc)
      (headG 768 128 1 512 slices_S1024x1024_o768_128_S256x128 slices_S8x1024x128_o1_512_0_S1x512x128 q k v mc)
      (headG 768 256 2 512 slices_S1024x1024_o768_256_S256x128 slices_S8x1024x128_o2_512_0_S1x512x128 q k v mc)
      (headG 768 384 3 512 slices_S1024x1024_o768_384_S256x128 slices_S8x1024x128_o3_512_0_S1x512x128 q k v mc)
      (headG 768 512 4 512 slices_S1024x1024_o768_512_S256x128 slices_S8x1024x128_o4_512_0_S1x512x128 q k v mc)
      (headG 768 640 5 512 slices_S1024x1024_o768_640_S256x128 slices_S8x1024x128_o5_512_0_S1x512x128 q k v mc)
      (headG 768 768 6 512 slices_S1024x1024_o768_768_S256x128 slices_S8x1024x128_o6_512_0_S1x512x128 q k v mc)
      (headG 768 896 7 512 slices_S1024x1024_o768_896_S256x128 slices_S8x1024x128_o7_512_0_S1x512x128 q k v mc) w := rfl

end Cert.KernelProof

end
-- ==== Proof.RowAlg.lean ====
/- # A row of attention over the extended reals

The weighted mean of a row's values, computed without subtracting the row's maximum and divided after the sum, is the
softmax of the row's scores times the values. -/
module

public import Idealize.ShloMosaic.PureOps.Ideal

@[expose] public section

noncomputable section

namespace Cert.RowAlg

open Idealize.ShloMosaic

/-- An extended real that is a real number. -/
def IsR (a : EReal) : Prop := ∃ r : ℝ, a = (r : EReal)

/-- A product of real numbers is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real numbers is real. -/
theorem IsR.sum {ι : Type} (s : Finset ι) (f : ι → EReal) (hf : ∀ i, IsR (f i)) : IsR (∑ i ∈ s, f i) := by
  choose g hg using hf
  exact ⟨∑ i ∈ s, g i, by rw [coe_sum]; exact Finset.sum_congr rfl fun i _ => hg i⟩

/-- A real number at least zero goes into a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A masked score: the score inside the mask, minus infinity outside. -/
def sc {n : ℕ} (P : Fin n → Prop) [DecidablePred P] (S : Fin n → EReal) (j : Fin n) : EReal := if P j then S j else ⊥

/-- The weighted mean of a row's values: exponentials of the masked scores, times the values, over their sum. -/
def mean {n : ℕ} (P : Fin n → Prop) [DecidablePred P] (S V : Fin n → EReal) : EReal :=
  Ideal.div (∑ j, Ideal.exp (sc P S j) * V j) (∑ j, Ideal.exp (sc P S j))

/-- The maximum of a row of masked real scores, one of them inside the mask, is a real number. -/
theorem fold_max_real {n : ℕ} (P : Fin n → Prop) [DecidablePred P] (S : Fin n → EReal) (hS : ∀ j, IsR (S j)) (hP : ∃ j, P j) :
    IsR (Finset.fold max ⊥ (sc P S) Finset.univ) := by
  have hlt : Finset.fold max ⊥ (sc P S) Finset.univ < ⊤ := by
    rw [Finset.fold_max_lt]
    refine ⟨bot_lt_top, fun j _ => ?_⟩
    obtain ⟨r, hr⟩ := hS j
    unfold sc
    split
    · rw [hr]; exact EReal.coe_lt_top r
    · exact bot_lt_top
  have hgt : ⊥ < Finset.fold max ⊥ (sc P S) Finset.univ := by
    obtain ⟨j, hj⟩ := hP
    obtain ⟨r, hr⟩ := hS j
    rw [Finset.lt_fold_max]
    refine .inr ⟨j, Finset.mem_univ j, ?_⟩
    unfold sc
    rw [if_pos hj, hr]
    exact EReal.bot_lt_coe r
  exact ⟨_, (EReal.coe_toReal hlt.ne hgt.ne').symm⟩

/-- The weighted mean is the softmax of the masked scores, whatever real number is subtracted first, times the values. -/
theorem mean_eq {n : ℕ} (P : Fin n → Prop) [DecidablePred P] (S V : Fin n → EReal) (hS : ∀ j, IsR (S j)) (hP : ∃ j, P j)
    (M : EReal) (hM : IsR M) :
    mean P S V = ∑ j, V j * Ideal.div (Ideal.exp (sc P S j - M)) (∑ l, Ideal.exp (sc P S l - M)) := by
  choose s hs using hS
  obtain ⟨m, rfl⟩ := hM
  let a : Fin n → ℝ := fun j => if P j then Real.exp (s j) else 0
  have ha : ∀ j, 0 ≤ a j := fun j => by
    show 0 ≤ (if P j then Real.exp (s j) else 0)
    split
    · exact (Real.exp_pos _).le
    · exact le_rfl
  have e0 : ∀ j, Ideal.exp (sc P S j) = (a j : EReal) := fun j => by
    show Ideal.exp (if P j then S j else ⊥) = ((if P j then Real.exp (s j) else 0 : ℝ) : EReal)
    split
    · rw [hs j]; rfl
    · rfl
  have e1 : ∀ j, Ideal.exp (sc P S j - (m : EReal)) = ((a j * Real.exp (-m) : ℝ) : EReal) := fun j => by
    show Ideal.exp ((if P j then S j else ⊥) - (m : EReal)) = (((if P j then Real.exp (s j) else 0) * Real.exp (-m) : ℝ) : EReal)
    split
    · rw [hs j, ← EReal.coe_sub, ← Real.exp_add, ← sub_eq_add_neg]; rfl
    · rw [EReal.bot_sub, zero_mul]; rfl
  have hA : 0 < ∑ j, a j := by
    obtain ⟨j, hj⟩ := hP
    refine Finset.sum_pos' (fun i _ => ha i) ⟨j, Finset.mem_univ j, ?_⟩
    show 0 < (if P j then Real.exp (s j) else 0)
    rw [if_pos hj]
    exact Real.exp_pos _
  unfold mean
  simp only [e0, e1]
  rw [← coe_sum, ← coe_sum, ← Finset.sum_mul]
  have hm := Real.exp_pos (-m)
  have h1 : ((∑ j, a j : ℝ) : EReal) ≠ 0 := by
    rw [Ne, EReal.coe_eq_zero]; exact hA.ne'
  have h2 : (((∑ j, a j) * Real.exp (-m) : ℝ) : EReal) ≠ 0 := by
    rw [Ne, EReal.coe_eq_zero]; exact (mul_pos hA hm).ne'
  unfold Ideal.div
  simp only [if_neg h1, if_neg h2]
  rw [← EReal.coe_inv, ← EReal.coe_inv, sum_mul_real _ _ _ (inv_nonneg.2 hA.le)]
  refine Finset.sum_congr rfl fun j _ => ?_
  rw [← EReal.coe_mul, mul_comm ((a j : ℝ) : EReal) (V j), mul_assoc, ← EReal.coe_mul]
  congr 2
  field_simp

/-- A sum over a window of the indices is the sum over all of them, if the terms outside the window are zero. -/
theorem sum_window {n w : ℕ} (o : ℕ) (h : o + w ≤ n) (f : Fin n → EReal)
    (h0 : ∀ j : Fin n, (j.val < o ∨ o + w ≤ j.val) → f j = 0) :
    ∑ x : Fin w, f ⟨o + x.val, by have := x.isLt; omega⟩ = ∑ j, f j := by
  classical
  have hi : Function.Injective (fun x : Fin w => (⟨o + x.val, by have := x.isLt; omega⟩ : Fin n)) := by
    intro x y hxy
    have := congrArg Fin.val hxy
    simp only at this
    exact Fin.ext (by omega)
  rw [← Finset.sum_image (s := Finset.univ) (g := fun x : Fin w => (⟨o + x.val, by have := x.isLt; omega⟩ : Fin n)) (f := f)
    (fun x _ y _ hxy => hi hxy)]
  refine Finset.sum_subset (Finset.subset_univ _) fun j _ hj => h0 j ?_
  by_contra hc
  rw [not_or, not_lt, not_le] at hc
  exact hj (Finset.mem_image.2 ⟨⟨j.val - o, by omega⟩, Finset.mem_univ _, Fin.ext (by simp only; omega)⟩)

end Cert.RowAlg

end
-- ==== Proof.HeadVal.lean ====
/- # What a head and a band hold at an index

Over the extended reals: a head is the weighted mean of the values, row by row, and a band the sum over the heads of the
means times the output weights. -/
module

public import proofs.«01_k».proof.Proof.Heads
public import proofs.«01_k».proof.Proof.RowAlg
public import Idealize.ShloMosaic.Lib.Pointwise
public import Idealize.ShloMosaic.Lib.Pointwise.IndexBridge

@[expose] public section

set_option maxRecDepth 16384

noncomputable section

namespace Cert.KernelProof

open Cert.KernelIdeal Cert.KernelIdeal.Gen Cert.RowAlg
open Idealize.ShloMosaic Idealize.ShloMosaic.TcCoe

/-- Whether key `j` is within 128 of query `i`. -/
abbrev inb (i j : ℕ) : Prop := i ≤ j + 128 ∧ j ≤ i + 128

/-- The distance of two numbers as the program's words compute it. -/
theorem dist_word (a b : ℕ) (ha : a < 2048) (hb : b < 2048) :
    IntOp.absi (IntOp.subi (BitVec.ofNat 32 a) (BitVec.ofNat 32 b)) = BitVec.ofNat 32 (a - b + (b - a)) := by
  unfold IntOp.absi IntOp.subi
  by_cases h : b ≤ a
  · have e : BitVec.ofNat 32 a - BitVec.ofNat 32 b = BitVec.ofNat 32 (a - b + (b - a)) := by
      apply BitVec.eq_of_toNat_eq
      rw [BitVec.toNat_sub, BitVec.toNat_ofNat, BitVec.toNat_ofNat, BitVec.toNat_ofNat]
      omega
    rw [e, if_neg]
    rw [Bool.not_eq_true, BitVec.msb_eq_false_iff_two_mul_lt, BitVec.toNat_ofNat]
    omega
  · rw [if_pos]
    · apply BitVec.eq_of_toNat_eq
      rw [BitVec.toNat_neg, BitVec.toNat_sub, BitVec.toNat_ofNat, BitVec.toNat_ofNat, BitVec.toNat_ofNat]
      omega
    · rw [BitVec.msb_eq_true_iff_two_mul_ge, BitVec.toNat_sub, BitVec.toNat_ofNat, BitVec.toNat_ofNat]
      omega

/-- The mask's bit: set where the distance is at most 128. -/
theorem mask_word (a b : ℕ) (ha : a < 2048) (hb : b < 2048) :
    IntOp.cmpi CmpIPredicate.sle (IntOp.absi (IntOp.subi (BitVec.ofNat 32 a) (BitVec.ofNat 32 b))) 128#32
      = if inb a b then 1#1 else 0#1 := by
  rw [dist_word a b ha hb]
  have e : (BitVec.ofNat 32 (a - b + (b - a))).toInt = ((a - b + (b - a) : ℕ) : ℤ) := by
    rw [BitVec.toInt_eq_toNat_cond, BitVec.toNat_ofNat]
    split <;> omega
  have e' : (128#32).toInt = 128 := by decide
  have : (BitVec.ofNat 32 (a - b + (b - a))).sle 128#32 = decide (inb a b) := by
    rw [BitVec.sle_eq_decide, e, e']
    apply decide_eq_decide.2
    unfold inb
    omega
  show BitVec.ofBool ((BitVec.ofNat 32 (a - b + (b - a))).sle 128#32) = _
  rw [this]
  by_cases h : inb a b
  · rw [if_pos h, decide_eq_true h]; rfl
  · rw [if_neg h, decide_eq_false h]; rfl

/-- Adding the words of two small numbers gives the word of their sum. -/
theorem add_word (o a : ℕ) (ho : o < 1024) (ha : a < 1024) :
    IntOp.addi (BitVec.ofNat 32 o) (BitVec.ofNat 32 a) = BitVec.ofNat 32 (o + a) := by
  unfold IntOp.addi
  rw [BitVec.ofNat_add]

/-- The first band's mask: rows and keys both begin at 0. -/
theorem ma_apply (r : Fin 256) (j : Fin 512) : ma (ix2 r j) = if inb r j then 1#1 else 0#1 := by
  pointwise [ma, k0_pay5]
  have e := add_word 0 r.val (by omega) (by omega)
  rw [Nat.zero_add] at e
  rw [show (0#32) = BitVec.ofNat 32 0 from rfl, e, mask_word r.val j.val (by omega) (by omega)]

/-- The middle bands' mask: the rows begin 128 after the keys. -/
theorem mb_apply (r : Fin 256) (j : Fin 512) : mb (ix2 r j) = if inb (128 + r) j then 1#1 else 0#1 := by
  pointwise [mb, k0_pay6]
  rw [show IntOp.addi (128#32) (BitVec.ofNat 32 r.val) = _ from add_word 128 r.val (by omega) (by omega),
    mask_word (128 + r.val) j.val (by omega) (by omega)]

/-- The last band's mask: the rows begin 256 after the keys. -/
theorem mc_apply (r : Fin 256) (j : Fin 512) : mc (ix2 r j) = if inb (256 + r) j then 1#1 else 0#1 := by
  pointwise [mc, k0_pay7]
  rw [show IntOp.addi (256#32) (BitVec.ofNat 32 r.val) = _ from add_word 256 r.val (by omega) (by omega),
    mask_word (256 + r.val) j.val (by omega) (by omega)]

/-- A head at an index: the weighted mean of its values over the whole row of keys, if the mask marks within the window the
    keys near the query and no key outside the window is near it. -/
theorem headG_mean (r0 c0 h s0 : ℕ) (hq : S1024x1024.Slices ![r0, c0] S256x128) (hk : S8x1024x128.Slices ![h, s0, 0] S1x512x128)
    (q : FVec Ideal S1024x1024 .bf16) (k v : FVec Ideal S8x1024x128 .bf16) (mk : IVec S256x512 1) (r : Fin 256) (d : Fin 128)
    (i : Fin 1024) (hi : i.val = r0 + r.val) (g : Fin 8) (hg : g.val = h) (hc : c0 = 128 * h) (hs : s0 + 512 ≤ 1024)
    (hm : ∀ x : Fin 512, mk (ix2 r x) = if inb i (s0 + x) then 1#1 else 0#1)
    (ho : ∀ j : ℕ, j < 1024 → (j < s0 ∨ s0 + 512 ≤ j) → ¬ inb i j) :
    headG r0 c0 h s0 hq hk q k v mk (ix2 r d)
      = mean (fun j : Fin 1024 => inb i j)
          (fun j => ∑ e : Fin 128, q (ix2 i (⟨128 * g.val + e.val, by omega⟩ : Fin 1024)) * k (ix3 g j e))
          (fun j => v (ix3 g j d)) := by
  subst hg hc
  pointwise [headG, expG]
  unfold mean
  have key : ∀ x : Fin 512, Ideal.exp
        (Scalar.select (mk (ix2 r x))
          (∑ e : Fin 128, q (ix2 (⟨r0 + r.val, by omega⟩ : Fin 1024) (⟨128 * g.val + e.val, by omega⟩ : Fin 1024))
            * k (ix3 g (⟨s0 + x.val, by omega⟩ : Fin 1024) e))
          (Named.named (F := Ideal) κ "mask" (φ := .f32) 3463342888#32))
      = Ideal.exp (sc (fun j : Fin 1024 => inb i j)
          (fun j => ∑ e : Fin 128, q (ix2 i (⟨128 * g.val + e.val, by omega⟩ : Fin 1024)) * k (ix3 g j e))
          (⟨s0 + x.val, by omega⟩ : Fin 1024)) := by
    intro x
    have ei : (⟨r0 + r.val, by omega⟩ : Fin 1024) = i := Fin.ext hi.symm
    rw [hm x, ei]
    unfold sc Scalar.select
    congr 1
    by_cases hb : inb i (s0 + x.val)
    · rw [if_pos hb, if_pos (show (1#1 : BitVec 1) = 1 from rfl)]
      exact (if_pos hb).symm
    · rw [if_neg hb, if_neg (show ¬ (0#1 : BitVec 1) = 1 by decide)]
      exact (show Named.named (F := Ideal) κ "mask" (φ := .f32) 3463342888#32 = (⊥ : EReal) from rfl).trans (if_neg hb).symm
  have z : ∀ j : Fin 1024, (j.val < s0 ∨ s0 + 512 ≤ j.val) → Ideal.exp (sc (fun j : Fin 1024 => inb i j)
          (fun j => ∑ e : Fin 128, q (ix2 i (⟨128 * g.val + e.val, by omega⟩ : Fin 1024)) * k (ix3 g j e)) j) = 0 := by
    intro j hj
    unfold sc
    rw [if_neg (ho j.val j.isLt hj)]
    rfl
  congr 1
  · rw [← sum_window s0 hs (fun j : Fin 1024 => Ideal.exp (sc (fun j : Fin 1024 => inb i j)
          (fun j => ∑ e : Fin 128, q (ix2 i (⟨128 * g.val + e.val, by omega⟩ : Fin 1024)) * k (ix3 g j e)) j) * v (ix3 g j d))
        (fun j hj => by rw [z j hj, zero_mul])]
    exact Finset.sum_congr rfl fun x _ => congrArg (· * _) (key x)
  · rw [← sum_window s0 hs (fun j : Fin 1024 => Ideal.exp (sc (fun j : Fin 1024 => inb i j)
          (fun j => ∑ e : Fin 128, q (ix2 i (⟨128 * g.val + e.val, by omega⟩ : Fin 1024)) * k (ix3 g j e)) j)) z]
    exact Finset.sum_congr rfl fun x _ => key x

/-- A sum over a flattened pair of axes. -/
theorem sum_split {a b : ℕ} (n : ℕ) (hn : n = a * b) (f : Fin n → EReal) :
    ∑ x, f x = ∑ g : Fin a, ∑ d : Fin b, f ⟨b * g.val + d.val, by
      subst hn
      exact (finProdFinEquiv (g, d)).isLt.trans_eq' (by simp [finProdFinEquiv, Nat.add_comm])⟩ := by
  subst hn
  rw [← Fintype.sum_prod_type' (f := fun (g : Fin a) (d : Fin b) => f ⟨b * g.val + d.val, _⟩)]
  rw [← finProdFinEquiv.sum_comp]
  refine Finset.sum_congr rfl fun x _ => congrArg f (Fin.ext ?_)
  simp [finProdFinEquiv, Nat.add_comm]

/-- Eight heads side by side times the output weights: the sum over the heads and their columns. -/
theorem catG_apply (H : Fin 8 → FVec Ideal S256x128 .bf16) (w : FVec Ideal S1024x1024 .bf16) (r : Fin 256) (n : Fin 1024) :
    catG (H 0) (H 1) (H 2) (H 3) (H 4) (H 5) (H 6) (H 7) w (ix2 r n)
      = ∑ g : Fin 8, ∑ d : Fin 128, H g (ix2 r d) * w (ix2 (⟨128 * g.val + d.val, by omega⟩ : Fin 1024) n) := by
  pointwise [catG]
  rw [sum_split (a := 8) (b := 128) 1024 rfl]
  refine Finset.sum_congr rfl fun g _ => Finset.sum_congr rfl fun d _ => ?_
  congr 1
  have hd := d.isLt
  match g with
  | ⟨0, _⟩ =>
    rw [dif_pos (by simp only; omega)]
    exact congrArg (H 0) (congrArg (ix2 r) (Fin.ext (by simp only; omega)))
  | ⟨1, _⟩ =>
    rw [dif_neg (by simp only; omega)]
    rw [dif_pos (by simp only; omega)]
    exact congrArg (H 1) (congrArg (ix2 r) (Fin.ext (by simp only; omega)))
  | ⟨2, _⟩ =>
    rw [dif_neg (by simp only; omega)]
    rw [dif_neg (by simp only; omega)]
    rw [dif_pos (by simp only; omega)]
    exact congrArg (H 2) (congrArg (ix2 r) (Fin.ext (by simp only; omega)))
  | ⟨3, _⟩ =>
    rw [dif_neg (by simp only; omega)]
    rw [dif_neg (by simp only; omega)]
    rw [dif_neg (by simp only; omega)]
    rw [dif_pos (by simp only; omega)]
    exact congrArg (H 3) (congrArg (ix2 r) (Fin.ext (by simp only; omega)))
  | ⟨4, _⟩ =>
    rw [dif_neg (by simp only; omega)]
    rw [dif_neg (by simp only; omega)]
    rw [dif_neg (by simp only; omega)]
    rw [dif_neg (by simp only; omega)]
    rw [dif_pos (by simp only; omega)]
    exact congrArg (H 4) (congrArg (ix2 r) (Fin.ext (by simp only; omega)))
  | ⟨5, _⟩ =>
    rw [dif_neg (by simp only; omega)]
    rw [dif_neg (by simp only; omega)]
    rw [dif_neg (by simp only; omega)]
    rw [dif_neg (by simp only; omega)]
    rw [dif_neg (by simp only; omega)]
    rw [dif_pos (by simp only; omega)]
    exact congrArg (H 5) (congrArg (ix2 r) (Fin.ext (by simp only; omega)))
  | ⟨6, _⟩ =>
    rw [dif_neg (by simp only; omega)]
    rw [dif_neg (by simp only; omega)]
    rw [dif_neg (by simp only; omega)]
    rw [dif_neg (by simp only; omega)]
    rw [dif_neg (by simp only; omega)]
    rw [dif_neg (by simp only; omega)]
    rw [dif_pos (by simp only; omega)]
    exact congrArg (H 6) (congrArg (ix2 r) (Fin.ext (by simp only; omega)))
  | ⟨7, _⟩ =>
    rw [dif_neg (by simp only; omega)]
    rw [dif_neg (by simp only; omega)]
    rw [dif_neg (by simp only; omega)]
    rw [dif_neg (by simp only; omega)]
    rw [dif_neg (by simp only; omega)]
    rw [dif_neg (by simp only; omega)]
    rw [dif_neg (by simp only; omega)]
    exact congrArg (H 7) (congrArg (ix2 r) (Fin.ext (by simp only; omega)))

end Cert.KernelProof

end
-- ==== Proof.AccVal.lean ====
/- # A device's partial product at an index

Over the extended reals: the sum over the device's heads of the weighted means times the output weights. -/
module

public import proofs.«01_k».proof.Proof.HeadVal

@[expose] public section

set_option maxRecDepth 16384

noncomputable section

namespace Cert.KernelProof

open Cert.KernelIdeal Cert.KernelIdeal.Gen Cert.RowAlg
open Idealize.ShloMosaic Idealize.ShloMosaic.TcCoe

/-- A head's weighted mean, of the device's queries, keys and values. -/
def headMean (q : FVec Ideal S1024x1024 .bf16) (k v : FVec Ideal S8x1024x128 .bf16) (i : Fin 1024) (g : Fin 8) (d : Fin 128) :
    EReal :=
  mean (fun j : Fin 1024 => inb i j)
    (fun j => ∑ e : Fin 128, q (ix2 i (⟨128 * g.val + e.val, by omega⟩ : Fin 1024)) * k (ix3 g j e))
    (fun j => v (ix3 g j d))

/-- Band 0 at an index. -/
theorem band0_val (q w : FVec Ideal S1024x1024 .bf16) (k v : FVec Ideal S8x1024x128 .bf16) (r : Fin 256) (n i : Fin 1024)
    (hi : i.val = 0 + r.val) : band0 q w k v (ix2 r n)
      = ∑ g : Fin 8, ∑ d : Fin 128, headMean q k v i g d * w (ix2 (⟨128 * g.val + d.val, by omega⟩ : Fin 1024) n) := by
  have hm : ∀ x : Fin 512, ma (ix2 r x) = if inb i (0 + x) then 1#1 else 0#1 := fun x => by
    rw [ma_apply]
    have e : inb (r.val) x.val ↔ inb i.val (0 + x.val) := by unfold inb; omega
    simp only [e]
  have ho : ∀ j : ℕ, j < 1024 → (j < 0 ∨ 0 + 512 ≤ j) → ¬ inb i j := fun j h1 h2 h3 => by
    unfold inb at h3
    omega
  rw [band0_heads]
  refine (catG_apply
      ![headG 0 0 0 0 slices_S1024x1024_o0_0_S256x128 slices_S8x1024x128_o0_0_0_S1x512x128 q k v ma,
        headG 0 128 1 0 slices_S1024x1024_o0_128_S256x128 slices_S8x1024x128_o1_0_0_S1x512x128 q k v ma,
        headG 0 256 2 0 slices_S1024x1024_o0_256_S256x128 slices_S8x1024x128_o2_0_0_S1x512x128 q k v ma,
        headG 0 384 3 0 slices_S1024x1024_o0_384_S256x128 slices_S8x1024x128_o3_0_0_S1x512x128 q k v ma,
        headG 0 512 4 0 slices_S1024x1024_o0_512_S256x128 slices_S8x1024x128_o4_0_0_S1x512x128 q k v ma,
        headG 0 640 5 0 slices_S1024x1024_o0_640_S256x128 slices_S8x1024x128_o5_0_0_S1x512x128 q k v ma,
        headG 0 768 6 0 slices_S1024x1024_o0_768_S256x128 slices_S8x1024x128_o6_0_0_S1x512x128 q k v ma,
        headG 0 896 7 0 slices_S1024x1024_o0_896_S256x128 slices_S8x1024x128_o7_0_0_S1x512x128 q k v ma] w r n).trans ?_
  refine Finset.sum_congr rfl fun g _ => Finset.sum_congr rfl fun d _ => congrArg (· * _) ?_
  match g with
  | ⟨0, hg⟩ => exact headG_mean 0 0 0 0 _ _ q k v ma r d i hi ⟨0, hg⟩ rfl rfl (by decide) hm ho
  | ⟨1, hg⟩ => exact headG_mean 0 128 1 0 _ _ q k v ma r d i hi ⟨1, hg⟩ rfl rfl (by decide) hm ho
  | ⟨2, hg⟩ => exact headG_mean 0 256 2 0 _ _ q k v ma r d i hi ⟨2, hg⟩ rfl rfl (by decide) hm ho
  | ⟨3, hg⟩ => exact headG_mean 0 384 3 0 _ _ q k v ma r d i hi ⟨3, hg⟩ rfl rfl (by decide) hm ho
  | ⟨4, hg⟩ => exact headG_mean 0 512 4 0 _ _ q k v ma r d i hi ⟨4, hg⟩ rfl rfl (by decide) hm ho
  | ⟨5, hg⟩ => exact headG_mean 0 640 5 0 _ _ q k v ma r d i hi ⟨5, hg⟩ rfl rfl (by decide) hm ho
  | ⟨6, hg⟩ => exact headG_mean 0 768 6 0 _ _ q k v ma r d i hi ⟨6, hg⟩ rfl rfl (by decide) hm ho
  | ⟨7, hg⟩ => exact headG_mean 0 896 7 0 _ _ q k v ma r d i hi ⟨7, hg⟩ rfl rfl (by decide) hm ho

/-- Band 1 at an index. -/
theorem band1_val (q w : FVec Ideal S1024x1024 .bf16) (k v : FVec Ideal S8x1024x128 .bf16) (r : Fin 256) (n i : Fin 1024)
    (hi : i.val = 256 + r.val) : band1 q w k v (ix2 r n)
      = ∑ g : Fin 8, ∑ d : Fin 128, headMean q k v i g d * w (ix2 (⟨128 * g.val + d.val, by omega⟩ : Fin 1024) n) := by
  have hm : ∀ x : Fin 512, mb (ix2 r x) = if inb i (128 + x) then 1#1 else 0#1 := fun x => by
    rw [mb_apply]
    have e : inb (128 + r.val) x.val ↔ inb i.val (128 + x.val) := by unfold inb; omega
    simp only [e]
  have ho : ∀ j : ℕ, j < 1024 → (j < 128 ∨ 128 + 512 ≤ j) → ¬ inb i j := fun j h1 h2 h3 => by
    unfold inb at h3
    omega
  rw [band1_heads]
  refine (catG_apply
      ![headG 256 0 0 128 slices_S1024x1024_o256_0_S256x128 slices_S8x1024x128_o0_128_0_S1x512x128 q k v mb,
        headG 256 128 1 128 slices_S1024x1024_o256_128_S256x128 slices_S8x1024x128_o1_128_0_S1x512x128 q k v mb,
        headG 256 256 2 128 slices_S1024x1024_o256_256_S256x128 slices_S8x1024x128_o2_128_0_S1x512x128 q k v mb,
        headG 256 384 3 128 slices_S1024x1024_o256_384_S256x128 slices_S8x1024x128_o3_128_0_S1x512x128 q k v mb,
        headG 256 512 4 128 slices_S1024x1024_o256_512_S256x128 slices_S8x1024x128_o4_128_0_S1x512x128 q k v mb,
        headG 256 640 5 128 slices_S1024x1024_o256_640_S256x128 slices_S8x1024x128_o5_128_0_S1x512x128 q k v mb,
        headG 256 768 6 128 slices_S1024x1024_o256_768_S256x128 slices_S8x1024x128_o6_128_0_S1x512x128 q k v mb,
        headG 256 896 7 128 slices_S1024x1024_o256_896_S256x128 slices_S8x1024x128_o7_128_0_S1x512x128 q k v mb] w r n).trans ?_
  refine Finset.sum_congr rfl fun g _ => Finset.sum_congr rfl fun d _ => congrArg (· * _) ?_
  match g with
  | ⟨0, hg⟩ => exact headG_mean 256 0 0 128 _ _ q k v mb r d i hi ⟨0, hg⟩ rfl rfl (by decide) hm ho
  | ⟨1, hg⟩ => exact headG_mean 256 128 1 128 _ _ q k v mb r d i hi ⟨1, hg⟩ rfl rfl (by decide) hm ho
  | ⟨2, hg⟩ => exact headG_mean 256 256 2 128 _ _ q k v mb r d i hi ⟨2, hg⟩ rfl rfl (by decide) hm ho
  | ⟨3, hg⟩ => exact headG_mean 256 384 3 128 _ _ q k v mb r d i hi ⟨3, hg⟩ rfl rfl (by decide) hm ho
  | ⟨4, hg⟩ => exact headG_mean 256 512 4 128 _ _ q k v mb r d i hi ⟨4, hg⟩ rfl rfl (by decide) hm ho
  | ⟨5, hg⟩ => exact headG_mean 256 640 5 128 _ _ q k v mb r d i hi ⟨5, hg⟩ rfl rfl (by decide) hm ho
  | ⟨6, hg⟩ => exact headG_mean 256 768 6 128 _ _ q k v mb r d i hi ⟨6, hg⟩ rfl rfl (by decide) hm ho
  | ⟨7, hg⟩ => exact headG_mean 256 896 7 128 _ _ q k v mb r d i hi ⟨7, hg⟩ rfl rfl (by decide) hm ho

/-- Band 2 at an index. -/
theorem band2_val (q w : FVec Ideal S1024x1024 .bf16) (k v : FVec Ideal S8x1024x128 .bf16) (r : Fin 256) (n i : Fin 1024)
    (hi : i.val = 512 + r.val) : band2 q w k v (ix2 r n)
      = ∑ g : Fin 8, ∑ d : Fin 128, headMean q k v i g d * w (ix2 (⟨128 * g.val + d.val, by omega⟩ : Fin 1024) n) := by
  have hm : ∀ x : Fin 512, mb (ix2 r x) = if inb i (384 + x) then 1#1 else 0#1 := fun x => by
    rw [mb_apply]
    have e : inb (128 + r.val) x.val ↔ inb i.val (384 + x.val) := by unfold inb; omega
    simp only [e]
  have ho : ∀ j : ℕ, j < 1024 → (j < 384 ∨ 384 + 512 ≤ j) → ¬ inb i j := fun j h1 h2 h3 => by
    unfold inb at h3
    omega
  rw [band2_heads]
  refine (catG_apply
      ![headG 512 0 0 384 slices_S1024x1024_o512_0_S256x128 slices_S8x1024x128_o0_384_0_S1x512x128 q k v mb,
        headG 512 128 1 384 slices_S1024x1024_o512_128_S256x128 slices_S8x1024x128_o1_384_0_S1x512x128 q k v mb,
        headG 512 256 2 384 slices_S1024x1024_o512_256_S256x128 slices_S8x1024x128_o2_384_0_S1x512x128 q k v mb,
        headG 512 384 3 384 slices_S1024x1024_o512_384_S256x128 slices_S8x1024x128_o3_384_0_S1x512x128 q k v mb,
        headG 512 512 4 384 slices_S1024x1024_o512_512_S256x128 slices_S8x1024x128_o4_384_0_S1x512x128 q k v mb,
        headG 512 640 5 384 slices_S1024x1024_o512_640_S256x128 slices_S8x1024x128_o5_384_0_S1x512x128 q k v mb,
        headG 512 768 6 384 slices_S1024x1024_o512_768_S256x128 slices_S8x1024x128_o6_384_0_S1x512x128 q k v mb,
        headG 512 896 7 384 slices_S1024x1024_o512_896_S256x128 slices_S8x1024x128_o7_384_0_S1x512x128 q k v mb] w r n).trans ?_
  refine Finset.sum_congr rfl fun g _ => Finset.sum_congr rfl fun d _ => congrArg (· * _) ?_
  match g with
  | ⟨0, hg⟩ => exact headG_mean 512 0 0 384 _ _ q k v mb r d i hi ⟨0, hg⟩ rfl rfl (by decide) hm ho
  | ⟨1, hg⟩ => exact headG_mean 512 128 1 384 _ _ q k v mb r d i hi ⟨1, hg⟩ rfl rfl (by decide) hm ho
  | ⟨2, hg⟩ => exact headG_mean 512 256 2 384 _ _ q k v mb r d i hi ⟨2, hg⟩ rfl rfl (by decide) hm ho
  | ⟨3, hg⟩ => exact headG_mean 512 384 3 384 _ _ q k v mb r d i hi ⟨3, hg⟩ rfl rfl (by decide) hm ho
  | ⟨4, hg⟩ => exact headG_mean 512 512 4 384 _ _ q k v mb r d i hi ⟨4, hg⟩ rfl rfl (by decide) hm ho
  | ⟨5, hg⟩ => exact headG_mean 512 640 5 384 _ _ q k v mb r d i hi ⟨5, hg⟩ rfl rfl (by decide) hm ho
  | ⟨6, hg⟩ => exact headG_mean 512 768 6 384 _ _ q k v mb r d i hi ⟨6, hg⟩ rfl rfl (by decide) hm ho
  | ⟨7, hg⟩ => exact headG_mean 512 896 7 384 _ _ q k v mb r d i hi ⟨7, hg⟩ rfl rfl (by decide) hm ho

/-- Band 3 at an index. -/
theorem band3_val (q w : FVec Ideal S1024x1024 .bf16) (k v : FVec Ideal S8x1024x128 .bf16) (r : Fin 256) (n i : Fin 1024)
    (hi : i.val = 768 + r.val) : band3 q w k v (ix2 r n)
      = ∑ g : Fin 8, ∑ d : Fin 128, headMean q k v i g d * w (ix2 (⟨128 * g.val + d.val, by omega⟩ : Fin 1024) n) := by
  have hm : ∀ x : Fin 512, mc (ix2 r x) = if inb i (512 + x) then 1#1 else 0#1 := fun x => by
    rw [mc_apply]
    have e : inb (256 + r.val) x.val ↔ inb i.val (512 + x.val) := by unfold inb; omega
    simp only [e]
  have ho : ∀ j : ℕ, j < 1024 → (j < 512 ∨ 512 + 512 ≤ j) → ¬ inb i j := fun j h1 h2 h3 => by
    unfold inb at h3
    omega
  rw [band3_heads]
  refine (catG_apply
      ![headG 768 0 0 512 slices_S1024x1024_o768_0_S256x128 slices_S8x1024x128_o0_512_0_S1x512x128 q k v mc,
        headG 768 128 1 512 slices_S1024x1024_o768_128_S256x128 slices_S8x1024x128_o1_512_0_S1x512x128 q k v mc,
        headG 768 256 2 512 slices_S1024x1024_o768_256_S256x128 slices_S8x1024x128_o2_512_0_S1x512x128 q k v mc,
        headG 768 384 3 512 slices_S1024x1024_o768_384_S256x128 slices_S8x1024x128_o3_512_0_S1x512x128 q k v mc,
        headG 768 512 4 512 slices_S1024x1024_o768_512_S256x128 slices_S8x1024x128_o4_512_0_S1x512x128 q k v mc,
        headG 768 640 5 512 slices_S1024x1024_o768_640_S256x128 slices_S8x1024x128_o5_512_0_S1x512x128 q k v mc,
        headG 768 768 6 512 slices_S1024x1024_o768_768_S256x128 slices_S8x1024x128_o6_512_0_S1x512x128 q k v mc,
        headG 768 896 7 512 slices_S1024x1024_o768_896_S256x128 slices_S8x1024x128_o7_512_0_S1x512x128 q k v mc] w r n).trans ?_
  refine Finset.sum_congr rfl fun g _ => Finset.sum_congr rfl fun d _ => congrArg (· * _) ?_
  match g with
  | ⟨0, hg⟩ => exact headG_mean 768 0 0 512 _ _ q k v mc r d i hi ⟨0, hg⟩ rfl rfl (by decide) hm ho
  | ⟨1, hg⟩ => exact headG_mean 768 128 1 512 _ _ q k v mc r d i hi ⟨1, hg⟩ rfl rfl (by decide) hm ho
  | ⟨2, hg⟩ => exact headG_mean 768 256 2 512 _ _ q k v mc r d i hi ⟨2, hg⟩ rfl rfl (by decide) hm ho
  | ⟨3, hg⟩ => exact headG_mean 768 384 3 512 _ _ q k v mc r d i hi ⟨3, hg⟩ rfl rfl (by decide) hm ho
  | ⟨4, hg⟩ => exact headG_mean 768 512 4 512 _ _ q k v mc r d i hi ⟨4, hg⟩ rfl rfl (by decide) hm ho
  | ⟨5, hg⟩ => exact headG_mean 768 640 5 512 _ _ q k v mc r d i hi ⟨5, hg⟩ rfl rfl (by decide) hm ho
  | ⟨6, hg⟩ => exact headG_mean 768 768 6 512 _ _ q k v mc r d i hi ⟨6, hg⟩ rfl rfl (by decide) hm ho
  | ⟨7, hg⟩ => exact headG_mean 768 896 7 512 _ _ q k v mc r d i hi ⟨7, hg⟩ rfl rfl (by decide) hm ho

/-- A device's partial product at an index. -/
theorem acc_val (O : Ops Ideal) (c : Dev nD) (i n : Fin 1024) : acc O c (ix2 i n)
      = ∑ g : Fin 8, ∑ d : Fin 128, headMean (qv O) (kv O c) (vv O c) i g d
          * wv O (ix2 (⟨128 * g.val + d.val, by omega⟩ : Fin 1024) n) := by
  have hi := i.isLt
  have e : acc O c (ix2 i n) = band O c (i.val / 256) (ix2 (Fin.ofNat 256 (i.val % 256)) n) := by
    rw [ix2_eq_valueIdx, ix2_eq_valueIdx]; rfl
  have er : (Fin.ofNat 256 (i.val % 256)).val = i.val % 256 := Nat.mod_mod _ _
  rw [e]
  rcases (show i.val / 256 = 0 ∨ i.val / 256 = 1 ∨ i.val / 256 = 2 ∨ i.val / 256 = 3 by omega) with h | h | h | h <;> rw [h]
  · exact band0_val _ _ _ _ _ n i (by omega)
  · exact band1_val _ _ _ _ _ n i (by omega)
  · exact band2_val _ _ _ _ _ n i (by omega)
  · exact band3_val _ _ _ _ _ n i (by omega)

end Cert.KernelProof

end
-- ==== Proof.SumVal.lean ====
/- # The sum over the devices

The three rounds of exchange add up the partial products of all eight devices, and every device gathers the sum. -/
module

public import proofs.«01_k».proof.Proof.AccVal

@[expose] public section

set_option maxRecDepth 16384

noncomputable section

namespace Cert.KernelProof

open Cert.KernelIdeal Cert.KernelIdeal.Gen Cert.RowAlg
open Idealize.ShloMosaic Idealize.ShloMosaic.TcCoe

/-- The eight devices that three rounds of exchange reach are all the devices. -/
theorem sum_reach (f : Dev nD → EReal) (p : Fin 3) (c : Dev nD) :
    ((f c + f (pr p 0 c)) + (f (pr p 1 c) + f (pr p 0 (pr p 1 c))))
      + ((f (pr p 2 c) + f (pr p 0 (pr p 2 c))) + (f (pr p 1 (pr p 2 c)) + f (pr p 0 (pr p 1 (pr p 2 c))))) = ∑ d, f d := by
  rw [show (∑ d, f d) = f 0 + f 1 + f 2 + f 3 + f 4 + f 5 + f 6 + f 7 from Fin.sum_univ_eight f]
  revert c
  fin_cases p <;> intro c <;> fin_cases c
  · show ((f 0 + f 4) + (f 3 + f 7)) + ((f 1 + f 5) + (f 2 + f 6)) = _
    ac_rfl
  · show ((f 1 + f 5) + (f 2 + f 6)) + ((f 0 + f 4) + (f 3 + f 7)) = _
    ac_rfl
  · show ((f 2 + f 6) + (f 1 + f 5)) + ((f 3 + f 7) + (f 0 + f 4)) = _
    ac_rfl
  · show ((f 3 + f 7) + (f 0 + f 4)) + ((f 2 + f 6) + (f 1 + f 5)) = _
    ac_rfl
  · show ((f 4 + f 0) + (f 7 + f 3)) + ((f 5 + f 1) + (f 6 + f 2)) = _
    ac_rfl
  · show ((f 5 + f 1) + (f 6 + f 2)) + ((f 4 + f 0) + (f 7 + f 3)) = _
    ac_rfl
  · show ((f 6 + f 2) + (f 5 + f 1)) + ((f 7 + f 3) + (f 4 + f 0)) = _
    ac_rfl
  · show ((f 7 + f 3) + (f 4 + f 0)) + ((f 6 + f 2) + (f 5 + f 1)) = _
    ac_rfl
  · show ((f 0 + f 3) + (f 1 + f 2)) + ((f 4 + f 7) + (f 5 + f 6)) = _
    ac_rfl
  · show ((f 1 + f 2) + (f 0 + f 3)) + ((f 5 + f 6) + (f 4 + f 7)) = _
    ac_rfl
  · show ((f 2 + f 1) + (f 3 + f 0)) + ((f 6 + f 5) + (f 7 + f 4)) = _
    ac_rfl
  · show ((f 3 + f 0) + (f 2 + f 1)) + ((f 7 + f 4) + (f 6 + f 5)) = _
    ac_rfl
  · show ((f 4 + f 7) + (f 5 + f 6)) + ((f 0 + f 3) + (f 1 + f 2)) = _
    ac_rfl
  · show ((f 5 + f 6) + (f 4 + f 7)) + ((f 1 + f 2) + (f 0 + f 3)) = _
    ac_rfl
  · show ((f 6 + f 5) + (f 7 + f 4)) + ((f 2 + f 1) + (f 3 + f 0)) = _
    ac_rfl
  · show ((f 7 + f 4) + (f 6 + f 5)) + ((f 3 + f 0) + (f 2 + f 1)) = _
    ac_rfl
  · show ((f 0 + f 1) + (f 4 + f 5)) + ((f 3 + f 2) + (f 7 + f 6)) = _
    ac_rfl
  · show ((f 1 + f 0) + (f 5 + f 4)) + ((f 2 + f 3) + (f 6 + f 7)) = _
    ac_rfl
  · show ((f 2 + f 3) + (f 6 + f 7)) + ((f 1 + f 0) + (f 5 + f 4)) = _
    ac_rfl
  · show ((f 3 + f 2) + (f 7 + f 6)) + ((f 0 + f 1) + (f 4 + f 5)) = _
    ac_rfl
  · show ((f 4 + f 5) + (f 0 + f 1)) + ((f 7 + f 6) + (f 3 + f 2)) = _
    ac_rfl
  · show ((f 5 + f 4) + (f 1 + f 0)) + ((f 6 + f 7) + (f 2 + f 3)) = _
    ac_rfl
  · show ((f 6 + f 7) + (f 2 + f 3)) + ((f 5 + f 4) + (f 1 + f 0)) = _
    ac_rfl
  · show ((f 7 + f 6) + (f 3 + f 2)) + ((f 4 + f 5) + (f 0 + f 1)) = _
    ac_rfl

/-- After three rounds every device of a half holds the sum of all the devices' partial products. -/
theorem s3_val (O : Dev nD → Ops Ideal) (p : Fin 3) (c : Dev nD) (i j : ℕ) :
    s3 O p c i j = ∑ d, acc (O d) d (sq (ko p c + i) j) := by
  have h1 : ∀ c : Dev nD, s1 O p c i j = acc (O c) c (sq (ko p c + i) j) + acc (O (pr p 0 c)) (pr p 0 c) (sq (ko p c + i) j) := by
    intro c
    show acc (O c) c (sq (ko p c + i) j) + acc (O (pr p 0 c)) (pr p 0 c) (sq (so p (pr p 0 c) + i) j) = _
    rw [so_pr]
  have h2 : ∀ c : Dev nD, s2 O p c i j = s1 O p c i j + s1 O p (pr p 1 c) i j := fun _ => rfl
  have h3 : s3 O p c i j = s2 O p c i j + s2 O p (pr p 2 c) i j := rfl
  rw [h3, h2, h2, h1, h1, h1, h1, ko_pr p 1 (by decide), ko_pr p 1 (by decide), ko_pr p 2 (by decide)]
  exact sum_reach (fun d => acc (O d) d (sq (ko p c + i) j)) p c

/-- The gathered rows are the sum over the devices of the partial products, on every device. -/
theorem AG_val (O : Dev nD → Ops Ideal) (c : Dev nD) (i n : Fin 1024) :
    AG O c (ix2 i n) = ∑ d, acc (O d) d (ix2 i n) := by
  have hi := i.isLt
  have esq : ∀ a : ℕ, a = i.val → sq a n.val = ix2 i n := by
    intro a ha
    subst ha
    rw [ix2_eq_valueIdx]
    show ValueIdx.ix2 (Fin.ofNat 1024 i.val) (Fin.ofNat 1024 n.val) = ValueIdx.ix2 i n
    rw [show Fin.ofNat 1024 i.val = i from Fin.ext (Nat.mod_eq_of_lt i.isLt),
      show Fin.ofNat 1024 n.val = n from Fin.ext (Nat.mod_eq_of_lt n.isLt)]
  have e : AG O c (ix2 i n) = if ko (part i.val) c ≤ i.val ∧ i.val < ko (part i.val) c + hp (part i.val) then
        s3 O (part i.val) c (i.val - ko (part i.val) c) n.val
      else s3 O (part i.val) (pr (part i.val) 0 c) (i.val - so (part i.val) c) n.val := rfl
  rw [e]
  split
  · rename_i h
    rw [s3_val]
    refine Finset.sum_congr rfl fun d _ => congrArg (acc (O d) d) (esq _ ?_)
    omega
  · rename_i h
    rw [s3_val, ko_pr0]
    refine Finset.sum_congr rfl fun d _ => congrArg (acc (O d) d) (esq _ ?_)
    have hr : po (part i.val) ≤ i.val ∧ i.val < po (part i.val) + 2 * hp (part i.val) := by
      unfold part
      split
      · simp only [po, hp]; omega
      · split
        · simp only [po, hp]; omega
        · simp only [po, hp]; omega
    have hk : ∀ (p : Fin 3) (c : Dev nD), (ko p c = po p ∧ so p c = po p + hp p) ∨ (ko p c = po p + hp p ∧ so p c = po p) := by
      decide
    rcases hk (part i.val) c with hk | hk <;> omega

/-- The result on device `c` at an index. -/
theorem OUT_val (O : Dev nD → Ops Ideal) (c : Dev nD) (i n : Fin 1024) :
    OUT O c (ix3 (0 : Fin 1) i n) = ∑ d, acc (O d) d (ix2 i n) := by
  unfold OUT
  pointwise [k0_pay81, k0_pay80]
  exact AG_val O c i n

end Cert.KernelProof

end
-- ==== Proof.Spec.lean ====
/- # What both programs return

The attention of every query over the keys near it, head by head, times the output weights, over the extended reals. -/
module

public import proofs.«01_k».proof.Proof.RowAlg

@[expose] public section

noncomputable section

namespace Cert.Spec

open Idealize.ShloMosaic Cert.RowAlg

/-- The scale of the scores, a power-of-two fraction near one over the square root of 128. -/
def cs : EReal := Ideal.ofBits .f32 0x3DB504F3#32

/-- The scale is a real number, at least zero. -/
theorem cs_real : ∃ r : ℝ, 0 ≤ r ∧ cs = (r : EReal) := by
  refine ⟨_, ?_, rfl⟩
  simp [Ideal.ieee]

/-- The word of minus infinity is minus infinity. -/
theorem negInf : Ideal.ofBits .f32 0xFF800000#32 = (⊥ : EReal) := by
  simp [Ideal.ofBits, Ideal.ieee]

/-- The score of key `j` for query `i` in head `g`: the query's row of the projected hidden states times the key, scaled. -/
def score (X : Fin 1024 → Fin 1024 → EReal) (Wq : Fin 1024 → Fin 8192 → EReal) (K : Fin 1024 → Fin 64 → Fin 128 → EReal)
    (i : Fin 1024) (g : Fin 64) (j : Fin 1024) : EReal :=
  (∑ e : Fin 128, (∑ a : Fin 1024, X i a * Wq a ⟨128 * g.val + e.val, by omega⟩) * K j g e) * cs

/-- The result at query `i` and column `n`. -/
def out (X : Fin 1024 → Fin 1024 → EReal) (Wq : Fin 1024 → Fin 8192 → EReal) (K V : Fin 1024 → Fin 64 → Fin 128 → EReal)
    (Wo : Fin 8192 → Fin 1024 → EReal) (i n : Fin 1024) : EReal :=
  ∑ g : Fin 64, ∑ d : Fin 128,
    mean (fun j : Fin 1024 => i.val ≤ j.val + 128 ∧ j.val ≤ i.val + 128) (score X Wq K i g) (fun j => V j g d)
      * Wo ⟨128 * g.val + d.val, by omega⟩ n

/-- The scores of real inputs are real. -/
theorem score_real (X : Fin 1024 → Fin 1024 → EReal) (Wq : Fin 1024 → Fin 8192 → EReal)
    (K : Fin 1024 → Fin 64 → Fin 128 → EReal) (hX : ∀ i a, IsR (X i a)) (hWq : ∀ a t, IsR (Wq a t))
    (hK : ∀ j g e, IsR (K j g e)) (i : Fin 1024) (g : Fin 64) (j : Fin 1024) : IsR (score X Wq K i g j) := by
  obtain ⟨r, _, hr⟩ := cs_real
  exact (IsR.sum _ _ fun e => (IsR.sum _ _ fun a => (hX i a).mul (hWq a _)).mul (hK j g e)).mul ⟨r, hr⟩

/-- Scaling the projected hidden states first gives the same scores. -/
theorem score_scaled (X : Fin 1024 → Fin 1024 → EReal) (Wq : Fin 1024 → Fin 8192 → EReal)
    (K : Fin 1024 → Fin 64 → Fin 128 → EReal) (i : Fin 1024) (g : Fin 64) (j : Fin 1024) :
    ∑ e : Fin 128, ((∑ a : Fin 1024, X i a * Wq a ⟨128 * g.val + e.val, by omega⟩) * cs) * K j g e = score X Wq K i g j := by
  obtain ⟨r, h0, hr⟩ := cs_real
  unfold score
  rw [hr, sum_mul_real _ _ r h0]
  exact Finset.sum_congr rfl fun e _ => by rw [mul_assoc, mul_assoc, mul_comm (r : EReal)]

end Cert.Spec

end
-- ==== Proof.KernelVal.lean ====
/- # What the kernel returns at an index

Over the extended reals: on every device, the attention over all heads times the output weights, in terms of the whole
arrays of which the devices hold blocks. -/
module

public import proofs.«01_k».proof.Proof.SumVal
public import proofs.«01_k».proof.Proof.Spec

@[expose] public section

set_option maxRecDepth 16384

noncomputable section

namespace Cert.KernelProof

open Cert.KernelIdeal Cert.KernelIdeal.Gen Cert.RowAlg
open Idealize.ShloMosaic Idealize.ShloMosaic.TcCoe

/-- A device's scaled queries at an index. -/
theorem qv_apply (O : Ops Ideal) (i t : Fin 1024) :
    qv O (ix2 i t) = (∑ a : Fin 1024, O.x (ix3 (0 : Fin 1) i a) * O.wq (ix2 a t)) * Spec.cs := by
  pointwise [qv, k0_pay1]
  rfl

/-- A device's output weights at an index: rounding is the identity. -/
theorem wv_apply (O : Ops Ideal) (t n : Fin 1024) : wv O (ix2 t n) = O.wo (ix2 t n) := by
  pointwise [wv, k0_pay2]

/-- Head g of device c is head 8 c + g of all the heads. -/
theorem hd_apply (c : Dev nD) (f : FVec Ideal S1x1024x64x128 .f32) (g : Fin 8) (j : Fin 1024) (e : Fin 128) (h : 8 * c.val + g.val < 64) :
    hd c f (ix3 g j e) = f (ix4 (0 : Fin 1) j ⟨8 * c.val + g.val, h⟩ e) := by
  rw [ix3_eq_valueIdx, ix4_eq_valueIdx]
  show f (ValueIdx.ix4 (0 : Fin 1) j (Fin.ofNat 64 (8 * c.val + g.val)) e) = _
  rw [show Fin.ofNat 64 (8 * c.val + g.val) = ⟨8 * c.val + g.val, h⟩ from Fin.ext (Nat.mod_eq_of_lt h)]

/-- A device's keys at an index. -/
theorem kv_apply (O : Ops Ideal) (c : Dev nD) (g : Fin 8) (j : Fin 1024) (e : Fin 128) (h : 8 * c.val + g.val < 64) :
    kv O c (ix3 g j e) = O.k (ix4 (0 : Fin 1) j ⟨8 * c.val + g.val, h⟩ e) := by
  pointwise [kv, k0_pay3]
  exact hd_apply c _ g j e h

/-- A device's values at an index. -/
theorem vv_apply (O : Ops Ideal) (c : Dev nD) (g : Fin 8) (j : Fin 1024) (e : Fin 128) (h : 8 * c.val + g.val < 64) :
    vv O c (ix3 g j e) = O.v (ix4 (0 : Fin 1) j ⟨8 * c.val + g.val, h⟩ e) := by
  pointwise [vv, k0_pay4]
  exact hd_apply c _ g j e h

/-- The kernel's result on device `c` at an index. -/
theorem kernel_val (O : Dev nD → Ops Ideal) (X : FVec Ideal S1x1024x1024 .f32) (Wq : (⟨2, ![1024, 8192]⟩ : Shape).Idx → EReal)
    (K V : FVec Ideal S1x1024x64x128 .f32) (Wo : (⟨2, ![8192, 1024]⟩ : Shape).Idx → EReal)
    (hx : ∀ c, (O c).x = X)
    (hwq : ∀ (c : Dev nD) (a t : Fin 1024), (O c).wq (ix2 a t) = Wq (ix2 a (⟨1024 * c.val + t.val, by have : c.val < 8 := c.isLt; omega⟩ : Fin 8192)))
    (hk : ∀ c, (O c).k = K) (hv : ∀ c, (O c).v = V)
    (hwo : ∀ (c : Dev nD) (t n : Fin 1024), (O c).wo (ix2 t n) = Wo (ix2 (⟨1024 * c.val + t.val, by have : c.val < 8 := c.isLt; omega⟩ : Fin 8192) n))
    (c : Dev nD) (i n : Fin 1024) :
    OUT O c (ix3 (0 : Fin 1) i n)
      = Spec.out (fun a b => X (ix3 (0 : Fin 1) a b)) (fun a b => Wq (ix2 a b)) (fun a b c => K (ix4 (0 : Fin 1) a b c))
          (fun a b c => V (ix4 (0 : Fin 1) a b c)) (fun a b => Wo (ix2 a b)) i n := by
  rw [OUT_val]
  unfold Spec.out
  rw [sum_split (a := 8) (b := 8) 64 rfl]
  refine Finset.sum_congr rfl fun d _ => ?_
  have hd : d.val < 8 := d.isLt
  rw [acc_val]
  refine Finset.sum_congr rfl fun g _ => Finset.sum_congr rfl fun e _ => ?_
  rw [wv_apply, hwo]
  congr 1
  · unfold headMean
    have eS : (fun j : Fin 1024 => ∑ e : Fin 128,
          qv (O d) (ix2 i (⟨128 * g.val + e.val, by omega⟩ : Fin 1024)) * kv (O d) d (ix3 g j e))
        = Spec.score (fun a b => X (ix3 (0 : Fin 1) a b)) (fun a b => Wq (ix2 a b)) (fun a b c => K (ix4 (0 : Fin 1) a b c)) i
            (⟨8 * d.val + g.val, by omega⟩ : Fin 64) := by
      funext j
      rw [← Spec.score_scaled]
      refine Finset.sum_congr rfl fun e _ => ?_
      rw [qv_apply, kv_apply _ _ _ _ _ (by omega), hx, hk]
      congr 2
      refine Finset.sum_congr rfl fun a _ => ?_
      rw [hwq]
      congr 2
      exact congrArg (ix2 a) (Fin.ext (by simp only; omega))
    have eV : (fun j : Fin 1024 => vv (O d) d (ix3 g j e))
        = fun j => V (ix4 (0 : Fin 1) j (⟨8 * d.val + g.val, by omega⟩ : Fin 64) e) := by
      funext j
      rw [vv_apply _ _ _ _ _ (by omega), hv]
    rw [eS, eV]
  · exact congrArg (fun t => Wo (ix2 t n)) (Fin.ext (by simp only; omega))

end Cert.KernelProof

end
-- ==== Proof.RefVal.lean ====
/- # What the reference returns at an index

The reference stage by stage: the mask, the masked scores, their exponentials, the weights and the result; then each at an
index over the extended reals, on finite hidden states, query weights and keys. -/
module

public import proofs.«01_k».proof.Proof.Gen.ReferenceIdeal.Run
public import proofs.«01_k».proof.Proof.HeadVal
public import proofs.«01_k».proof.Proof.Spec
public import Idealize.ShloMosaic.Lib.Routing.OpsOrder

@[expose] public section

set_option maxRecDepth 16384

noncomputable section

namespace Cert.RefValue

open Cert.ReferenceIdeal Cert.ReferenceIdeal.Gen Cert.ReferenceIdeal.Value Cert.RowAlg
open Idealize.ShloMosaic Idealize.ShloMosaic.TcCoe

/-- Which keys are near which queries. -/
def maskR : IVec S1024x1024 1 :=
  cmpi .sle
    (absi (subi
      (broadcastInDim S1024x1024 ![0, 1] bcast_S1024x1_S1024x1024_0_1
        (broadcastInDim S1024x1 ![0] bcast_S1024_S1024x1_0 (iotaInDim S1024 32 0)))
      (broadcastInDim S1024x1024 ![0, 1] bcast_S1x1024_S1024x1024_0_1
        (broadcastInDim S1x1024 ![1] bcast_S1024_S1x1024_1 (iotaInDim S1024 32 0)))))
    (broadcastInDim S1024x1024 ![] bcast_S_S1024x1024 (constantI S_ 32 128#32))

/-- Which queries have a key near them. -/
def keepR : IVec S1024 1 :=
  Host.reduce IntOp.ori maskR (constantI S_ 1 0#1) reducesTo_S1024x1024_S1024_d1 h_S_

/-- The scores, minus infinity outside the mask. -/
def scoresR (X : FVec Ideal S1x1024x1024 .f32) (Wq : FVec Ideal S1024x8192 .f32) (K : FVec Ideal S1x1024x64x128 .f32) :
    FVec Ideal S1x64x1024x1024 .f32 :=
  select
    (broadcastInDim S1x64x1024x1024 ![0, 1, 2, 3] bcast_S1x1x1024x1024_S1x64x1024x1024_0_1_2_3
      (broadcastInDim S1x1x1024x1024 ![2, 3] bcast_S1024x1024_S1x1x1024x1024_2_3 maskR))
    (mulf
      (Host.dotGeneral dot_S1x1024x64x128_S1x1024x64x128_S1x64x1024x1024_3_3_1_1_02_02 none
        (shapeCast _ (Host.dotGeneral dot_S1x1024x1024_S1024x8192_S1x1024x8192_2_0_01_1_n_n none X Wq)
          shapeCasts_S1x1024x8192_S1x1024x64x128) K)
      (broadcastInDim S1x64x1024x1024 ![] bcast_S_S1x64x1024x1024 (constant S_ .f32 0x3DB504F3#32)))
    (broadcastInDim S1x64x1024x1024 ![] bcast_S_S1x64x1024x1024 (id (constant S_ .f32 0xFF800000#32)))

/-- The exponentials of masked scores less their row's maximum. -/
def expR (s : FVec Ideal S1x64x1024x1024 .f32) : FVec Ideal S1x64x1024x1024 .f32 :=
  Host.exp (subf s
    (broadcastInDim S1x64x1024x1024 ![0, 1, 2, 3] bcast_S1x64x1024x1_S1x64x1024x1024_0_1_2_3
      (broadcastInDim S1x64x1024x1 ![0, 1, 2] bcast_S1x64x1024_S1x64x1024x1_0_1_2
        (Host.reduce FloatOps.maximumf s (constant S_ .f32 0xFF800000#32) reducesTo_S1x64x1024x1024_S1x64x1024_d3 h_S_))))

/-- The weights: the exponentials over their row's sum. -/
def weightsR (w : FVec Ideal S1x64x1024x1024 .f32) : FVec Ideal S1x64x1024x1024 .f32 :=
  select
    (broadcastInDim S1x64x1024x1024 ![0, 1, 2, 3] bcast_S1x1x1024x1_S1x64x1024x1024_0_1_2_3
      (broadcastInDim S1x1x1024x1 ![2] bcast_S1024_S1x1x1024x1_2 keepR))
    (Host.divf w
      (broadcastInDim S1x64x1024x1024 ![0, 1, 2, 3] bcast_S1x64x1024x1_S1x64x1024x1024_0_1_2_3
        (select
          (broadcastInDim S1x64x1024x1 ![0, 1, 2, 3] bcast_S1x1x1024x1_S1x64x1024x1_0_1_2_3
            (broadcastInDim S1x1x1024x1 ![2] bcast_S1024_S1x1x1024x1_2 keepR))
          (broadcastInDim S1x64x1024x1 ![0, 1, 2] bcast_S1x64x1024_S1x64x1024x1_0_1_2
            (Host.reduceAdd w (constant S_ .f32 0x00000000#32) reducesTo_S1x64x1024x1024_S1x64x1024_d3 h_S_))
          (broadcastInDim S1x64x1024x1 ![] bcast_S_S1x64x1024x1 (id (constant S_ .f32 0x3F800000#32))))))
    (broadcastInDim S1x64x1024x1024 ![] bcast_S_S1x64x1024x1024 (id (constant S_ .f32 0x00000000#32)))

/-- The result: the weights times the values, times the output weights. -/
def resR (w : FVec Ideal S1x64x1024x1024 .f32) (V : FVec Ideal S1x1024x64x128 .f32) (Wo : FVec Ideal S8192x1024 .f32) :
    FVec Ideal S1x1024x1024 .f32 :=
  Host.dotGeneral dot_S1x1024x8192_S8192x1024_S1x1024x1024_2_0_01_1_n_n none
    (shapeCast _ (transpose S1x1024x64x128 [0, 3, 1, 2]
        (Host.dotGeneral dot_S1x1024x64x128_S1x64x1024x1024_S1x64x128x1024_1_3_3_2_02_01 none V w)
        transposes_S1x64x128x1024_S1x1024x64x128_0_3_1_2)
      shapeCasts_S1x1024x64x128_S1x1024x8192) Wo

set_option maxHeartbeats 1000000 in
/-- The reference returns the last stage. -/
theorem res_eq (m : (ℓ : Loc nD τ sig) → Buf (Elt Ideal) ℓ) :
    res_main_v34 m 0 = resR (weightsR (expR (scoresR (m ((Dev.tc 0).loc main_arg0)) (m ((Dev.tc 0).loc main_arg1))
      (m ((Dev.tc 0).loc main_arg2))))) (m ((Dev.tc 0).loc main_arg3)) (m ((Dev.tc 0).loc main_arg4)) := rfl

/-- A choice by a bit that says whether a proposition holds. -/
theorem select_bit {α : Type} (p : Prop) [Decidable p] (a b : α) :
    Scalar.select (if p then 1#1 else 0#1) a b = if p then a else b := by
  unfold Scalar.select
  by_cases h : p
  · rw [if_pos h, if_pos h]; rfl
  · rw [if_neg h, if_neg h]; rfl

/-- The reference's mask: set where the key is at most 128 away. -/
theorem maskR_apply (i j : Fin 1024) : maskR (ix2 i j) = if KernelProof.inb i.val j.val then 1#1 else 0#1 := by
  pointwise [maskR]
  exact KernelProof.mask_word i.val j.val (by omega) (by omega)

/-- Every row has a key in its window. -/
theorem keepR_apply (i : Fin 1024) : keepR (ix1 i) = 1#1 := by
  pointwise [keepR]
  rw [Routing.fold_ori]
  exact ⟨i, Finset.mem_univ i, (maskR_apply i i).trans (if_pos (by unfold KernelProof.inb; omega))⟩

/-- The reference's masked scores: the score in the window, minus infinity outside. -/
theorem scoresR_apply (X : FVec Ideal S1x1024x1024 .f32) (Wq : FVec Ideal S1024x8192 .f32)
    (K : FVec Ideal S1x1024x64x128 .f32) (g : Fin 64) (i j : Fin 1024) :
    scoresR X Wq K (ix4 (0 : Fin 1) g i j) = sc (fun j : Fin 1024 => i.val ≤ j.val + 128 ∧ j.val ≤ i.val + 128)
      (Spec.score (fun a b => X (ix3 (0 : Fin 1) a b)) (fun a b => Wq (ix2 a b)) (fun a b c => K (ix4 (0 : Fin 1) a b c)) i g) j := by
  pointwise [scoresR]
  rw [maskR_apply, select_bit]
  have he : ∀ (e : Fin 128) h, (⟨g.val * 128 + e.val, h⟩ : Fin 8192) = ⟨128 * g.val + e.val, by omega⟩ :=
    fun e h => Fin.ext (by simp only; omega)
  simp only [he]
  unfold sc
  by_cases hb : KernelProof.inb i.val j.val
  · rw [if_pos hb, if_pos hb]; rfl
  · rw [if_neg hb, if_neg hb]; exact Spec.negInf

/-- The exponential of a score less its row's maximum. -/
theorem expR_apply (s : FVec Ideal S1x64x1024x1024 .f32) (g : Fin 64) (i j : Fin 1024) :
    expR s (ix4 (0 : Fin 1) g i j) = Ideal.exp (s (ix4 (0 : Fin 1) g i j)
      - Finset.fold max ⊥ (fun l : Fin 1024 => s (ix4 (0 : Fin 1) g i l)) Finset.univ) := by
  pointwise [expR]
  rw [Spec.negInf]

/-- A weight: the exponential over the sum of its row's. -/
theorem weightsR_apply (w : FVec Ideal S1x64x1024x1024 .f32) (g : Fin 64) (i j : Fin 1024) :
    weightsR w (ix4 (0 : Fin 1) g i j) = Ideal.div (w (ix4 (0 : Fin 1) g i j)) (∑ l : Fin 1024, w (ix4 (0 : Fin 1) g i l)) := by
  pointwise [weightsR]
  rw [keepR_apply]
  rfl

/-- The result: the weighted values of every head, times the output weights. -/
theorem resR_apply (w : FVec Ideal S1x64x1024x1024 .f32) (V : FVec Ideal S1x1024x64x128 .f32) (Wo : FVec Ideal S8192x1024 .f32)
    (i n : Fin 1024) : resR w V Wo (ix3 (0 : Fin 1) i n) = ∑ g : Fin 64, ∑ d : Fin 128,
      (∑ j : Fin 1024, V (ix4 (0 : Fin 1) j g d) * w (ix4 (0 : Fin 1) g i j)) * Wo (ix2 (⟨128 * g.val + d.val, by omega⟩ : Fin 8192) n) := by
  pointwise [resR]
  rw [KernelProof.sum_split (a := 64) (b := 128) 8192 rfl]
  refine Finset.sum_congr rfl fun g _ => Finset.sum_congr rfl fun d _ => ?_
  have hg : ∀ h, (⟨(128 * g.val + d.val) / 128, h⟩ : Fin 64) = g := fun h => Fin.ext (by simp only; omega)
  have hd : ∀ h, (⟨(128 * g.val + d.val) % 128, h⟩ : Fin 128) = d := fun h => Fin.ext (by simp only; omega)
  simp only [hg, hd]

/-- The reference's stages together are the attention that both programs compute. -/
theorem stages_val (X : FVec Ideal S1x1024x1024 .f32) (Wq : FVec Ideal S1024x8192 .f32) (K V : FVec Ideal S1x1024x64x128 .f32)
    (Wo : FVec Ideal S8192x1024 .f32) (hX : ∀ i, IsR (X i)) (hWq : ∀ i, IsR (Wq i)) (hK : ∀ i, IsR (K i)) (i n : Fin 1024) :
    resR (weightsR (expR (scoresR X Wq K))) V Wo (ix3 (0 : Fin 1) i n)
      = Spec.out (fun a b => X (ix3 (0 : Fin 1) a b)) (fun a b => Wq (ix2 a b)) (fun a b c => K (ix4 (0 : Fin 1) a b c))
          (fun a b c => V (ix4 (0 : Fin 1) a b c)) (fun a b => Wo (ix2 a b)) i n := by
  rw [resR_apply]
  unfold Spec.out
  refine Finset.sum_congr rfl fun g _ => Finset.sum_congr rfl fun d _ => congrArg (· * _) ?_
  have hS := fun j => Spec.score_real (fun a b => X (ix3 (0 : Fin 1) a b)) (fun a b => Wq (ix2 a b))
    (fun a b c => K (ix4 (0 : Fin 1) a b c)) (fun _ _ => hX _) (fun _ _ => hWq _) (fun _ _ _ => hK _) i g j
  have hP : ∃ j : Fin 1024, i.val ≤ j.val + 128 ∧ j.val ≤ i.val + 128 := ⟨i, by omega⟩
  rw [mean_eq (fun j : Fin 1024 => i.val ≤ j.val + 128 ∧ j.val ≤ i.val + 128) _ _ hS hP _
    (fold_max_real (fun j : Fin 1024 => i.val ≤ j.val + 128 ∧ j.val ≤ i.val + 128) _ hS hP)]
  simp only [weightsR_apply, expR_apply, scoresR_apply]

end Cert.RefValue

end
-- ==== Proof.Finite.lean ====
/- # What the precondition says

That the hidden states, the query weights and the keys are real numbers. -/
module

public import proofs.«01_k».proof.Defs
public import proofs.«01_k».proof.Proof.RowAlg
public import Idealize.ShloMosaic.Lib.Pointwise
public import Idealize.ShloMosaic.Lib.ReduceAll

@[expose] public section

set_option maxRecDepth 16384

noncomputable section

namespace Cert.Finite

open Idealize.ShloMosaic Cert.RowAlg

/-- An array without sides has one index. -/
instance sub0 : Subsingleton Pre_finite_inputs_KernelIdeal.S_.Idx := ⟨fun a b => funext fun i => i.elim0⟩

/-- The side conditions that the precondition states, at one device's shapes. -/
instance factsK : Cert.Pre_finite_inputs_KernelIdeal.Facts :=
  ⟨by decide, by decide, by decide, by decide, by decide, by decide, by decide⟩
/-- The side conditions that the precondition states, at the whole arrays' shapes. -/
instance factsR : Cert.Pre_finite_inputs_ReferenceIdeal.Facts :=
  ⟨by decide, by decide, by decide, by decide, by decide, by decide, by decide⟩

/-- The word of infinity is plus infinity. -/
theorem posInf : Ideal.ofBits .f32 0x7F800000#32 = (⊤ : EReal) := by
  simp [Ideal.ofBits, Ideal.ieee]

/-- A comparison that finds an absolute value below infinity has compared a real number's. -/
theorem real_of_lt (x : EReal) (h : Ideal.cmp .olt (max x (-x)) (Ideal.ofBits .f32 0x7F800000#32) = 1#1) : IsR x := by
  rw [posInf] at h
  have hl : max x (-x) < ⊤ := by
    by_contra hc
    have : Ideal.cmp .olt (max x (-x)) ⊤ = 0#1 := by
      simp [Ideal.cmp, hc]
    rw [this] at h
    exact absurd h (by decide)
  have h1 : x ≠ ⊤ := fun e => by rw [e] at hl; simp at hl
  have h2 : x ≠ ⊥ := fun e => by rw [e] at hl; simp at hl
  exact ⟨x.toReal, (EReal.coe_toReal h1 h2).symm⟩

/-- The precondition of a device's blocks. -/
theorem pre_real (x : FVec Ideal Pre_finite_inputs_KernelIdeal.S1x1024x1024 .f32)
    (wq : FVec Ideal Pre_finite_inputs_KernelIdeal.S1024x1024 .f32)
    (k v : FVec Ideal Pre_finite_inputs_KernelIdeal.S1x1024x64x128 .f32) (wo : FVec Ideal Pre_finite_inputs_KernelIdeal.S1024x1024 .f32)
    (h : Pre_finite_inputs_KernelIdeal.fn x wq k v wo ix0 = 1#1) :
    (∀ i, IsR (x i)) ∧ (∀ i, IsR (wq i)) ∧ (∀ i, IsR (k i)) := by
  unfold Pre_finite_inputs_KernelIdeal.fn at h
  dsimp only at h
  rw [andi_apply, andi_apply] at h
  obtain ⟨h, h3⟩ := IntOp.andi_eq_one.1 h
  obtain ⟨h1, h2⟩ := IntOp.andi_eq_one.1 h
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Cert.Finite

end
-- ==== Proof.Value.lean ====
/- # The value claim

Over the extended reals the kernel's result on every device is the reference's, whenever the activations, the query weights
and the keys are finite. -/
module

public import proofs.«01_k».proof.Proof.KernelVal
public import proofs.«01_k».proof.Proof.RefVal
public import proofs.«01_k».proof.Proof.Finite
public import proofs.«01_k».proof.Proof.Frames
public import proofs.«01_k».proof.Defs

@[expose] public section

noncomputable section

namespace Cert.KernelProof

open Cert.KernelIdeal Cert.KernelIdeal.Gen Cert.RowAlg
open Idealize.ShloMosaic Idealize.ShloMosaic.TcCoe
open Idealize.SL.Sem
open Idealize.ShloMosaic.Pipeline (Dat Cfg Window)

section Windows

variable {F : FTy → Type} [FloatOps F] [Named F]
variable (m : (ℓ : Loc nD τ sig) → Buf (Elt F) ℓ) (ρ : Dev nD → PrngReg)

/-- A device's operands are its argument arrays: every window is a whole array, so reading it reads the array. -/
theorem OO_x (c : Dev nD) : (OO m c).x = m ((c : Thread nD τ).loc main_arg0) := by
  have hz : (fun a => (win0_0.index (0 : Fin 1)) a * main_arg0.ty.shape.size a) = fun _ => 0 :=
    funext fun a => by fin_cases a <;> decide
  have hr := fun f => Memref.read_access_unit_zero (Elt F) main_arg0 hz (fun a => by fin_cases a <;> decide) f
  exact hr (m ((c : Thread nD τ).loc main_arg0))

/-- The query weights: the window is the whole array. -/
theorem OO_wq (c : Dev nD) : (OO m c).wq = m ((c : Thread nD τ).loc main_arg1) := by
  have hz : (fun a => (win0_1.index (0 : Fin 1)) a * main_arg1.ty.shape.size a) = fun _ => 0 :=
    funext fun a => by fin_cases a <;> decide
  have hr := fun f => Memref.read_access_unit_zero (Elt F) main_arg1 hz (fun a => by fin_cases a <;> decide) f
  exact hr (m ((c : Thread nD τ).loc main_arg1))

/-- The output weights: the window is the whole array. -/
theorem OO_wo (c : Dev nD) : (OO m c).wo = m ((c : Thread nD τ).loc main_arg4) := by
  have hz : (fun a => (win0_2.index (0 : Fin 1)) a * main_arg4.ty.shape.size a) = fun _ => 0 :=
    funext fun a => by fin_cases a <;> decide
  have hr := fun f => Memref.read_access_unit_zero (Elt F) main_arg4 hz (fun a => by fin_cases a <;> decide) f
  exact hr (m ((c : Thread nD τ).loc main_arg4))

/-- A device's result array ends holding what the body computed. -/
theorem final_o (c : Dev nD) : finalA m ρ c 3 = OUT (OO m) c := by
  have h : (win0_3.blk (0 : Fin 1)).view.read (Elt F) (finalA m ρ c 3) = OUT (OO m) c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [← h]
  exact (Memref.read_access_unit_zero (Elt F) main_v1 (show (fun a => (win0_3.index (0 : Fin 1)) a * main_v1.ty.shape.size a) = fun _ => 0 from
    funext fun a => by fin_cases a <;> decide) (fun a => by fin_cases a <;> decide) _).symm

end Windows

/-- A column block's element is the whole array's. -/
theorem block_cols (W : (⟨2, ![1024, 8192]⟩ : Shape).Idx → EReal) (c : Fin 8) (a t : Fin 1024) :
    (Layout.block ⟨2, ![1024, 1024]⟩ ⟨2, ![1024, 8192]⟩ 1 8 c W : (⟨2, ![1024, 1024]⟩ : Shape).Idx → EReal) (ix2 a t)
      = W (ix2 a (⟨1024 * c.val + t.val, by omega⟩ : Fin 8192)) := by
  rw [Layout.block_apply]
  refine congrArg W (funext fun d => Fin.ext ?_)
  fin_cases d
  · rfl
  · show c.val * 1024 + t.val = 1024 * c.val + t.val
    omega

/-- A row block's element is the whole array's. -/
theorem block_rows (W : (⟨2, ![8192, 1024]⟩ : Shape).Idx → EReal) (c : Fin 8) (t n : Fin 1024) :
    (Layout.block ⟨2, ![1024, 1024]⟩ ⟨2, ![8192, 1024]⟩ 0 8 c W : (⟨2, ![1024, 1024]⟩ : Shape).Idx → EReal) (ix2 t n)
      = W (ix2 (⟨1024 * c.val + t.val, by omega⟩ : Fin 8192) n) := by
  rw [Layout.block_apply]
  refine congrArg W (funext fun d => Fin.ext ?_)
  fin_cases d
  · show c.val * 1024 + t.val = 1024 * c.val + t.val
    omega
  · rfl

/-- An array of columns all of whose blocks are real is real. -/
theorem real_of_blocks (W : (⟨2, ![1024, 8192]⟩ : Shape).Idx → EReal)
    (h : ∀ (c : Fin 8) i, IsR ((Layout.block ⟨2, ![1024, 1024]⟩ ⟨2, ![1024, 8192]⟩ 1 8 c W : (⟨2, ![1024, 1024]⟩ : Shape).Idx → EReal) i)) (i) : IsR (W i) := by
  obtain ⟨a, t, rfl⟩ : ∃ (a : Fin 1024) (t : Fin 8192), i = ix2 a t := ⟨_, _, eq_ix2 i⟩
  have ht := t.isLt
  have := h ⟨t.val / 1024, by omega⟩ (ix2 a (⟨t.val % 1024, by omega⟩ : Fin 1024))
  rw [block_cols] at this
  rw [show t = (⟨1024 * (t.val / 1024) + t.val % 1024, by omega⟩ : Fin 8192) from Fin.ext (by simp only; omega)]
  exact this

/-- The kernel's result and the reference's, as functions of the arrays: the same. -/
theorem same_val (O : Dev nD → Ops Ideal) (X : FVec Ideal S1x1024x1024 .f32) (Wq : FVec Ideal Cert.ReferenceIdeal.S1024x8192 .f32)
    (K V : FVec Ideal S1x1024x64x128 .f32) (Wo : FVec Ideal Cert.ReferenceIdeal.S8192x1024 .f32)
    (hx : ∀ c, (O c).x = X) (hwq : ∀ c : Dev nD, (O c).wq = Layout.block ⟨2, ![1024, 1024]⟩ ⟨2, ![1024, 8192]⟩ 1 8 c Wq)
    (hk : ∀ c, (O c).k = K) (hv : ∀ c, (O c).v = V)
    (hwo : ∀ c : Dev nD, (O c).wo = Layout.block ⟨2, ![1024, 1024]⟩ ⟨2, ![8192, 1024]⟩ 0 8 c Wo)
    (rX : ∀ i, IsR (X i)) (rW : ∀ i, IsR (Wq i)) (rK : ∀ i, IsR (K i)) (c : Dev nD) :
    OUT O c = RefValue.resR (RefValue.weightsR (RefValue.expR (RefValue.scoresR X Wq K))) V Wo := by
  funext p
  obtain ⟨z, i, n, rfl⟩ : ∃ (z : Fin 1) (i n : Fin 1024), p = ix3 z i n := ⟨_, _, _, eq_ix3 p⟩
  obtain rfl : z = 0 := Subsingleton.elim _ _
  rw [RefValue.stages_val X Wq K V Wo rX rW rK i n]
  refine kernel_val O X Wq K V Wo hx (fun c a t => ?_) hk hv (fun c t n => ?_) c i n
  · rw [hwq]; exact block_cols Wq c a t
  · rw [hwo]; exact block_rows Wo c t n

end Cert.KernelProof

namespace Cert.Proof

open Idealize.ShloMosaic Idealize.ShloMosaic.TcCoe Idealize.SL.Sem Cert.RowAlg

/-- The value claim. -/
theorem algebraic : Cert.algebraic_KernelIdeal_ReferenceIdeal_pre_finite_inputs_KernelIdeal := by
  intro m g m' g' hpre hag
  refine ⟨Cert.ReferenceIdeal.Value.res_main_v34 m' 0, ?_, ?_⟩
  · refine (θ_run Cert.KernelIdeal.defs _ _).mono (fun r h c => ⟨((h.1 c).1).trans ?_, (h.1 c).2⟩)
      (Cert.KernelProof.run_all (F := Ideal) m g)
    have hp := fun c => Cert.Finite.pre_real _ _ _ _ _ (congrFun (hpre c) ix0)
    rw [Cert.KernelProof.final_o, Cert.RefValue.res_eq]
    refine Cert.KernelProof.same_val (Cert.KernelProof.OO m) _ _ _ _ _
      (fun c => (Cert.KernelProof.OO_x m c).trans (hag c).1)
      (fun c => (Cert.KernelProof.OO_wq m c).trans (hag c).2.1)
      (fun c => (hag c).2.2.1) (fun c => (hag c).2.2.2.1)
      (fun c => (Cert.KernelProof.OO_wo m c).trans (hag c).2.2.2.2) ?_ ?_ ?_ c
    · have := (hp 0).1
      rw [(hag 0).1] at this
      exact this
    · refine Cert.KernelProof.real_of_blocks _ fun c => ?_
      have := (hp c).2.1
      rw [(hag c).2.1] at this
      exact this
    · have := (hp 0).2.2
      rw [(hag 0).2.2.1] at this
      exact this
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs to its end, its arguments unchanged, its counters at zero. -/
theorem frame_k : Cert.quiescent_Kernel := fun m g _ => Cert.Same.run_kernel m g

/-- The kernel's idealization, likewise. -/
theorem frame_ki : Cert.quiescent_KernelIdeal := fun m g _ =>
  (θ_run Cert.KernelIdeal.defs _ _).mono (fun _ h => ⟨fun c => (h.1 c).2, h.2⟩) (Cert.KernelProof.run_all (F := Ideal) m g)

/-- The reference, which declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same two runs, where the arguments are finite. -/
theorem frame_ki' : Cert.quiescent_KernelIdeal_pre_finite_inputs_KernelIdeal := fun m g _ => frame_ki m g trivial

/-- The reference's run, where the arguments are finite. -/
theorem frame_r' : Cert.quiescent_ReferenceIdeal_pre_finite_inputs_ReferenceIdeal := fun m g _ => frame_r m g trivial

/-- The idealization's one rewriting: the word of -1e9 is the constant named "mask". -/
theorem mask_named : Cert.preserves_Kernel_KernelIdeal :=
  IdealRules.named_const.statement Cert.KernelIdeal.κ "mask" .f32 0xCE6E6B28#32 ⊥ rfl

/-- All the claims. -/
theorem claim : Cert.Claim := ⟨Cert.Kernel.Gen.facts, Cert.KernelIdeal.Gen.facts, Cert.ReferenceIdeal.Gen.facts,
  Cert.Finite.factsK, Cert.Finite.factsR, frame_k, frame_ki, frame_ki', frame_r, frame_r', mask_named, algebraic⟩

end Cert.Proof

end
